-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  IdealRules.named_const.Statement Cert.KernelIdeal.κ "att_scale2" .f32 0x3E16C740#32 (((Real.sqrt 96)⁻¹ * (Real.log 2)⁻¹ : ℝ) : EReal)
  ∧ IdealRules.named_const.Statement Cert.KernelIdeal.κ "att_scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v38_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "att_scale2" .f32 0x3E16C740#32 (((Real.sqrt 96)⁻¹ * (Real.log 2)⁻¹ : ℝ) : EReal)
  ∧ IdealRules.named_const.Statement Cert.Kernel2Ideal.κ "log2" .f32 0x3F317218#32 ((Real.log 2 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v33) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S8x8192x96 : Shape := ⟨3, ![8, 8192, 96]⟩
abbrev S8x8192x64 : Shape := ⟨3, ![8, 8192, 64]⟩
abbrev S_ : Shape := ⟨0, ![]⟩

class Facts : Prop where
  bcast_S_S8x8192x96 : S_.BroadcastsInDim S8x8192x96 (![] : Fin 0 → Fin S8x8192x96.rank)
  bcast_S_S8x8192x64 : S_.BroadcastsInDim S8x8192x64 (![] : Fin 0 → Fin S8x8192x64.rank)

variable [Facts]

def fn {F : FTy → Type} [FloatOps F] (main_arg0 : FVec F S8x8192x96 .f32) (main_arg1 : FVec F S8x8192x96 .f32) (main_arg2 : FVec F S8x8192x64 .f32) (main_arg3 : FVec F S8x8192x64 .f32) : IVec S8x8192x96 1 × IVec S8x8192x96 1 × IVec S8x8192x64 1 × IVec S8x8192x64 1 :=
  let main_v0 : FVec F S8x8192x96 .f32 := Host.absf main_arg0
  let main_cst : FVec F S_ .f32 := constant S_ .f32 0x7F800000#32
  let main_v1 : FVec F S8x8192x96 .f32 := broadcastInDim S8x8192x96 ![] bcast_S_S8x8192x96 main_cst
  let main_v2 : IVec S8x8192x96 1 := cmpf .olt main_v0 main_v1
  let main_v3 : FVec F S8x8192x96 .f32 := Host.absf main_arg1
  let main_cst_0 : FVec F S_ .f32 := constant S_ .f32 0x7F800000#32
  let main_v4 : FVec F S8x8192x96 .f32 := broadcastInDim S8x8192x96 ![] bcast_S_S8x8192x96 main_cst_0
  let main_v5 : IVec S8x8192x96 1 := cmpf .olt main_v3 main_v4
  let main_v6 : FVec F S8x8192x64 .f32 := Host.absf main_arg2
  let main_cst_1 : FVec F S_ .f32 := constant S_ .f32 0x7F800000#32
  let main_v7 : FVec F S8x8192x64 .f32 := broadcastInDim S8x8192x64 ![] bcast_S_S8x8192x64 main_cst_1
  let main_v8 : IVec S8x8192x64 1 := cmpf .olt main_v6 main_v7
  let main_v9 : FVec F S8x8192x64 .f32 := Host.absf main_arg3
  let main_cst_2 : FVec F S_ .f32 := constant S_ .f32 0x7F800000#32
  let main_v10 : FVec F S8x8192x64 .f32 := broadcastInDim S8x8192x64 ![] bcast_S_S8x8192x64 main_cst_2
  let main_v11 : IVec S8x8192x64 1 := cmpf .olt main_v9 main_v10
  (main_v2, main_v5, main_v8, main_v11)
-- ==== Pre_finite2.lean ====
abbrev S8x8192x96 : Shape := ⟨3, ![8, 8192, 96]⟩
abbrev S8x8192x64 : Shape := ⟨3, ![8, 8192, 64]⟩
abbrev S_ : Shape := ⟨0, ![]⟩

class Facts : Prop where
  bcast_S_S8x8192x96 : S_.BroadcastsInDim S8x8192x96 (![] : Fin 0 → Fin S8x8192x96.rank)
  bcast_S_S8x8192x64 : S_.BroadcastsInDim S8x8192x64 (![] : Fin 0 → Fin S8x8192x64.rank)

variable [Facts]

def fn {F : FTy → Type} [FloatOps F] (main_arg0 : FVec F S8x8192x96 .f32) (main_arg1 : FVec F S8x8192x96 .f32) (main_arg2 : FVec F S8x8192x64 .f32) : IVec S8x8192x96 1 × IVec S8x8192x96 1 × IVec S8x8192x64 1 :=
  let main_v0 : FVec F S8x8192x96 .f32 := Host.absf main_arg0
  let main_cst : FVec F S_ .f32 := constant S_ .f32 0x7F800000#32
  let main_v1 : FVec F S8x8192x96 .f32 := broadcastInDim S8x8192x96 ![] bcast_S_S8x8192x96 main_cst
  let main_v2 : IVec S8x8192x96 1 := cmpf .olt main_v0 main_v1
  let main_v3 : FVec F S8x8192x96 .f32 := Host.absf main_arg1
  let main_cst_0 : FVec F S_ .f32 := constant S_ .f32 0x7F800000#32
  let main_v4 : FVec F S8x8192x96 .f32 := broadcastInDim S8x8192x96 ![] bcast_S_S8x8192x96 main_cst_0
  let main_v5 : IVec S8x8192x96 1 := cmpf .olt main_v3 main_v4
  let main_v6 : FVec F S8x8192x64 .f32 := Host.absf main_arg2
  let main_cst_1 : FVec F S_ .f32 := constant S_ .f32 0x7F800000#32
  let main_v7 : FVec F S8x8192x64 .f32 := broadcastInDim S8x8192x64 ![] bcast_S_S8x8192x64 main_cst_1
  let main_v8 : IVec S8x8192x64 1 := cmpf .olt main_v6 main_v7
  (main_v2, main_v5, main_v8)
-- ==== Kernel.lean ====
abbrev S8x8192x96 : Shape := ⟨3, ![8, 8192, 96]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x8192x128 : Shape := ⟨3, ![8, 8192, 128]⟩
abbrev S8x1x8192 : Shape := ⟨3, ![8, 1, 8192]⟩
abbrev S2x8192x128 : Shape := ⟨3, ![2, 8192, 128]⟩
abbrev S2x8192x64 : Shape := ⟨3, ![2, 8192, 64]⟩
abbrev S2x1x8192 : Shape := ⟨3, ![2, 1, 8192]⟩
abbrev S2x512x128 : Shape := ⟨3, ![2, 512, 128]⟩
abbrev S2x512x64 : Shape := ⟨3, ![2, 512, 64]⟩
abbrev S1x512x128 : Shape := ⟨3, ![1, 512, 128]⟩
abbrev S512x128 : Shape := ⟨2, ![512, 128]⟩
abbrev S1x512x64 : Shape := ⟨3, ![1, 512, 64]⟩
abbrev S512x64 : Shape := ⟨2, ![512, 64]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 77
  | .vmem => 20
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x8192x64, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8192, .i32⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S1x8192, .i32⟩
  | .hbm, ⟨29, _⟩ => ⟨S8192x1, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S1x8192x8192, .i1⟩
  | .hbm, ⟨34, _⟩ => ⟨S_, .f32⟩
  | .hbm, ⟨35, _⟩ => ⟨S_, .f32⟩
  | .hbm, ⟨36, _⟩ => ⟨S8x8192x8192, .i1⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S8x8192x1, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x64, .f32⟩
  | .hbm, ⟨51, _⟩ => ⟨S8x8192, .f32⟩
  | .hbm, ⟨52, _⟩ => ⟨S8x8192, .f32⟩
  | .hbm, ⟨53, _⟩ => ⟨S_, .f32⟩
  | .hbm, ⟨54, _⟩ => ⟨S_, .f32⟩
  | .hbm, ⟨55, _⟩ => ⟨S8x8192, .f32⟩
  | .hbm, ⟨56, _⟩ => ⟨S8x8192, .f32⟩
  | .hbm, ⟨57, _⟩ => ⟨S8x8192x64, .f32⟩
  | .hbm, ⟨58, _⟩ => ⟨S_, .f32⟩
  | .hbm, ⟨59, _⟩ => ⟨S8x8192, .f32⟩
  | .hbm, ⟨60, _⟩ => ⟨S_, .i32⟩
  | .hbm, ⟨61, _⟩ => ⟨S_, .f32⟩
  | .hbm, ⟨62, _⟩ => ⟨S8x8192x128, .f32⟩
  | .hbm, ⟨63, _⟩ => ⟨S8x8192x128, .bf16⟩
  | .hbm, ⟨64, _⟩ => ⟨S_, .i32⟩
  | .hbm, ⟨65, _⟩ => ⟨S_, .f32⟩
  | .hbm, ⟨66, _⟩ => ⟨S8x8192x128, .f32⟩
  | .hbm, ⟨67, _⟩ => ⟨S8x8192x128, .bf16⟩
  | .hbm, ⟨68, _⟩ => ⟨S8x8192x64, .bf16⟩
  | .hbm, ⟨69, _⟩ => ⟨S8x8192x64, .bf16⟩
  | .hbm, ⟨70, _⟩ => ⟨S8x1x8192, .f32⟩
  | .hbm, ⟨71, _⟩ => ⟨S8x1x8192, .f32⟩
  | .hbm, ⟨72, _⟩ => ⟨S8x8192x128, .f32⟩
  | .hbm, ⟨73, _⟩ => ⟨S8x8192x128, .f32⟩
  | .hbm, ⟨74, _⟩ => ⟨S8x8192x64, .f32⟩
  | .hbm, ⟨75, _⟩ => ⟨S8x8192x96, .f32⟩
  | .hbm, ⟨76, _⟩ => ⟨S8x8192x96, .f32⟩
  | .local _ .vmem, ⟨0, _⟩ => ⟨S2x8192x128, .bf16⟩
  | .local _ .vmem, ⟨1, _⟩ => ⟨S2x8192x128, .bf16⟩
  | .local _ .vmem, ⟨2, _⟩ => ⟨S2x8192x64, .bf16⟩
  | .local _ .vmem, ⟨3, _⟩ => ⟨S2x8192x64, .bf16⟩
  | .local _ .vmem, ⟨4, _⟩ => ⟨S2x1x8192, .f32⟩
  | .local _ .vmem, ⟨5, _⟩ => ⟨S2x1x8192, .f32⟩
  | .local _ .vmem, ⟨6, _⟩ => ⟨S2x1x8192, .f32⟩
  | .local _ .vmem, ⟨7, _⟩ => ⟨S2x1x8192, .f32⟩
  | .local _ .vmem, ⟨8, _⟩ => ⟨S2x512x128, .bf16⟩
  | .local _ .vmem, ⟨9, _⟩ => ⟨S2x512x128, .bf16⟩
  | .local _ .vmem, ⟨10, _⟩ => ⟨S2x512x64, .bf16⟩
  | .local _ .vmem, ⟨11, _⟩ => ⟨S2x512x64, .bf16⟩
  | .local _ .vmem, ⟨12, _⟩ => ⟨S2x8192x128, .f32⟩
  | .local _ .vmem, ⟨13, _⟩ => ⟨S2x8192x128, .f32⟩
  | .local _ .vmem, ⟨14, _⟩ => ⟨S2x512x128, .f32⟩
  | .local _ .vmem, ⟨15, _⟩ => ⟨S2x512x128, .f32⟩
  | .local _ .vmem, ⟨16, _⟩ => ⟨S2x512x64, .f32⟩
  | .local _ .vmem, ⟨17, _⟩ => ⟨S2x512x64, .f32⟩
  | .local _ .vmem, ⟨18, _⟩ => ⟨S2x512x128, .f32⟩
  | .local _ .vmem, ⟨19, _⟩ => ⟨S2x512x64, .f32⟩
  | _, _ => ⟨S8x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_3 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_4 : Ref sig .tc := ⟨.hbm, 58, rfl⟩
abbrev main_v29 : Ref sig .tc := ⟨.hbm, 59, rfl⟩
abbrev main_c_5 : Ref sig .tc := ⟨.hbm, 60, rfl⟩
abbrev main_call2_v0 : Ref sig .tc := ⟨.hbm, 61, rfl⟩
abbrev main_v30 : Ref sig .tc := ⟨.hbm, 62, rfl⟩
abbrev main_v31 : Ref sig .tc := ⟨.hbm, 63, rfl⟩
abbrev main_c_6 : Ref sig .tc := ⟨.hbm, 64, rfl⟩
abbrev main_call3_v0 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38_0 : Ref sig .tc := ⟨.hbm, 72, rfl⟩
abbrev main_v38_1 : Ref sig .tc := ⟨.hbm, 73, rfl⟩
abbrev main_v38_2 : Ref sig .tc := ⟨.hbm, 74, rfl⟩
abbrev main_v39 : Ref sig .tc := ⟨.hbm, 75, rfl⟩
abbrev main_v40 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v19 : BitVec 32 := Scalar.muli arg1 c512_i32
  v19
def k0_off1 (i : grid0.Coords) : Fin 3 → Nat :=
  let c0_18 : Index := 0#32
  let arg1 : BitVec 32 := BitVec.ofNat 32 (i 1).val
  let c512_i32 : BitVec 32 := 512#32
  let v19 : BitVec 32 := Scalar.muli arg1 c512_i32
  let v20 : BitVec 32 := v19
  let v21 : Index := Scalar.indexCast v20
  let c0_19 : Index := 0#32
  ![0, v21.toNat, 0]
def k0_off2 (i : grid0.Coords) : Fin 3 → Nat :=
  let c0_20 : Index := 0#32
  let arg1 : BitVec 32 := BitVec.ofNat 32 (i 1).val
  let c512_i32 : BitVec 32 := 512#32
  let v19 : BitVec 32 := Scalar.muli arg1 c512_i32
  let v20 : BitVec 32 := v19
  let v24 : Index := Scalar.indexCast v20
  let c0_21 : Index := 0#32
  ![0, v24.toNat, 0]
def k0_off3 (i : grid0.Coords) : Fin 3 → Nat :=
  let c0_37 : Index := 0#32
  let c0_38 : Index := 0#32
  let arg1 : BitVec 32 := BitVec.ofNat 32 (i 1).val
  let c512_i32 : BitVec 32 := 512#32
  let v19 : BitVec 32 := Scalar.muli arg1 c512_i32
  let v20 : BitVec 32 := v19
  let v83 : Index := Scalar.indexCast v20
  ![0, 0, v83.toNat]
def k0_off4 (i : grid0.Coords) : Fin 3 → Nat :=
  let c1_62 : Index := 1#32
  let arg1 : BitVec 32 := BitVec.ofNat 32 (i 1).val
  let c512_i32 : BitVec 32 := 512#32
  let v19 : BitVec 32 := Scalar.muli arg1 c512_i32
  let v20 : BitVec 32 := v19
  let v123 : Index := Scalar.indexCast v20
  let c0_63 : Index := 0#32
  ![1, v123.toNat, 0]
def k0_off5 (i : grid0.Coords) : Fin 3 → Nat :=
  let c1_64 : Index := 1#32
  let arg1 : BitVec 32 := BitVec.ofNat 32 (i 1).val
  let c512_i32 : BitVec 32 := 512#32
  let v19 : BitVec 32 := Scalar.muli arg1 c512_i32
  let v20 : BitVec 32 := v19
  let v126 : Index := Scalar.indexCast v20
  let c0_65 : Index := 0#32
  ![1, v126.toNat, 0]
def k0_off6 (i : grid0.Coords) : Fin 3 → Nat :=
  let c1_83 : Index := 1#32
  let c0_84 : Index := 0#32
  let arg1 : BitVec 32 := BitVec.ofNat 32 (i 1).val
  let c512_i32 : BitVec 32 := 512#32
  let v19 : BitVec 32 := Scalar.muli arg1 c512_i32
  let v20 : BitVec 32 := v19
  let v185 : Index := Scalar.indexCast v20
  ![1, 0, v185.toNat]
@[reducible] def k0_t1_loop (i : grid0.Coords) : Scf.Loop 32 :=
  let arg1 : BitVec 32 := BitVec.ofNat 32 (i 1).val
  let c1_i32_108 : BitVec 32 := 1#32
  let v225 : BitVec 32 := Scalar.addi arg1 c1_i32_108
  let c16_i32 : BitVec 32 := 16#32
  let v226 : BitVec 32 := Scalar.subi c16_i32 v225
  let c1_i32_110 : BitVec 32 := 1#32
  let v228 : BitVec 32 := Scalar.divsi v226 c1_i32_110
  let v229 : BitVec 32 := Scalar.muli v228 c1_i32_110
  let v230 : BitVec 32 := Scalar.addi v225 v229
  let c1_i32_111 : BitVec 32 := 1#32
  ⟨v225, v230, c1_i32_111⟩
def k0_mult2 (i : grid0.Coords) (k0_t1 : Fin (k0_t1_loop i).trips) : BitVec 32 :=
  let arg1 : BitVec 32 := BitVec.ofNat 32 (i 1).val
  let c1_i32_108 : BitVec 32 := 1#32
  let v225 : BitVec 32 := Scalar.addi arg1 c1_i32_108
  let c1_i32_111 : BitVec 32 := 1#32
  let arg13 : BitVec 32 := Scf.iv v225 c1_i32_111 k0_t1
  let c512_i32_125 : BitVec 32 := 512#32
  let v235 : BitVec 32 := Scalar.muli arg13 c512_i32_125
  v235
def k0_off7 (i : grid0.Coords) (k0_t1 : Fin (k0_t1_loop i).trips) : Fin 3 → Nat :=
  let c0_126 : Index := 0#32
  let arg1 : BitVec 32 := BitVec.ofNat 32 (i 1).val
  let c1_i32_108 : BitVec 32 := 1#32
  let v225 : BitVec 32 := Scalar.addi arg1 c1_i32_108
  let c1_i32_111 : BitVec 32 := 1#32
  let arg13 : BitVec 32 := Scf.iv v225 c1_i32_111 k0_t1
  let c512_i32_125 : BitVec 32 := 512#32
  let v235 : BitVec 32 := Scalar.muli arg13 c512_i32_125
  let v236 : BitVec 32 := v235
  let v237 : Index := Scalar.indexCast v236
  let c0_127 : Index := 0#32
  ![0, v237.toNat, 0]
def k0_off8 (i : grid0.Coords) (k0_t1 : Fin (k0_t1_loop i).trips) : Fin 3 → Nat :=
  let c0_128 : Index := 0#32
  let arg1 : BitVec 32 := BitVec.ofNat 32 (i 1).val
  let c1_i32_108 : BitVec 32 := 1#32
  let v225 : BitVec 32 := Scalar.addi arg1 c1_i32_108
  let c1_i32_111 : BitVec 32 := 1#32
  let arg13 : BitVec 32 := Scf.iv v225 c1_i32_111 k0_t1
  let c512_i32_125 : BitVec 32 := 512#32
  let v235 : BitVec 32 := Scalar.muli arg13 c512_i32_125
  let v236 : BitVec 32 := v235
  let v240 : Index := Scalar.indexCast v236
  let c0_129 : Index := 0#32
  ![0, v240.toNat, 0]
def k0_off9 (i : grid0.Coords) (k0_t1 : Fin (k0_t1_loop i).trips) : Fin 3 → Nat :=
  let c0_132 : Index := 0#32
  let c0_133 : Index := 0#32
  let arg1 : BitVec 32 := BitVec.ofNat 32 (i 1).val
  let c1_i32_108 : BitVec 32 := 1#32
  let v225 : BitVec 32 := Scalar.addi arg1 c1_i32_108
  let c1_i32_111 : BitVec 32 := 1#32
  let arg13 : BitVec 32 := Scf.iv v225 c1_i32_111 k0_t1
  let c512_i32_125 : BitVec 32 := 512#32
  let v235 : BitVec 32 := Scalar.muli arg13 c512_i32_125
  let v236 : BitVec 32 := v235
  let v246 : Index := Scalar.indexCast v236
  ![0, 0, v246.toNat]
def k0_off10 (i : grid0.Coords) (k0_t1 : Fin (k0_t1_loop i).trips) : Fin 3 → Nat :=
  let c1_157 : Index := 1#32
  let arg1 : BitVec 32 := BitVec.ofNat 32 (i 1).val
  let c1_i32_108 : BitVec 32 := 1#32
  let v225 : BitVec 32 := Scalar.addi arg1 c1_i32_108
  let c1_i32_111 : BitVec 32 := 1#32
  let arg13 : BitVec 32 := Scf.iv v225 c1_i32_111 k0_t1
  let c512_i32_125 : BitVec 32 := 512#32
  let v235 : BitVec 32 := Scalar.muli arg13 c512_i32_125
  let v236 : BitVec 32 := v235
  let v286 : Index := Scalar.indexCast v236
  let c0_158 : Index := 0#32
  ![1, v286.toNat, 0]
def k0_off11 (i : grid0.Coords) (k0_t1 : Fin (k0_t1_loop i).trips) : Fin 3 → Nat :=
  let c1_159 : Index := 1#32
  let arg1 : BitVec 32 := BitVec.ofNat 32 (i 1).val
  let c1_i32_108 : BitVec 32 := 1#32
  let v225 : BitVec 32 := Scalar.addi arg1 c1_i32_108
  let c1_i32_111 : BitVec 32 := 1#32
  let arg13 : BitVec 32 := Scf.iv v225 c1_i32_111 k0_t1
  let c512_i32_125 : BitVec 32 := 512#32
  let v235 : BitVec 32 := Scalar.muli arg13 c512_i32_125
  let v236 : BitVec 32 := v235
  let v289 : Index := Scalar.indexCast v236
  let c0_160 : Index := 0#32
  ![1, v289.toNat, 0]
def k0_off12 (i : grid0.Coords) (k0_t1 : Fin (k0_t1_loop i).trips) : Fin 3 → Nat :=
  let c1_163 : Index := 1#32
  let c0_164 : Index := 0#32
  let arg1 : BitVec 32 := BitVec.ofNat 32 (i 1).val
  let c1_i32_108 : BitVec 32 := 1#32
  let v225 : BitVec 32 := Scalar.addi arg1 c1_i32_108
  let c1_i32_111 : BitVec 32 := 1#32
  let arg13 : BitVec 32 := Scf.iv v225 c1_i32_111 k0_t1
  let c512_i32_125 : BitVec 32 := 512#32
  let v235 : BitVec 32 := Scalar.muli arg13 c512_i32_125
  let v236 : BitVec 32 := v235
  let v295 : Index := Scalar.indexCast v236
  ![1, 0, v295.toNat]
@[reducible] def k0_t2_loop (i : grid0.Coords) : Scf.Loop 32 :=
  let arg1 : BitVec 32 := BitVec.ofNat 32 (i 1).val
  let c1_i32_108 : BitVec 32 := 1#32
  let v225 : BitVec 32 := Scalar.addi arg1 c1_i32_108
  let c16_i32 : BitVec 32 := 16#32
  let v226 : BitVec 32 := Scalar.subi c16_i32 v225
  let c1_i32_110 : BitVec 32 := 1#32
  let v228 : BitVec 32 := Scalar.divsi v226 c1_i32_110
  let v229 : BitVec 32 := Scalar.muli v228 c1_i32_110
  let v230 : BitVec 32 := Scalar.addi v225 v229
  let v227 : BitVec 32 := Scalar.addi v225 v226
  let c1_i32_112 : BitVec 32 := 1#32
  ⟨v230, v227, c1_i32_112⟩
def k0_mult3 (i : grid0.Coords) (k0_t2 : Fin (k0_t2_loop i).trips) : BitVec 32 :=
  let arg1 : BitVec 32 := BitVec.ofNat 32 (i 1).val
  let c1_i32_108 : BitVec 32 := 1#32
  let v225 : BitVec 32 := Scalar.addi arg1 c1_i32_108
  let c16_i32 : BitVec 32 := 16#32
  let v226 : BitVec 32 := Scalar.subi c16_i32 v225
  let c1_i32_110 : BitVec 32 := 1#32
  let v228 : BitVec 32 := Scalar.divsi v226 c1_i32_110
  let v229 : BitVec 32 := Scalar.muli v228 c1_i32_110
  let v230 : BitVec 32 := Scalar.addi v225 v229
  let c1_i32_112 : BitVec 32 := 1#32
  let arg13 : BitVec 32 := Scf.iv v230 c1_i32_112 k0_t2
  let c512_i32_125 : BitVec 32 := 512#32
  let v235 : BitVec 32 := Scalar.muli arg13 c512_i32_125
  v235
def k0_off13 (i : grid0.Coords) (k0_t2 : Fin (k0_t2_loop i).trips) : Fin 3 → Nat :=
  let c0_126 : Index := 0#32
  let arg1 : BitVec 32 := BitVec.ofNat 32 (i 1).val
  let c1_i32_108 : BitVec 32 := 1#32
  let v225 : BitVec 32 := Scalar.addi arg1 c1_i32_108
  let c16_i32 : BitVec 32 := 16#32
  let v226 : BitVec 32 := Scalar.subi c16_i32 v225
  let c1_i32_110 : BitVec 32 := 1#32
  let v228 : BitVec 32 := Scalar.divsi v226 c1_i32_110
  let v229 : BitVec 32 := Scalar.muli v228 c1_i32_110
  let v230 : BitVec 32 := Scalar.addi v225 v229
  let c1_i32_112 : BitVec 32 := 1#32
  let arg13 : BitVec 32 := Scf.iv v230 c1_i32_112 k0_t2
  let c512_i32_125 : BitVec 32 := 512#32
  let v235 : BitVec 32 := Scalar.muli arg13 c512_i32_125
  let v236 : BitVec 32 := v235
  let v237 : Index := Scalar.indexCast v236
  let c0_127 : Index := 0#32
  ![0, v237.toNat, 0]
def k0_off14 (i : grid0.Coords) (k0_t2 : Fin (k0_t2_loop i).trips) : Fin 3 → Nat :=
  let c0_128 : Index := 0#32
  let arg1 : BitVec 32 := BitVec.ofNat 32 (i 1).val
  let c1_i32_108 : BitVec 32 := 1#32
  let v225 : BitVec 32 := Scalar.addi arg1 c1_i32_108
  let c16_i32 : BitVec 32 := 16#32
  let v226 : BitVec 32 := Scalar.subi c16_i32 v225
  let c1_i32_110 : BitVec 32 := 1#32
  let v228 : BitVec 32 := Scalar.divsi v226 c1_i32_110
  let v229 : BitVec 32 := Scalar.muli v228 c1_i32_110
  let v230 : BitVec 32 := Scalar.addi v225 v229
  let c1_i32_112 : BitVec 32 := 1#32
  let arg13 : BitVec 32 := Scf.iv v230 c1_i32_112 k0_t2
  let c512_i32_125 : BitVec 32 := 512#32
  let v235 : BitVec 32 := Scalar.muli arg13 c512_i32_125
  let v236 : BitVec 32 := v235
  let v240 : Index := Scalar.indexCast v236
  let c0_129 : Index := 0#32
  ![0, v240.toNat, 0]
def k0_off15 (i : grid0.Coords) (k0_t2 : Fin (k0_t2_loop i).trips) : Fin 3 → Nat :=
  let c0_132 : Index := 0#32
  let c0_133 : Index := 0#32
  let arg1 : BitVec 32 := BitVec.ofNat 32 (i 1).val
  let c1_i32_108 : BitVec 32 := 1#32
  let v225 : BitVec 32 := Scalar.addi arg1 c1_i32_108
  let c16_i32 : BitVec 32 := 16#32
  let v226 : BitVec 32 := Scalar.subi c16_i32 v225
  let c1_i32_110 : BitVec 32 := 1#32
  let v228 : BitVec 32 := Scalar.divsi v226 c1_i32_110
  let v229 : BitVec 32 := Scalar.muli v228 c1_i32_110
  let v230 : BitVec 32 := Scalar.addi v225 v229
  let c1_i32_112 : BitVec 32 := 1#32
  let arg13 : BitVec 32 := Scf.iv v230 c1_i32_112 k0_t2
  let c512_i32_125 : BitVec 32 := 512#32
  let v235 : BitVec 32 := Scalar.muli arg13 c512_i32_125
  let v236 : BitVec 32 := v235
  let v246 : Index := Scalar.indexCast v236
  ![0, 0, v246.toNat]
def k0_off16 (i : grid0.Coords) (k0_t2 : Fin (k0_t2_loop i).trips) : Fin 3 → Nat :=
  let c1_157 : Index := 1#32
  let arg1 : BitVec 32 := BitVec.ofNat 32 (i 1).val
  let c1_i32_108 : BitVec 32 := 1#32
  let v225 : BitVec 32 := Scalar.addi arg1 c1_i32_108
  let c16_i32 : BitVec 32 := 16#32
  let v226 : BitVec 32 := Scalar.subi c16_i32 v225
  let c1_i32_110 : BitVec 32 := 1#32
  let v228 : BitVec 32 := Scalar.divsi v226 c1_i32_110
  let v229 : BitVec 32 := Scalar.muli v228 c1_i32_110
  let v230 : BitVec 32 := Scalar.addi v225 v229
  let c1_i32_112 : BitVec 32 := 1#32
  let arg13 : BitVec 32 := Scf.iv v230 c1_i32_112 k0_t2
  let c512_i32_125 : BitVec 32 := 512#32
  let v235 : BitVec 32 := Scalar.muli arg13 c512_i32_125
  let v236 : BitVec 32 := v235
  let v286 : Index := Scalar.indexCast v236
  let c0_158 : Index := 0#32
  ![1, v286.toNat, 0]
def k0_off17 (i : grid0.Coords) (k0_t2 : Fin (k0_t2_loop i).trips) : Fin 3 → Nat :=
  let c1_159 : Index := 1#32
  let arg1 : BitVec 32 := BitVec.ofNat 32 (i 1).val
  let c1_i32_108 : BitVec 32 := 1#32
  let v225 : BitVec 32 := Scalar.addi arg1 c1_i32_108
  let c16_i32 : BitVec 32 := 16#32
  let v226 : BitVec 32 := Scalar.subi c16_i32 v225
  let c1_i32_110 : BitVec 32 := 1#32
  let v228 : BitVec 32 := Scalar.divsi v226 c1_i32_110
  let v229 : BitVec 32 := Scalar.muli v228 c1_i32_110
  let v230 : BitVec 32 := Scalar.addi v225 v229
  let c1_i32_112 : BitVec 32 := 1#32
  let arg13 : BitVec 32 := Scf.iv v230 c1_i32_112 k0_t2
  let c512_i32_125 : BitVec 32 := 512#32
  let v235 : BitVec 32 := Scalar.muli arg13 c512_i32_125
  let v236 : BitVec 32 := v235
  let v289 : Index := Scalar.indexCast v236
  let c0_160 : Index := 0#32
  ![1, v289.toNat, 0]
def k0_off18 (i : grid0.Coords) (k0_t2 : Fin (k0_t2_loop i).trips) : Fin 3 → Nat :=
  let c1_163 : Index := 1#32
  let c0_164 : Index := 0#32
  let arg1 : BitVec 32 := BitVec.ofNat 32 (i 1).val
  let c1_i32_108 : BitVec 32 := 1#32
  let v225 : BitVec 32 := Scalar.addi arg1 c1_i32_108
  let c16_i32 : BitVec 32 := 16#32
  let v226 : BitVec 32 := Scalar.subi c16_i32 v225
  let c1_i32_110 : BitVec 32 := 1#32
  let v228 : BitVec 32 := Scalar.divsi v226 c1_i32_110
  let v229 : BitVec 32 := Scalar.muli v228 c1_i32_110
  let v230 : BitVec 32 := Scalar.addi v225 v229
  let c1_i32_112 : BitVec 32 := 1#32
  let arg13 : BitVec 32 := Scf.iv v230 c1_i32_112 k0_t2
  let c512_i32_125 : BitVec 32 := 512#32
  let v235 : BitVec 32 := Scalar.muli arg13 c512_i32_125
  let v236 : BitVec 32 := v235
  let v295 : Index := Scalar.indexCast v236
  ![1, 0, v295.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "att_scale" => some (((Real.sqrt 96)⁻¹ : ℝ) : EReal)
  | "att_scale2" => some (((Real.sqrt 96)⁻¹ * (Real.log 2)⁻¹ : ℝ) : EReal)
  | _ => none
-- ==== ReferenceIdeal.lean ====
abbrev S8x8192x96 : Shape := ⟨3, ![8, 8192, 96]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩

abbrev nBuf : Space → Nat
  | .hbm => 122
  | .vmem => 0
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x8192x64, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8192, .i32⟩
  | .hbm, ⟨10, _⟩ => ⟨S1x8192, .i32⟩
  | .hbm, ⟨11, _⟩ => ⟨S_, .i32⟩
  | .hbm, ⟨12, _⟩ => ⟨S_, .i32⟩
  | .hbm, ⟨13, _⟩ => ⟨S1x8192, .i32⟩
  | .hbm, ⟨14, _⟩ => ⟨S1x8192, .i32⟩
  | .hbm, ⟨15, _⟩ => ⟨S1x8192, .i32⟩
  | .hbm, ⟨16, _⟩ => ⟨S_, .i32⟩
  | .hbm, ⟨17, _⟩ => ⟨S1x8192, .i32⟩
  | .hbm, ⟨18, _⟩ => ⟨S1x8192, .i1⟩
  | .hbm, ⟨19, _⟩ => ⟨S1x8192, .i32⟩
  | .hbm, ⟨20, _⟩ => ⟨S1x8192, .i32⟩
  | .hbm, ⟨21, _⟩ => ⟨S_, .i32⟩
  | .hbm, ⟨22, _⟩ => ⟨S1x8192, .i32⟩
  | .hbm, ⟨23, _⟩ => ⟨S1x8192, .i1⟩
  | .hbm, ⟨24, _⟩ => ⟨S1x8192, .i1⟩
  | .hbm, ⟨25, _⟩ => ⟨S_, .i32⟩
  | .hbm, ⟨26, _⟩ => ⟨S1x8192, .i32⟩
  | .hbm, ⟨27, _⟩ => ⟨S1x8192, .i32⟩
  | .hbm, ⟨28, _⟩ => ⟨S1x8192, .i32⟩
  | .hbm, ⟨29, _⟩ => ⟨S8192x1, .i32⟩
  | .hbm, ⟨30, _⟩ => ⟨S_, .i32⟩
  | .hbm, ⟨31, _⟩ => ⟨S_, .i32⟩
  | .hbm, ⟨32, _⟩ => ⟨S8192x1, .i32⟩
  | .hbm, ⟨33, _⟩ => ⟨S8192x1, .i32⟩
  | .hbm, ⟨34, _⟩ => ⟨S8192x1, .i32⟩
  | .hbm, ⟨35, _⟩ => ⟨S_, .i32⟩
  | .hbm, ⟨36, _⟩ => ⟨S8192x1, .i32⟩
  | .hbm, ⟨37, _⟩ => ⟨S8192x1, .i1⟩
  | .hbm, ⟨38, _⟩ => ⟨S8192x1, .i32⟩
  | .hbm, ⟨39, _⟩ => ⟨S8192x1, .i32⟩
  | .hbm, ⟨40, _⟩ => ⟨S_, .i32⟩
  | .hbm, ⟨41, _⟩ => ⟨S8192x1, .i32⟩
  | .hbm, ⟨42, _⟩ => ⟨S8192x1, .i1⟩
  | .hbm, ⟨43, _⟩ => ⟨S8192x1, .i1⟩
  | .hbm, ⟨44, _⟩ => ⟨S_, .i32⟩
  | .hbm, ⟨45, _⟩ => ⟨S8192x1, .i32⟩
  | .hbm, ⟨46, _⟩ => ⟨S8192x1, .i32⟩
  | .hbm, ⟨47, _⟩ => ⟨S8192x1, .i32⟩
  | .hbm, ⟨48, _⟩ => ⟨S8192x8192, .i32⟩
  | .hbm, ⟨49, _⟩ => ⟨S8192x8192, .i32⟩
  | .hbm, ⟨50, _⟩ => ⟨S8192x8192, .i1⟩
  | .hbm, ⟨51, _⟩ => ⟨S1x8192x8192, .i1⟩
  | .hbm, ⟨52, _⟩ => ⟨S_, .f32⟩
  | .hbm, ⟨53, _⟩ => ⟨S_, .f32⟩
  | .hbm, ⟨54, _⟩ => ⟨S8x8192x8192, .i1⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S8x8192x8192, .f32⟩
  | .hbm, ⟨59, _⟩ => ⟨S_, .f32⟩
  | .hbm, ⟨60, _⟩ => ⟨S8x8192, .f32⟩
  | .hbm, ⟨61, _⟩ => ⟨S8x8192x1, .f32⟩
  | .hbm, ⟨62, _⟩ => ⟨S8x8192x8192, .f32⟩
  | .hbm, ⟨63, _⟩ => ⟨S8x8192x8192, .i1⟩
  | .hbm, ⟨64, _⟩ => ⟨S8x8192x8192, .f32⟩
  | .hbm, ⟨65, _⟩ => ⟨S_, .f32⟩
  | .hbm, ⟨66, _⟩ => ⟨S8x8192, .f32⟩
  | .hbm, ⟨67, _⟩ => ⟨S_, .f32⟩
  | .hbm, ⟨68, _⟩ => ⟨S8x8192, .f32⟩
  | .hbm, ⟨69, _⟩ => ⟨S8x8192, .f32⟩
  | .hbm, ⟨70, _⟩ => ⟨S_, .f32⟩
  | .hbm, ⟨71, _⟩ => ⟨S8x8192, .f32⟩
  | .hbm, ⟨72, _⟩ => ⟨S8x8192, .i1⟩
  | .hbm, ⟨73, _⟩ => ⟨S_, .f32⟩
  | .hbm, ⟨74, _⟩ => ⟨S8x8192, .f32⟩
  | .hbm, ⟨75, _⟩ => ⟨S8x8192, .i1⟩
  | .hbm, ⟨76, _⟩ => ⟨S_, .f32⟩
  | .hbm, ⟨77, _⟩ => ⟨S8x8192, .f32⟩
  | .hbm, ⟨78, _⟩ => ⟨S_, .f32⟩
  | .hbm, ⟨79, _⟩ => ⟨S8x8192, .f32⟩
  | .hbm, ⟨80, _⟩ => ⟨S_, .f32⟩
  | .hbm, ⟨81, _⟩ => ⟨S8x8192, .f32⟩
  | .hbm, ⟨82, _⟩ => ⟨S8x8192, .f32⟩
  | .hbm, ⟨83, _⟩ => ⟨S8x8192, .f32⟩
  | .hbm, ⟨84, _⟩ => ⟨S8x8192x1, .f32⟩
  | .hbm, ⟨85, _⟩ => ⟨S8x8192x8192, .f32⟩
  | .hbm, ⟨86, _⟩ => ⟨S8x8192x8192, .f32⟩
  | .hbm, ⟨87, _⟩ => ⟨S8x8192x8192, .f32⟩
  | .hbm, ⟨88, _⟩ => ⟨S_, .f32⟩
  | .hbm, ⟨89, _⟩ => ⟨S8x8192, .f32⟩
  | .hbm, ⟨90, _⟩ => ⟨S8x8192x1, .f32⟩
  | .hbm, ⟨91, _⟩ => ⟨S8x8192x8192, .f32⟩
  | .hbm, ⟨92, _⟩ => ⟨S8x8192x8192, .f32⟩
  | .hbm, ⟨93, _⟩ => ⟨S8x8192x1, .f32⟩
  | .hbm, ⟨94, _⟩ => ⟨S_, .f32⟩
  | .hbm, ⟨95, _⟩ => ⟨S8x8192x1, .f32⟩
  | .hbm, ⟨96, _⟩ => ⟨S8x8192x1, .f32⟩
  | .hbm, ⟨97, _⟩ => ⟨S8x8192x64, .f32⟩
  | .hbm, ⟨98, _⟩ => ⟨S8x64x8192, .f32⟩
  | .hbm, ⟨99, _⟩ => ⟨S8x8192x64, .f32⟩
  | .hbm, ⟨100, _⟩ => ⟨S8x8192x8192, .f32⟩
  | .hbm, ⟨101, _⟩ => ⟨S8x8192x8192, .f32⟩
  | .hbm, ⟨102, _⟩ => ⟨S8x8192x8192, .f32⟩
  | .hbm, ⟨103, _⟩ => ⟨S8x8192x8192, .f32⟩
  | .hbm, ⟨104, _⟩ => ⟨S_, .f32⟩
  | .hbm, ⟨105, _⟩ => ⟨S8x8192, .f32⟩
  | .hbm, ⟨106, _⟩ => ⟨S8x8192x1, .f32⟩
  | .hbm, ⟨107, _⟩ => ⟨S8x8192x1, .f32⟩
  | .hbm, ⟨108, _⟩ => ⟨S8x8192x8192, .f32⟩
  | .hbm, ⟨109, _⟩ => ⟨S8x8192x8192, .f32⟩
  | .hbm, ⟨110, _⟩ => ⟨S_, .f32⟩
  | .hbm, ⟨111, _⟩ => ⟨S8x8192, .f32⟩
  | .hbm, ⟨112, _⟩ => ⟨S8x8192x8192, .f32⟩
  | .hbm, ⟨113, _⟩ => ⟨S8x8192x8192, .f32⟩
  | .hbm, ⟨114, _⟩ => ⟨S8x8192x8192, .f32⟩
  | .hbm, ⟨115, _⟩ => ⟨S_, .f32⟩
  | .hbm, ⟨116, _⟩ => ⟨S8x8192x8192, .f32⟩
  | .hbm, ⟨117, _⟩ => ⟨S8x8192x8192, .f32⟩
  | .hbm, ⟨118, _⟩ => ⟨S8x8192x8192, .f32⟩
  | .hbm, ⟨119, _⟩ => ⟨S8x8192x8192, .f32⟩
  | .hbm, ⟨120, _⟩ => ⟨S8x8192x96, .f32⟩
  | .hbm, ⟨121, _⟩ => ⟨S8x8192x96, .f32⟩
  | _, _ => ⟨S8x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_cst_1 : Ref sig .tc := ⟨.hbm, 52, rfl⟩
abbrev main_call2_v0 : Ref sig .tc := ⟨.hbm, 53, rfl⟩
abbrev main_v13_1 : Ref sig .tc := ⟨.hbm, 54, rfl⟩
abbrev main_call2_v2 : Ref sig .tc := ⟨.hbm, 55, rfl⟩
abbrev main_v13_0 : Ref sig .tc := ⟨.hbm, 56, rfl⟩
abbrev main_call2_cst : Ref sig .tc := ⟨.hbm, 57, rfl⟩
abbrev main_v13_2 : Ref sig .tc := ⟨.hbm, 58, rfl⟩
abbrev main_cst_2 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_cst_3 : Ref sig .tc := ⟨.hbm, 65, rfl⟩
abbrev main_v19 : Ref sig .tc := ⟨.hbm, 66, rfl⟩
abbrev main_cst_4 : Ref sig .tc := ⟨.hbm, 67, rfl⟩
abbrev main_v20 : Ref sig .tc := ⟨.hbm, 68, rfl⟩
abbrev main_v21 : Ref sig .tc := ⟨.hbm, 69, rfl⟩
abbrev main_cst_5 : Ref sig .tc := ⟨.hbm, 70, rfl⟩
abbrev main_v22 : Ref sig .tc := ⟨.hbm, 71, rfl⟩
abbrev main_v23 : Ref sig .tc := ⟨.hbm, 72, rfl⟩
abbrev main_cst_6 : Ref sig .tc := ⟨.hbm, 73, rfl⟩
abbrev main_v24 : Ref sig .tc := ⟨.hbm, 74, rfl⟩
abbrev main_v25 : Ref sig .tc := ⟨.hbm, 75, rfl⟩
abbrev main_cst_7 : Ref sig .tc := ⟨.hbm, 76, rfl⟩
abbrev main_v26 : Ref sig .tc := ⟨.hbm, 77, rfl⟩
abbrev main_cst_8 : Ref sig .tc := ⟨.hbm, 78, rfl⟩
abbrev main_v27 : Ref sig .tc := ⟨.hbm, 79, rfl⟩
abbrev main_cst_9 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_10 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst_11 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_cst_12 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_cst_13 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_call3_cst : Ref sig .tc := ⟨.hbm, 115, rfl⟩
abbrev main_call3_v0 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩

abbrev nD : Nat := 1
abbrev τ : Topo := Topo.v7x

variable {F : FTy → Type} [FloatOps F]
-- ==== Kernel2.lean ====
abbrev S8x8192x96 : Shape := ⟨3, ![8, 8192, 96]⟩
abbrev S8x8192x64 : Shape := ⟨3, ![8, 8192, 64]⟩
abbrev S_ : Shape := ⟨0, ![]⟩
abbrev S8x8192x128 : Shape := ⟨3, ![8, 8192, 128]⟩
abbrev S8x64x8192 : Shape := ⟨3, ![8, 64, 8192]⟩
abbrev S8x1x8192 : Shape := ⟨3, ![8, 1, 8192]⟩
abbrev S4x512x128 : Shape := ⟨3, ![4, 512, 128]⟩
abbrev S4x8192x128 : Shape := ⟨3, ![4, 8192, 128]⟩
abbrev S4x64x8192 : Shape := ⟨3, ![4, 64, 8192]⟩
abbrev S4x512x64 : Shape := ⟨3, ![4, 512, 64]⟩
abbrev S4x1x512 : Shape := ⟨3, ![4, 1, 512]⟩
abbrev S1x512x128 : Shape := ⟨3, ![1, 512, 128]⟩
abbrev S512x128 : Shape := ⟨2, ![512, 128]⟩
abbrev S1x512 : Shape := ⟨2, ![1, 512]⟩
abbrev S64x512 : Shape := ⟨2, ![64, 512]⟩
abbrev S512x512 : Shape := ⟨2, ![512, 512]⟩
abbrev S512 : Shape := ⟨1, ![512]⟩
abbrev S1x64x512 : Shape := ⟨3, ![1, 64, 512]⟩
abbrev S512x64 : Shape := ⟨2, ![512, 64]⟩
abbrev S1x512x64 : Shape := ⟨3, ![1, 512, 64]⟩
abbrev S1x1x512 : Shape := ⟨3, ![1, 1, 512]⟩

abbrev nBuf : Space → Nat
  | .hbm => 16
  | .vmem => 12
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S_, .i32⟩
  | .hbm, ⟨4, _⟩ => ⟨S_, .f32⟩
  | .hbm, ⟨5, _⟩ => ⟨S8x8192x128, .f32⟩
  | .hbm, ⟨6, _⟩ => ⟨S8x8192x128, .bf16⟩
  | .hbm, ⟨7, _⟩ => ⟨S_, .i32⟩
  | .hbm, ⟨8, _⟩ => ⟨S_, .f32⟩
  | .hbm, ⟨9, _⟩ => ⟨S8x8192x128, .f32⟩
  | .hbm, ⟨10, _⟩ => ⟨S8x8192x128, .bf16⟩
  | .hbm, ⟨11, _⟩ => ⟨S8x64x8192, .f32⟩
  | .hbm, ⟨12, _⟩ => ⟨S8x64x8192, .bf16⟩
  | .hbm, ⟨13, _⟩ => ⟨S8x8192x64, .bf16⟩
  | .hbm, ⟨14, _⟩ => ⟨S8x8192x64, .f32⟩
  | .hbm, ⟨15, _⟩ => ⟨S8x1x8192, .f32⟩
  | .local _ .vmem, ⟨0, _⟩ => ⟨S4x512x128, .bf16⟩
  | .local _ .vmem, ⟨1, _⟩ => ⟨S4x512x128, .bf16⟩
  | .local _ .vmem, ⟨2, _⟩ => ⟨S4x8192x128, .bf16⟩
  | .local _ .vmem, ⟨3, _⟩ => ⟨S4x8192x128, .bf16⟩
  | .local _ .vmem, ⟨4, _⟩ => ⟨S4x64x8192, .bf16⟩
  | .local _ .vmem, ⟨5, _⟩ => ⟨S4x64x8192, .bf16⟩
  | .local _ .vmem, ⟨6, _⟩ => ⟨S4x512x64, .bf16⟩
  | .local _ .vmem, ⟨7, _⟩ => ⟨S4x512x64, .bf16⟩
  | .local _ .vmem, ⟨8, _⟩ => ⟨S4x512x64, .f32⟩
  | .local _ .vmem, ⟨9, _⟩ => ⟨S4x512x64, .f32⟩
  | .local _ .vmem, ⟨10, _⟩ => ⟨S4x1x512, .f32⟩
  | .local _ .vmem, ⟨11, _⟩ => ⟨S4x1x512, .f32⟩
  | _, _ => ⟨S8x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_19 : BitVec 32 := 1#32
  ⟨c0_i32, v24, c1_i32_19⟩
def k0_mult1 (i : grid0.Coords) (k0_t1 : Fin (k0_t1_loop i).trips) : BitVec 32 :=
  let c0_i32 : BitVec 32 := 0#32
  let c1_i32_19 : BitVec 32 := 1#32
  let arg8 : BitVec 32 := Scf.iv c0_i32 c1_i32_19 k0_t1
  let c512_i32_156 : BitVec 32 := 512#32
  let v413 : BitVec 32 := Scalar.muli arg8 c512_i32_156
  v413
def k0_off1 (i : grid0.Coords) (k0_t1 : Fin (k0_t1_loop i).trips) : Fin 3 → Nat :=
  let c0_157 : Index := 0#32
  let c0_i32 : BitVec 32 := 0#32
  let c1_i32_19 : BitVec 32 := 1#32
  let arg8 : BitVec 32 := Scf.iv c0_i32 c1_i32_19 k0_t1
  let c512_i32_156 : BitVec 32 := 512#32
  let v413 : BitVec 32 := Scalar.muli arg8 c512_i32_156
  let v414 : BitVec 32 := v413
  let v415 : Index := Scalar.indexCast v414
  let c0_158 : Index := 0#32
  ![0, v415.toNat, 0]
def k0_off2 (i : grid0.Coords) (k0_t1 : Fin (k0_t1_loop i).trips) : Fin 3 → Nat :=
  let c0_163 : Index := 0#32
  let c0_164 : Index := 0#32
  let c0_i32 : BitVec 32 := 0#32
  let c1_i32_19 : BitVec 32 := 1#32
  let arg8 : BitVec 32 := Scf.iv c0_i32 c1_i32_19 k0_t1
  let c512_i32_156 : BitVec 32 := 512#32
  let v413 : BitVec 32 := Scalar.muli arg8 c512_i32_156
  let v414 : BitVec 32 := v413
  let v435 : Index := Scalar.indexCast v414
  ![0, 0, v435.toNat]
def k0_off3 (i : grid0.Coords) (k0_t1 : Fin (k0_t1_loop i).trips) : Fin 3 → Nat :=
  let c1_166 : Index := 1#32
  let c0_i32 : BitVec 32 := 0#32
  let c1_i32_19 : BitVec 32 := 1#32
  let arg8 : BitVec 32 := Scf.iv c0_i32 c1_i32_19 k0_t1
  let c512_i32_156 : BitVec 32 := 512#32
  let v413 : BitVec 32 := Scalar.muli arg8 c512_i32_156
  let v414 : BitVec 32 := v413
  let v441 : Index := Scalar.indexCast v414
  let c0_167 : Index := 0#32
  ![1, v441.toNat, 0]
def k0_off4 (i : grid0.Coords) (k0_t1 : Fin (k0_t1_loop i).trips) : Fin 3 → Nat :=
  let c1_172 : Index := 1#32
  let c0_173 : Index := 0#32
  let c0_i32 : BitVec 32 := 0#32
  let c1_i32_19 : BitVec 32 := 1#32
  let arg8 : BitVec 32 := Scf.iv c0_i32 c1_i32_19 k0_t1
  let c512_i32_156 : BitVec 32 := 512#32
  let v413 : BitVec 32 := Scalar.muli arg8 c512_i32_156
  let v414 : BitVec 32 := v413
  let v461 : Index := Scalar.indexCast v414
  ![1, 0, v461.toNat]
def k0_off5 (i : grid0.Coords) (k0_t1 : Fin (k0_t1_loop i).trips) : Fin 3 → Nat :=
  let c2_175 : Index := 2#32
  let c0_i32 : BitVec 32 := 0#32
  let c1_i32_19 : BitVec 32 := 1#32
  let arg8 : BitVec 32 := Scf.iv c0_i32 c1_i32_19 k0_t1
  let c512_i32_156 : BitVec 32 := 512#32
  let v413 : BitVec 32 := Scalar.muli arg8 c512_i32_156
  let v414 : BitVec 32 := v413
  let v467 : Index := Scalar.indexCast v414
  let c0_176 : Index := 0#32
  ![2, v467.toNat, 0]
def k0_off6 (i : grid0.Coords) (k0_t1 : Fin (k0_t1_loop i).trips) : Fin 3 → Nat :=
  let c2_181 : Index := 2#32
  let c0_182 : Index := 0#32
  let c0_i32 : BitVec 32 := 0#32
  let c1_i32_19 : BitVec 32 := 1#32
  let arg8 : BitVec 32 := Scf.iv c0_i32 c1_i32_19 k0_t1
  let c512_i32_156 : BitVec 32 := 512#32
  let v413 : BitVec 32 := Scalar.muli arg8 c512_i32_156
  let v414 : BitVec 32 := v413
  let v487 : Index := Scalar.indexCast v414
  ![2, 0, v487.toNat]
def k0_off7 (i : grid0.Coords) (k0_t1 : Fin (k0_t1_loop i).trips) : Fin 3 → Nat :=
  let c3_184 : Index := 3#32
  let c0_i32 : BitVec 32 := 0#32
  let c1_i32_19 : BitVec 32 := 1#32
  let arg8 : BitVec 32 := Scf.iv c0_i32 c1_i32_19 k0_t1
  let c512_i32_156 : BitVec 32 := 512#32
  let v413 : BitVec 32 := Scalar.muli arg8 c512_i32_156
  let v414 : BitVec 32 := v413
  let v493 : Index := Scalar.indexCast v414
  let c0_185 : Index := 0#32
  ![3, v493.toNat, 0]
def k0_off8 (i : grid0.Coords) (k0_t1 : Fin (k0_t1_loop i).trips) : Fin 3 → Nat :=
  let c3_190 : Index := 3#32
  let c0_191 : Index := 0#32
  let c0_i32 : BitVec 32 := 0#32
  let c1_i32_19 : BitVec 32 := 1#32
  let arg8 : BitVec 32 := Scf.iv c0_i32 c1_i32_19 k0_t1
  let c512_i32_156 : BitVec 32 := 512#32
  let v413 : BitVec 32 := Scalar.muli arg8 c512_i32_156
  let v414 : BitVec 32 := v413
  let v513 : Index := Scalar.indexCast v414
  ![3, 0, v513.toNat]
@[reducible] def k0_t2_loop (i : grid0.Coords) : Scf.Loop 32 :=
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let v21 : BitVec 32 := Scalar.addi c0_i32 v20
  let c1_i32_20 : BitVec 32 := 1#32
  ⟨v24, v21, c1_i32_20⟩
def k0_mult2 (i : grid0.Coords) (k0_t2 : Fin (k0_t2_loop i).trips) : BitVec 32 :=
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_20 : BitVec 32 := 1#32
  let arg8 : BitVec 32 := Scf.iv v24 c1_i32_20 k0_t2
  let c512_i32_156 : BitVec 32 := 512#32
  let v413 : BitVec 32 := Scalar.muli arg8 c512_i32_156
  v413
def k0_off9 (i : grid0.Coords) (k0_t2 : Fin (k0_t2_loop i).trips) : Fin 3 → Nat :=
  let c0_157 : Index := 0#32
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_20 : BitVec 32 := 1#32
  let arg8 : BitVec 32 := Scf.iv v24 c1_i32_20 k0_t2
  let c512_i32_156 : BitVec 32 := 512#32
  let v413 : BitVec 32 := Scalar.muli arg8 c512_i32_156
  let v414 : BitVec 32 := v413
  let v415 : Index := Scalar.indexCast v414
  let c0_158 : Index := 0#32
  ![0, v415.toNat, 0]
def k0_off10 (i : grid0.Coords) (k0_t2 : Fin (k0_t2_loop i).trips) : Fin 3 → Nat :=
  let c0_163 : Index := 0#32
  let c0_164 : Index := 0#32
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_20 : BitVec 32 := 1#32
  let arg8 : BitVec 32 := Scf.iv v24 c1_i32_20 k0_t2
  let c512_i32_156 : BitVec 32 := 512#32
  let v413 : BitVec 32 := Scalar.muli arg8 c512_i32_156
  let v414 : BitVec 32 := v413
  let v435 : Index := Scalar.indexCast v414
  ![0, 0, v435.toNat]
def k0_off11 (i : grid0.Coords) (k0_t2 : Fin (k0_t2_loop i).trips) : Fin 3 → Nat :=
  let c1_166 : Index := 1#32
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_20 : BitVec 32 := 1#32
  let arg8 : BitVec 32 := Scf.iv v24 c1_i32_20 k0_t2
  let c512_i32_156 : BitVec 32 := 512#32
  let v413 : BitVec 32 := Scalar.muli arg8 c512_i32_156
  let v414 : BitVec 32 := v413
  let v441 : Index := Scalar.indexCast v414
  let c0_167 : Index := 0#32
  ![1, v441.toNat, 0]
def k0_off12 (i : grid0.Coords) (k0_t2 : Fin (k0_t2_loop i).trips) : Fin 3 → Nat :=
  let c1_172 : Index := 1#32
  let c0_173 : Index := 0#32
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_20 : BitVec 32 := 1#32
  let arg8 : BitVec 32 := Scf.iv v24 c1_i32_20 k0_t2
  let c512_i32_156 : BitVec 32 := 512#32
  let v413 : BitVec 32 := Scalar.muli arg8 c512_i32_156
  let v414 : BitVec 32 := v413
  let v461 : Index := Scalar.indexCast v414
  ![1, 0, v461.toNat]
def k0_off13 (i : grid0.Coords) (k0_t2 : Fin (k0_t2_loop i).trips) : Fin 3 → Nat :=
  let c2_175 : Index := 2#32
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_20 : BitVec 32 := 1#32
  let arg8 : BitVec 32 := Scf.iv v24 c1_i32_20 k0_t2
  let c512_i32_156 : BitVec 32 := 512#32
  let v413 : BitVec 32 := Scalar.muli arg8 c512_i32_156
  let v414 : BitVec 32 := v413
  let v467 : Index := Scalar.indexCast v414
  let c0_176 : Index := 0#32
  ![2, v467.toNat, 0]
def k0_off14 (i : grid0.Coords) (k0_t2 : Fin (k0_t2_loop i).trips) : Fin 3 → Nat :=
  let c2_181 : Index := 2#32
  let c0_182 : Index := 0#32
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_20 : BitVec 32 := 1#32
  let arg8 : BitVec 32 := Scf.iv v24 c1_i32_20 k0_t2
  let c512_i32_156 : BitVec 32 := 512#32
  let v413 : BitVec 32 := Scalar.muli arg8 c512_i32_156
  let v414 : BitVec 32 := v413
  let v487 : Index := Scalar.indexCast v414
  ![2, 0, v487.toNat]
def k0_off15 (i : grid0.Coords) (k0_t2 : Fin (k0_t2_loop i).trips) : Fin 3 → Nat :=
  let c3_184 : Index := 3#32
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_20 : BitVec 32 := 1#32
  let arg8 : BitVec 32 := Scf.iv v24 c1_i32_20 k0_t2
  let c512_i32_156 : BitVec 32 := 512#32
  let v413 : BitVec 32 := Scalar.muli arg8 c512_i32_156
  let v414 : BitVec 32 := v413
  let v493 : Index := Scalar.indexCast v414
  let c0_185 : Index := 0#32
  ![3, v493.toNat, 0]
def k0_off16 (i : grid0.Coords) (k0_t2 : Fin (k0_t2_loop i).trips) : Fin 3 → Nat :=
  let c3_190 : Index := 3#32
  let c0_191 : Index := 0#32
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_20 : BitVec 32 := 1#32
  let arg8 : BitVec 32 := Scf.iv v24 c1_i32_20 k0_t2
  let c512_i32_156 : BitVec 32 := 512#32
  let v413 : BitVec 32 := Scalar.muli arg8 c512_i32_156
  let v414 : BitVec 32 := v413
  let v513 : Index := Scalar.indexCast v414
  ![3, 0, v513.toNat]
def k0_mult3 (i : grid0.Coords) : BitVec 32 :=
  let arg1 : BitVec 32 := BitVec.ofNat 32 (i 1).val
  let c512_i32 : BitVec 32 := 512#32
  let v27 : BitVec 32 := Scalar.muli arg1 c512_i32
  v27
def k0_off17 (i : grid0.Coords) : Fin 3 → Nat :=
  let c0_21 : Index := 0#32
  let arg1 : BitVec 32 := BitVec.ofNat 32 (i 1).val
  let c512_i32 : BitVec 32 := 512#32
  let v27 : BitVec 32 := Scalar.muli arg1 c512_i32
  let v28 : BitVec 32 := v27
  let v29 : Index := Scalar.indexCast v28
  let c0_22 : Index := 0#32
  ![0, v29.toNat, 0]
def k0_off18 (i : grid0.Coords) : Fin 3 → Nat :=
  let c0_41 : Index := 0#32
  let c0_42 : Index := 0#32
  let arg1 : BitVec 32 := BitVec.ofNat 32 (i 1).val
  let c512_i32 : BitVec 32 := 512#32
  let v27 : BitVec 32 := Scalar.muli arg1 c512_i32
  let v28 : BitVec 32 := v27
  let v102 : Index := Scalar.indexCast v28
  ![0, 0, v102.toNat]
def k0_off19 (i : grid0.Coords) : Fin 3 → Nat :=
  let c1_44 : Index := 1#32
  let arg1 : BitVec 32 := BitVec.ofNat 32 (i 1).val
  let c512_i32 : BitVec 32 := 512#32
  let v27 : BitVec 32 := Scalar.muli arg1 c512_i32
  let v28 : BitVec 32 := v27
  let v108 : Index := Scalar.indexCast v28
  let c0_45 : Index := 0#32
  ![1, v108.toNat, 0]
def k0_off20 (i : grid0.Coords) : Fin 3 → Nat :=
  let c1_65 : Index := 1#32
  let c0_66 : Index := 0#32
  let arg1 : BitVec 32 := BitVec.ofNat 32 (i 1).val
  let c512_i32 : BitVec 32 := 512#32
  let v27 : BitVec 32 := Scalar.muli arg1 c512_i32
  let v28 : BitVec 32 := v27
  let v181 : Index := Scalar.indexCast v28
  ![1, 0, v181.toNat]
def k0_off21 (i : grid0.Coords) : Fin 3 → Nat :=
  let c2_68 : Index := 2#32
  let arg1 : BitVec 32 := BitVec.ofNat 32 (i 1).val
  let c512_i32 : BitVec 32 := 512#32
  let v27 : BitVec 32 := Scalar.muli arg1 c512_i32
  let v28 : BitVec 32 := v27
  let v187 : Index := Scalar.indexCast v28
  let c0_69 : Index := 0#32
  ![2, v187.toNat, 0]
def k0_off22 (i : grid0.Coords) : Fin 3 → Nat :=
  let c2_89 : Index := 2#32
  let c0_90 : Index := 0#32
  let arg1 : BitVec 32 := BitVec.ofNat 32 (i 1).val
  let c512_i32 : BitVec 32 := 512#32
  let v27 : BitVec 32 := Scalar.muli arg1 c512_i32
  let v28 : BitVec 32 := v27
  let v260 : Index := Scalar.indexCast v28
  ![2, 0, v260.toNat]
def k0_off23 (i : grid0.Coords) : Fin 3 → Nat :=
  let c3_92 : Index := 3#32
  let arg1 : BitVec 32 := BitVec.ofNat 32 (i 1).val
  let c512_i32 : BitVec 32 := 512#32
  let v27 : BitVec 32 := Scalar.muli arg1 c512_i32
  let v28 : BitVec 32 := v27
  let v266 : Index := Scalar.indexCast v28
  let c0_93 : Index := 0#32
  ![3, v266.toNat, 0]
def k0_off24 (i : grid0.Coords) : Fin 3 → Nat :=
  let c3_113 : Index := 3#32
  let c0_114 : Index := 0#32
  let arg1 : BitVec 32 := BitVec.ofNat 32 (i 1).val
  let c512_i32 : BitVec 32 := 512#32
  let v27 : BitVec 32 := Scalar.muli arg1 c512_i32
  let v28 : BitVec 32 := v27
  let v339 : Index := Scalar.indexCast v28
  ![3, 0, v339.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x64x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel2Ideal.lean ====
variable {F : FTy → Type} [FloatOps F] [Named F]
def κ : String → Option EReal := fun
  | "att_scale2" => some (((Real.sqrt 96)⁻¹ * (Real.log 2)⁻¹ : ℝ) : EReal)
  | "log2" => some ((Real.log 2 : ℝ) : EReal)
  | _ => none
-- ==== Reference2Ideal.lean ====
abbrev S8x8192x96 : Shape := ⟨3, ![8, 8192, 96]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x1x8192 : Shape := ⟨3, ![8, 1, 8192]⟩

abbrev nBuf : Space → Nat
  | .hbm => 81
  | .vmem => 0
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x8192x8192, .f32⟩
  | .hbm, ⟨4, _⟩ => ⟨S_, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S_, .i32⟩
  | .hbm, ⟨11, _⟩ => ⟨S_, .i32⟩
  | .hbm, ⟨12, _⟩ => ⟨S1x8192, .i32⟩
  | .hbm, ⟨13, _⟩ => ⟨S1x8192, .i32⟩
  | .hbm, ⟨14, _⟩ => ⟨S1x8192, .i32⟩
  | .hbm, ⟨15, _⟩ => ⟨S_, .i32⟩
  | .hbm, ⟨16, _⟩ => ⟨S1x8192, .i32⟩
  | .hbm, ⟨17, _⟩ => ⟨S1x8192, .i1⟩
  | .hbm, ⟨18, _⟩ => ⟨S1x8192, .i32⟩
  | .hbm, ⟨19, _⟩ => ⟨S1x8192, .i32⟩
  | .hbm, ⟨20, _⟩ => ⟨S_, .i32⟩
  | .hbm, ⟨21, _⟩ => ⟨S1x8192, .i32⟩
  | .hbm, ⟨22, _⟩ => ⟨S1x8192, .i1⟩
  | .hbm, ⟨23, _⟩ => ⟨S1x8192, .i1⟩
  | .hbm, ⟨24, _⟩ => ⟨S_, .i32⟩
  | .hbm, ⟨25, _⟩ => ⟨S1x8192, .i32⟩
  | .hbm, ⟨26, _⟩ => ⟨S1x8192, .i32⟩
  | .hbm, ⟨27, _⟩ => ⟨S1x8192, .i32⟩
  | .hbm, ⟨28, _⟩ => ⟨S8192x1, .i32⟩
  | .hbm, ⟨29, _⟩ => ⟨S_, .i32⟩
  | .hbm, ⟨30, _⟩ => ⟨S_, .i32⟩
  | .hbm, ⟨31, _⟩ => ⟨S8192x1, .i32⟩
  | .hbm, ⟨32, _⟩ => ⟨S8192x1, .i32⟩
  | .hbm, ⟨33, _⟩ => ⟨S8192x1, .i32⟩
  | .hbm, ⟨34, _⟩ => ⟨S_, .i32⟩
  | .hbm, ⟨35, _⟩ => ⟨S8192x1, .i32⟩
  | .hbm, ⟨36, _⟩ => ⟨S8192x1, .i1⟩
  | .hbm, ⟨37, _⟩ => ⟨S8192x1, .i32⟩
  | .hbm, ⟨38, _⟩ => ⟨S8192x1, .i32⟩
  | .hbm, ⟨39, _⟩ => ⟨S_, .i32⟩
  | .hbm, ⟨40, _⟩ => ⟨S8192x1, .i32⟩
  | .hbm, ⟨41, _⟩ => ⟨S8192x1, .i1⟩
  | .hbm, ⟨42, _⟩ => ⟨S8192x1, .i1⟩
  | .hbm, ⟨43, _⟩ => ⟨S_, .i32⟩
  | .hbm, ⟨44, _⟩ => ⟨S8192x1, .i32⟩
  | .hbm, ⟨45, _⟩ => ⟨S8192x1, .i32⟩
  | .hbm, ⟨46, _⟩ => ⟨S8192x1, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S1x8192x8192, .i1⟩
  | .hbm, ⟨51, _⟩ => ⟨S_, .f32⟩
  | .hbm, ⟨52, _⟩ => ⟨S_, .f32⟩
  | .hbm, ⟨53, _⟩ => ⟨S8x8192x8192, .i1⟩
  | .hbm, ⟨54, _⟩ => ⟨S8x8192x8192, .f32⟩
  | .hbm, ⟨55, _⟩ => ⟨S8x8192x8192, .f32⟩
  | .hbm, ⟨56, _⟩ => ⟨S_, .f32⟩
  | .hbm, ⟨57, _⟩ => ⟨S8x8192, .f32⟩
  | .hbm, ⟨58, _⟩ => ⟨S_, .f32⟩
  | .hbm, ⟨59, _⟩ => ⟨S8x8192, .f32⟩
  | .hbm, ⟨60, _⟩ => ⟨S8x8192, .f32⟩
  | .hbm, ⟨61, _⟩ => ⟨S8x8192x1, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S_, .f32⟩
  | .hbm, ⟨66, _⟩ => ⟨S8x8192, .f32⟩
  | .hbm, ⟨67, _⟩ => ⟨S8x8192x1, .f32⟩
  | .hbm, ⟨68, _⟩ => ⟨S8x8192x8192, .f32⟩
  | .hbm, ⟨69, _⟩ => ⟨S8x8192x8192, .f32⟩
  | .hbm, ⟨70, _⟩ => ⟨S8x8192x64, .f32⟩
  | .hbm, ⟨71, _⟩ => ⟨S8x8192x8192, .f32⟩
  | .hbm, ⟨72, _⟩ => ⟨S_, .f32⟩
  | .hbm, ⟨73, _⟩ => ⟨S8x8192, .f32⟩
  | .hbm, ⟨74, _⟩ => ⟨S8x8192, .f32⟩
  | .hbm, ⟨75, _⟩ => ⟨S_, .f32⟩
  | .hbm, ⟨76, _⟩ => ⟨S_, .f32⟩
  | .hbm, ⟨77, _⟩ => ⟨S8x8192, .f32⟩
  | .hbm, ⟨78, _⟩ => ⟨S8x8192, .f32⟩
  | .hbm, ⟨79, _⟩ => ⟨S8x8192x64, .bf16⟩
  | .hbm, ⟨80, _⟩ => ⟨S8x1x8192, .f32⟩
  | _, _ => ⟨S8x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst_1 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v13 : Ref sig .tc := ⟨.hbm, 55, rfl⟩
abbrev main_cst_2 : Ref sig .tc := ⟨.hbm, 56, rfl⟩
abbrev main_v14 : Ref sig .tc := ⟨.hbm, 57, rfl⟩
abbrev main_cst_3 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_cst_4 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_5 : Ref sig .tc := ⟨.hbm, 72, rfl⟩
abbrev main_v27 : Ref sig .tc := ⟨.hbm, 73, rfl⟩
abbrev main_v28 : Ref sig .tc := ⟨.hbm, 74, rfl⟩
abbrev main_cst_6 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩

abbrev nD : Nat := 1
abbrev τ : Topo := Topo.v7x

variable {F : FTy → Type} [FloatOps F]
-- ==== Kernel3.lean ====
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S8192x4096 : Shape := ⟨2, ![8192, 4096]⟩
abbrev S1x4096 : Shape := ⟨2, ![1, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S8192x1024, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .bf16⟩
  | .hbm, ⟨14, _⟩ => ⟨S8192x1024, .bf16⟩
  | .hbm, ⟨15, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S8192x4096 : Shape := ⟨2, ![8192, 4096]⟩
abbrev S1x4096 : Shape := ⟨2, ![1, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S8192x1024, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x1024, .f32⟩
  | .hbm, ⟨14, _⟩ => ⟨S1024x4096, .f32⟩
  | .hbm, ⟨15, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel4.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x1024, .bf16⟩
  | .hbm, ⟨4, _⟩ => ⟨S8192x4096, .bf16⟩
  | .hbm, ⟨5, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S4096x1024, .f32⟩
  | .hbm, ⟨5, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x1024 : Shape := ⟨2, ![8192, 1024]⟩
abbrev S1024x4096 : Shape := ⟨2, ![1024, 4096]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .bf16⟩
  | .hbm, ⟨4, _⟩ => ⟨S1024x4096, .bf16⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel6.lean ====
abbrev S8192x1024 : Shape := ⟨2, ![8192, 1024]⟩
abbrev S1024x5760 : Shape := ⟨2, ![1024, 5760]⟩
abbrev S8192x5760 : Shape := ⟨2, ![8192, 5760]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5760, .f32⟩
  | .hbm, ⟨2, _⟩ => ⟨S8192x5760, .f32⟩
  | .hbm, ⟨3, _⟩ => ⟨S8192x1024, .bf16⟩
  | .hbm, ⟨4, _⟩ => ⟨S8192x5760, .bf16⟩
  | .hbm, ⟨5, _⟩ => ⟨S1024x5760, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x5760 : Shape := ⟨2, ![1024, 5760]⟩
abbrev S8192x5760 : Shape := ⟨2, ![8192, 5760]⟩
abbrev S5760x1024 : Shape := ⟨2, ![5760, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5760, .f32⟩
  | .hbm, ⟨2, _⟩ => ⟨S8192x5760, .f32⟩
  | .hbm, ⟨3, _⟩ => ⟨S8192x5760, .f32⟩
  | .hbm, ⟨4, _⟩ => ⟨S5760x1024, .f32⟩
  | .hbm, ⟨5, _⟩ => ⟨S1024x5760, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S1024x5760 : Shape := ⟨2, ![1024, 5760]⟩
abbrev S8192x5760 : Shape := ⟨2, ![8192, 5760]⟩
abbrev S1024x1920 : Shape := ⟨2, ![1024, 1920]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5760, .f32⟩
  | .hbm, ⟨2, _⟩ => ⟨S8192x5760, .f32⟩
  | .hbm, ⟨3, _⟩ => ⟨S8192x5760, .bf16⟩
  | .hbm, ⟨4, _⟩ => ⟨S1024x5760, .bf16⟩
  | .hbm, ⟨5, _⟩ => ⟨S8192x1024, .f32⟩
  | .local _ .vmem, ⟨0, _⟩ => ⟨S1024x1920, .bf16⟩
  | .local _ .vmem, ⟨1, _⟩ => ⟨S1024x1920, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x5760 : Shape := ⟨2, ![1024, 5760]⟩
abbrev S8192x5760 : Shape := ⟨2, ![8192, 5760]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5760, .f32⟩
  | .hbm, ⟨2, _⟩ => ⟨S8192x5760, .f32⟩
  | .hbm, ⟨3, _⟩ => ⟨S8192x5760, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S8192x1024 : Shape := ⟨2, ![8192, 1024]⟩
abbrev S1024x5760 : Shape := ⟨2, ![1024, 5760]⟩
abbrev S5760 : Shape := ⟨1, ![5760]⟩
abbrev S1x5760 : Shape := ⟨2, ![1, 5760]⟩
abbrev S8192x5760 : Shape := ⟨2, ![8192, 5760]⟩
abbrev S1024x1024 : Shape := ⟨2, ![1024, 1024]⟩
abbrev S1024x1152 : Shape := ⟨2, ![1024, 1152]⟩
abbrev S1x1152 : Shape := ⟨2, ![1, 1152]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x5760, .f32⟩
  | .hbm, ⟨2, _⟩ => ⟨S5760, .f32⟩
  | .hbm, ⟨3, _⟩ => ⟨S8192x1024, .bf16⟩
  | .hbm, ⟨4, _⟩ => ⟨S1024x5760, .bf16⟩
  | .hbm, ⟨5, _⟩ => ⟨S1x5760, .f32⟩
  | .hbm, ⟨6, _⟩ => ⟨S8192x5760, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1x1152, .f32⟩
  | .local _ .vmem, ⟨5, _⟩ => ⟨S1x1152, .f32⟩
  | .local _ .vmem, ⟨6, _⟩ => ⟨S1024x1152, .f32⟩
  | .local _ .vmem, ⟨7, _⟩ => ⟨S1024x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x1024 : Shape := ⟨2, ![8192, 1024]⟩
abbrev S1024x5760 : Shape := ⟨2, ![1024, 5760]⟩
abbrev S5760 : Shape := ⟨1, ![5760]⟩
abbrev S8192x5760 : Shape := ⟨2, ![8192, 5760]⟩
abbrev S1x5760 : Shape := ⟨2, ![1, 5760]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5760, .f32⟩
  | .hbm, ⟨2, _⟩ => ⟨S5760, .f32⟩
  | .hbm, ⟨3, _⟩ => ⟨S8192x5760, .f32⟩
  | .hbm, ⟨4, _⟩ => ⟨S1x5760, .f32⟩
  | .hbm, ⟨5, _⟩ => ⟨S8192x5760, .f32⟩
  | .hbm, ⟨6, _⟩ => ⟨S8192x5760, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x1024 : Shape := ⟨2, ![8192, 1024]⟩
abbrev S1024x4096 : Shape := ⟨2, ![1024, 4096]⟩
abbrev S4096 : Shape := ⟨1, ![4096]⟩
abbrev S1x4096 : Shape := ⟨2, ![1, 4096]⟩
abbrev S8192x4096 : Shape := ⟨2, ![8192, 4096]⟩
abbrev S1024x1024 : Shape := ⟨2, ![1024, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S8192x1024, .bf16⟩
  | .hbm, ⟨4, _⟩ => ⟨S1024x4096, .bf16⟩
  | .hbm, ⟨5, _⟩ => ⟨S1x4096, .f32⟩
  | .hbm, ⟨6, _⟩ => ⟨S8192x4096, .f32⟩
  | .hbm, ⟨7, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference9Ideal.lean ====
abbrev S8192x1024 : Shape := ⟨2, ![8192, 1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel10.lean ====
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x4096 : Shape := ⟨2, ![8192, 4096]⟩
abbrev S1x4096 : Shape := ⟨2, ![1, 4096]⟩
abbrev S_ : Shape := ⟨0, ![]⟩
abbrev S1x1024 : Shape := ⟨2, ![1, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 17
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .bf16⟩
  | .hbm, ⟨14, _⟩ => ⟨S4096x1024, .bf16⟩
  | .hbm, ⟨15, _⟩ => ⟨S1x1024, .f32⟩
  | .hbm, ⟨16, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x4096 : Shape := ⟨2, ![8192, 4096]⟩
abbrev S1x4096 : Shape := ⟨2, ![1, 4096]⟩
abbrev S_ : Shape := ⟨0, ![]⟩
abbrev S1x1024 : Shape := ⟨2, ![1, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S8192x512 : Shape := ⟨2, ![8192, 512]⟩
abbrev S512x1024 : Shape := ⟨2, ![512, 1024]⟩
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x512, .bf16⟩
  | .hbm, ⟨4, _⟩ => ⟨S8192x1024, .bf16⟩
  | .hbm, ⟨5, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Step.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.VecWindow

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-! # One step of the kernel's body, as functions of the values

A grid point works on one block of 512 keys of two heads. A step takes one block of 512 queries; it adds the block's
contribution to the query gradient's rows, and to the key and value gradients kept in the scratches. -/

variable {F : FTy → Type} [FloatOps F] [Named F]

/-- The query gradient, the key gradient and the value gradient under way. -/
abbrev St (F : FTy → Type) [FloatOps F] := Vec F S2x8192x128 .f32 × Vec F S2x512x128 .f32 × Vec F S2x512x64 .f32

theorem inbQ (g : Fin 2) (qi : Fin 16) : ∀ a, (![g.val, 512 * qi.val, 0] : Fin 3 → ℕ) a + S1x512x128.size a ≤ S2x8192x128.size a := by
  have := g.isLt; have := qi.isLt
  intro a; fin_cases a
  · show g.val + 1 ≤ 2; omega
  · show 512 * qi.val + 512 ≤ 8192; omega
  · show 0 + 128 ≤ 128; omega
theorem inbD (g : Fin 2) (qi : Fin 16) : ∀ a, (![g.val, 512 * qi.val, 0] : Fin 3 → ℕ) a + S1x512x64.size a ≤ S2x8192x64.size a := by
  have := g.isLt; have := qi.isLt
  intro a; fin_cases a
  · show g.val + 1 ≤ 2; omega
  · show 512 * qi.val + 512 ≤ 8192; omega
  · show 0 + 64 ≤ 64; omega
theorem inbL (g : Fin 2) (qi : Fin 16) : ∀ a, (![g.val, 0, 512 * qi.val] : Fin 3 → ℕ) a + S1x1x512.size a ≤ S2x1x8192.size a := by
  have := g.isLt; have := qi.isLt
  intro a; fin_cases a
  · show g.val + 1 ≤ 2; omega
  · show 0 + 1 ≤ 1; omega
  · show 512 * qi.val + 512 ≤ 8192; omega
theorem inbK (g : Fin 2) : ∀ a, (![g.val, 0, 0] : Fin 3 → ℕ) a + S1x512x128.size a ≤ S2x512x128.size a := by
  have := g.isLt
  intro a; fin_cases a
  · show g.val + 1 ≤ 2; omega
  · show 0 + 512 ≤ 512; omega
  · show 0 + 128 ≤ 128; omega
theorem inbV (g : Fin 2) : ∀ a, (![g.val, 0, 0] : Fin 3 → ℕ) a + S1x512x64.size a ≤ S2x512x64.size a := by
  have := g.isLt
  intro a; fin_cases a
  · show g.val + 1 ≤ 2; omega
  · show 0 + 512 ≤ 512; omega
  · show 0 + 64 ≤ 64; omega

/-- Head `g`'s rows of query block `qi`, of a 128-wide array. -/
def rowsQ {e : EltTy} (x : Vec F S2x8192x128 e) (g : Fin 2) (qi : Fin 16) : Vec F S1x512x128 e :=
  VecWindow.window x ![g.val, 512 * qi.val, 0] S1x512x128.size (inbQ g qi)
/-- Head `g`'s rows of query block `qi`, of a 64-wide array. -/
def rowsD {e : EltTy} (x : Vec F S2x8192x64 e) (g : Fin 2) (qi : Fin 16) : Vec F S1x512x64 e :=
  VecWindow.window x ![g.val, 512 * qi.val, 0] S1x512x64.size (inbD g qi)
/-- Head `g`'s entries of query block `qi`, of a row of numbers per head. -/
def rowsL {e : EltTy} (x : Vec F S2x1x8192 e) (g : Fin 2) (qi : Fin 16) : Vec F S1x1x512 e :=
  VecWindow.window x ![g.val, 0, 512 * qi.val] S1x1x512.size (inbL g qi)
/-- Head `g`'s half of a 128-wide key block. -/
def halfK {e : EltTy} (x : Vec F S2x512x128 e) (g : Fin 2) : Vec F S1x512x128 e :=
  VecWindow.window x ![g.val, 0, 0] S1x512x128.size (inbK g)
/-- Head `g`'s half of a 64-wide key block. -/
def halfV {e : EltTy} (x : Vec F S2x512x64 e) (g : Fin 2) : Vec F S1x512x64 e :=
  VecWindow.window x ![g.val, 0, 0] S1x512x64.size (inbV g)

section
variable (Q : Vec F S2x8192x128 .bf16) (D : Vec F S2x8192x64 .bf16) (L E : Vec F S2x1x8192 .f32) (K : Vec F S2x512x128 .bf16) (V : Vec F S2x512x64 .bf16)

/-- The attention probabilities of head `g`, keys down and queries across: with the chunk mask on the diagonal block. -/
def prob (masked : Bool) (qi : Fin 16) (g : Fin 2) : FVec F S512x512 .f32 :=
  if masked then k0_pay45 (k0_pay53 (k0_pay34 (halfK K g)) (rowsQ Q g qi)) k0_pay41 k0_pay42 k0_pay43 k0_pay44 (rowsL L g qi)
  else k0_pay11 (k0_pay34 (halfK K g)) (rowsQ Q g qi) (rowsL L g qi)

/-- The gradient of the scores of head `g`, keys down and queries across. -/
def dscore (masked : Bool) (qi : Fin 16) (g : Fin 2) : FVec F S512x512 .bf16 :=
  k0_pay2 (k0_pay36 (halfV V g)) (k0_pay10 (rowsD D g qi)) (prob Q L K masked qi g) (rowsL E g qi)

/-- What the step leaves of head `g`'s value gradient. -/
def addV (masked : Bool) (qi : Fin 16) (g : Fin 2) (x : Vec F S1x512x64 .f32) : Vec F S1x512x64 .f32 :=
  shapeCast S1x512x64 (addf (shapeCast S512x64 x shapeCasts_S1x512x64_S512x64)
    (matmul dot_S512x512_S512x64_S512x64_1_0_0_1_n_n none (truncf .bf16 (prob Q L K masked qi g) bitsLt_bf16_f32) (k0_pay10 (rowsD D g qi)) (constant S512x64 .f32 0x00000000#32)))
    shapeCasts_S512x64_S1x512x64
/-- What the step leaves of head `g`'s key gradient. -/
def addK (masked : Bool) (qi : Fin 16) (g : Fin 2) (x : Vec F S1x512x128 .f32) : Vec F S1x512x128 .f32 :=
  k0_pay14 (k0_pay9 (rowsQ Q g qi)) (dscore Q D L E K V masked qi g) x
/-- What the step leaves of the rows of head `g`'s query gradient. -/
def addQ (masked : Bool) (qi : Fin 16) (g : Fin 2) (x : Vec F S1x512x128 .f32) : Vec F S1x512x128 .f32 :=
  k0_pay15 (k0_pay34 (halfK K g)) (dscore Q D L E K V masked qi g) x

/-- The step at query block `qi`, both heads. -/
def step (masked : Bool) (qi : Fin 16) (s : St F) : St F :=
  (VecWindow.put (VecWindow.put s.1 ![0, 512 * qi.val, 0] S1x512x128.size (addQ Q D L E K V masked qi 0 (rowsQ s.1 0 qi)))
     ![1, 512 * qi.val, 0] S1x512x128.size (addQ Q D L E K V masked qi 1 (rowsQ s.1 1 qi)),
   VecWindow.put (VecWindow.put s.2.1 ![0, 0, 0] S1x512x128.size (addK Q D L E K V masked qi 0 (halfK s.2.1 0)))
     ![1, 0, 0] S1x512x128.size (addK Q D L E K V masked qi 1 (halfK s.2.1 1)),
   VecWindow.put (VecWindow.put s.2.2 ![0, 0, 0] S1x512x64.size (addV Q D L K masked qi 0 (halfV s.2.2 0)))
     ![1, 0, 0] S1x512x64.size (addV Q D L K masked qi 1 (halfV s.2.2 1)))

/-- The state after the `n` unmasked steps that follow the diagonal block `ki`. -/
def steps (ki : Fin 16) (s : St F) : ℕ → St F
  | 0 => s
  | n + 1 => if h : ki.val + 1 + n < 16 then step Q D L E K V false ⟨ki.val + 1 + n, h⟩ (steps ki s n) else steps ki s n

theorem steps_succ (ki : Fin 16) (s : St F) (n : ℕ) (h : ki.val + 1 + n < 16) :
    steps Q D L E K V ki s (n + 1) = step Q D L E K V false ⟨ki.val + 1 + n, h⟩ (steps Q D L E K V ki s n) :=
  dif_pos h

/-- The whole body at key block `ki`: the scratches start at zero, the diagonal block's step is masked, the later blocks follow. -/
def blockStep (ki : Fin 16) (dq : Vec F S2x8192x128 .f32) : St F :=
  steps Q D L E K V ki (step Q D L E K V true ki (dq, k0_pay32, k0_pay33)) (15 - ki.val)
end

/-! # The counted loop by values -/

variable (𝒱 : Variants) (c : Dev nD) (bd : Option 𝒱.V) (i : grid0.Coords)
  (arg2 : Memref sig .tc .vmem S2x8192x128 .bf16) (harg2 : arg2.IsWhole)
  (arg3 : Memref sig .tc .vmem S2x8192x64 .bf16) (harg3 : arg3.IsWhole)
  (arg4 : Memref sig .tc .vmem S2x1x8192 .f32) (harg4 : arg4.IsWhole)
  (arg5 : Memref sig .tc .vmem S2x1x8192 .f32) (harg5 : arg5.IsWhole)
  (arg6 : Memref sig .tc .vmem S2x512x128 .bf16) (harg6 : arg6.IsWhole)
  (arg7 : Memref sig .tc .vmem S2x512x64 .bf16) (harg7 : arg7.IsWhole)
  (arg8 : Memref sig .tc .vmem S2x8192x128 .f32) (harg8 : arg8.IsWhole)
  (arg9 : Memref sig .tc .vmem S2x512x128 .f32) (harg9 : arg9.IsWhole)
  (arg10 : Memref sig .tc .vmem S2x512x64 .f32) (harg10 : arg10.IsWhole)
  (arg11 : Memref sig .tc .vmem S2x512x128 .f32) (harg11 : arg11.IsWhole)
  (arg12 : Memref sig .tc .vmem S2x512x64 .f32) (harg12 : arg12.IsWhole)

variable (v12 v14 : FVec F S512x128 .bf16) (v16 v18 : FVec F S512x64 .bf16) (v225 : BitVec 32)
  (X2 : BufTy.Contents (Elt F) arg2.view.ty) (X3 : BufTy.Contents (Elt F) arg3.view.ty) (X4 : BufTy.Contents (Elt F) arg4.view.ty) (X5 : BufTy.Contents (Elt F) arg5.view.ty)

/-- A load of a unit-stride box of a memref's contents. -/
abbrev rd {s : Shape} {e : EltTy} (m : Memref sig .tc .vmem s e) (X : BufTy.Contents (Elt F) m.view.ty) (off size : Fin s.rank → ℕ) (inb : ∀ a, off a + size a ≤ s.size a) :=
  m.view.readAt (Elt F) (Rect.unit (s := s) off size inb).toLoadRect X

section
variable (k : Fin (k0_t1_loop i).trips) (f8 : BufTy.Contents (Elt F) arg8.view.ty) (f11 : BufTy.Contents (Elt F) arg11.view.ty) (f12 : BufTy.Contents (Elt F) arg12.view.ty)
set_option maxHeartbeats 1000000

/-- The pieces one trip writes into the query gradient. -/
theorem trip_arg8 : (tripL_k0_t1 (F := F) 𝒱 c bd i arg2 harg2 arg3 harg3 arg4 harg4 arg5 harg5 arg6 harg6 arg7 harg7 arg8 harg8 arg9 harg9 arg10 harg10 arg11 harg11 arg12 harg12 v12 v14 v16 v18 v225 X2 X3 X4 X5 k f8 f11 f12).1 =
   [⟨Rect.unit (k0_off10 i k) S1x512x128.size (k0_off10_inb i k), k0_pay4 v14 v18 (k0_pay17 (rd arg3 X3 (k0_off11 i k) S1x512x64.size (k0_off11_inb i k))) (k0_pay18 v14 (rd arg2 X2 (k0_off10 i k) S1x512x128.size (k0_off10_inb i k)) (rd arg4 X4 (k0_off12 i k) S1x1x512.size (k0_off12_inb i k))) (rd arg5 X5 (k0_off12 i k) S1x1x512.size (k0_off12_inb i k)) (rd arg8 f8 (k0_off10 i k) S1x512x128.size (k0_off10_inb i k))⟩,
    ⟨Rect.unit (k0_off7 i k) S1x512x128.size (k0_off7_inb i k), k0_pay15 v12 (k0_pay13 v12 v16 (rd arg2 X2 (k0_off7 i k) S1x512x128.size (k0_off7_inb i k)) (rd arg3 X3 (k0_off8 i k) S1x512x64.size (k0_off8_inb i k)) (rd arg4 X4 (k0_off9 i k) S1x1x512.size (k0_off9_inb i k)) (rd arg5 X5 (k0_off9 i k) S1x1x512.size (k0_off9_inb i k))) (rd arg8 f8 (k0_off7 i k) S1x512x128.size (k0_off7_inb i k))⟩] := by
  unfold tripL_k0_t1 trip_k0_t1
  rfl

/-- The pieces one trip writes into the key gradient's scratch. -/
theorem trip_arg11 : (tripL_k0_t1 (F := F) 𝒱 c bd i arg2 harg2 arg3 harg3 arg4 harg4 arg5 harg5 arg6 harg6 arg7 harg7 arg8 harg8 arg9 harg9 arg10 harg10 arg11 harg11 arg12 harg12 v12 v14 v16 v18 v225 X2 X3 X4 X5 k f8 f11 f12).2.1 =
   [⟨Rect.unit ![1, 0, 0] S1x512x128.size inb_S2x512x128_S1x512x128_1_0_0, k0_pay3 v18 (k0_pay16 (rd arg2 X2 (k0_off10 i k) S1x512x128.size (k0_off10_inb i k))) (k0_pay17 (rd arg3 X3 (k0_off11 i k) S1x512x64.size (k0_off11_inb i k))) (k0_pay18 v14 (rd arg2 X2 (k0_off10 i k) S1x512x128.size (k0_off10_inb i k)) (rd arg4 X4 (k0_off12 i k) S1x1x512.size (k0_off12_inb i k))) (rd arg5 X5 (k0_off12 i k) S1x1x512.size (k0_off12_inb i k)) (rd arg11 f11 ![1, 0, 0] S1x512x128.size inb_S2x512x128_S1x512x128_1_0_0)⟩,
    ⟨Rect.unit ![0, 0, 0] S1x512x128.size inb_S2x512x128_S1x512x128_0_0_0, k0_pay14 (k0_pay9 (rd arg2 X2 (k0_off7 i k) S1x512x128.size (k0_off7_inb i k))) (k0_pay13 v12 v16 (rd arg2 X2 (k0_off7 i k) S1x512x128.size (k0_off7_inb i k)) (rd arg3 X3 (k0_off8 i k) S1x512x64.size (k0_off8_inb i k)) (rd arg4 X4 (k0_off9 i k) S1x1x512.size (k0_off9_inb i k)) (rd arg5 X5 (k0_off9 i k) S1x1x512.size (k0_off9_inb i k))) (rd arg11 f11 ![0, 0, 0] S1x512x128.size inb_S2x512x128_S1x512x128_0_0_0)⟩] := by
  unfold tripL_k0_t1 trip_k0_t1
  rfl

/-- The pieces one trip writes into the value gradient's scratch. -/
theorem trip_arg12 : (tripL_k0_t1 (F := F) 𝒱 c bd i arg2 harg2 arg3 harg3 arg4 harg4 arg5 harg5 arg6 harg6 arg7 harg7 arg8 harg8 arg9 harg9 arg10 harg10 arg11 harg11 arg12 harg12 v12 v14 v16 v18 v225 X2 X3 X4 X5 k f8 f11 f12).2.2 =
   [⟨Rect.unit ![1, 0, 0] S1x512x64.size inb_S2x512x64_S1x512x64_1_0_0, k0_pay1 (k0_pay19 v14 (rd arg2 X2 (k0_off10 i k) S1x512x128.size (k0_off10_inb i k)) (rd arg3 X3 (k0_off11 i k) S1x512x64.size (k0_off11_inb i k)) (rd arg4 X4 (k0_off12 i k) S1x1x512.size (k0_off12_inb i k)) (rd arg12 f12 ![1, 0, 0] S1x512x64.size inb_S2x512x64_S1x512x64_1_0_0))⟩,
    ⟨Rect.unit ![0, 0, 0] S1x512x64.size inb_S2x512x64_S1x512x64_0_0_0, k0_pay12 v12 (rd arg2 X2 (k0_off7 i k) S1x512x128.size (k0_off7_inb i k)) (rd arg3 X3 (k0_off8 i k) S1x512x64.size (k0_off8_inb i k)) (rd arg4 X4 (k0_off9 i k) S1x1x512.size (k0_off9_inb i k)) (rd arg12 f12 ![0, 0, 0] S1x512x64.size inb_S2x512x64_S1x512x64_0_0_0)⟩] := by
  unfold tripL_k0_t1 trip_k0_t1
  rfl
end

/-- What the three written buffers read. -/
def stOf (f8 : BufTy.Contents (Elt F) arg8.view.ty) (f11 : BufTy.Contents (Elt F) arg11.view.ty) (f12 : BufTy.Contents (Elt F) arg12.view.ty) : St F :=
  (arg8.view.read (Elt F) f8, arg11.view.read (Elt F) f11, arg12.view.read (Elt F) f12)

theorem off_lt (k : Fin (k0_t1_loop i).trips) : (i 1).val + 1 + k.val < 16 := by
  have h := k0_off7_inb i k 1
  rw [k0_off7_eq] at h
  have h' : 512 * (i 1).val + 512 * k.val + 512 + 512 ≤ 8192 := h
  omega

section
variable (Q : Vec F S2x8192x128 .bf16) (D : Vec F S2x8192x64 .bf16) (L E : Vec F S2x1x8192 .f32) (K : Vec F S2x512x128 .bf16) (V : Vec F S2x512x64 .bf16)

/-- One trip is one unmasked step. -/
theorem trip_step (h2 : arg2.view.read (Elt F) X2 = Q) (h3 : arg3.view.read (Elt F) X3 = D) (h4 : arg4.view.read (Elt F) X4 = L) (h5 : arg5.view.read (Elt F) X5 = E)
    (e12 : v12 = k0_pay34 (halfK K 0)) (e14 : v14 = k0_pay34 (halfK K 1)) (e16 : v16 = k0_pay36 (halfV V 0)) (e18 : v18 = k0_pay36 (halfV V 1))
    (k : Fin (k0_t1_loop i).trips) (f8 : BufTy.Contents (Elt F) arg8.view.ty) (f11 : BufTy.Contents (Elt F) arg11.view.ty) (f12 : BufTy.Contents (Elt F) arg12.view.ty) :
    stOf arg8 arg11 arg12 (arg8.view.writes (Elt F) f8 (tripL_k0_t1 (F := F) 𝒱 c bd i arg2 harg2 arg3 harg3 arg4 harg4 arg5 harg5 arg6 harg6 arg7 harg7 arg8 harg8 arg9 harg9 arg10 harg10 arg11 harg11 arg12 harg12 v12 v14 v16 v18 v225 X2 X3 X4 X5 k f8 f11 f12).1)
        (arg11.view.writes (Elt F) f11 (tripL_k0_t1 (F := F) 𝒱 c bd i arg2 harg2 arg3 harg3 arg4 harg4 arg5 harg5 arg6 harg6 arg7 harg7 arg8 harg8 arg9 harg9 arg10 harg10 arg11 harg11 arg12 harg12 v12 v14 v16 v18 v225 X2 X3 X4 X5 k f8 f11 f12).2.1)
        (arg12.view.writes (Elt F) f12 (tripL_k0_t1 (F := F) 𝒱 c bd i arg2 harg2 arg3 harg3 arg4 harg4 arg5 harg5 arg6 harg6 arg7 harg7 arg8 harg8 arg9 harg9 arg10 harg10 arg11 harg11 arg12 harg12 v12 v14 v16 v18 v225 X2 X3 X4 X5 k f8 f11 f12).2.2)
      = step Q D L E K V false ⟨(i 1).val + 1 + k.val, off_lt i k⟩ (stOf arg8 arg11 arg12 f8 f11 f12) := by
  have o7 : k0_off7 i k = ![(0 : Fin 2).val, 512 * ((i 1).val + 1 + k.val), 0] := by rw [k0_off7_eq]; congr 2; omega
  have o8 : k0_off8 i k = ![(0 : Fin 2).val, 512 * ((i 1).val + 1 + k.val), 0] := by rw [k0_off8_eq]; congr 2; omega
  have o9 : k0_off9 i k = ![(0 : Fin 2).val, 0, 512 * ((i 1).val + 1 + k.val)] := by rw [k0_off9_eq]; congr 3; omega
  have o10 : k0_off10 i k = ![(1 : Fin 2).val, 512 * ((i 1).val + 1 + k.val), 0] := by rw [k0_off10_eq]; congr 2; omega
  have o11 : k0_off11 i k = ![(1 : Fin 2).val, 512 * ((i 1).val + 1 + k.val), 0] := by rw [k0_off11_eq]; congr 2; omega
  have o12 : k0_off12 i k = ![(1 : Fin 2).val, 0, 512 * ((i 1).val + 1 + k.val)] := by rw [k0_off12_eq]; congr 3; omega
  have r7 (f) : rd arg2 f (k0_off7 i k) S1x512x128.size (k0_off7_inb i k) = rowsQ (arg2.view.read (Elt F) f) 0 ⟨_, off_lt i k⟩ := View.readAt_unit arg2.view f _ o7 (inbQ 0 ⟨_, off_lt i k⟩)
  have r8 (f) : rd arg3 f (k0_off8 i k) S1x512x64.size (k0_off8_inb i k) = rowsD (arg3.view.read (Elt F) f) 0 ⟨_, off_lt i k⟩ := View.readAt_unit arg3.view f _ o8 (inbD 0 ⟨_, off_lt i k⟩)
  have r9 (f) : rd arg4 f (k0_off9 i k) S1x1x512.size (k0_off9_inb i k) = rowsL (arg4.view.read (Elt F) f) 0 ⟨_, off_lt i k⟩ := View.readAt_unit arg4.view f _ o9 (inbL 0 ⟨_, off_lt i k⟩)
  have r9d (f) : rd arg5 f (k0_off9 i k) S1x1x512.size (k0_off9_inb i k) = rowsL (arg5.view.read (Elt F) f) 0 ⟨_, off_lt i k⟩ := View.readAt_unit arg5.view f _ o9 (inbL 0 ⟨_, off_lt i k⟩)
  have r10 (f) : rd arg2 f (k0_off10 i k) S1x512x128.size (k0_off10_inb i k) = rowsQ (arg2.view.read (Elt F) f) 1 ⟨_, off_lt i k⟩ := View.readAt_unit arg2.view f _ o10 (inbQ 1 ⟨_, off_lt i k⟩)
  have r11 (f) : rd arg3 f (k0_off11 i k) S1x512x64.size (k0_off11_inb i k) = rowsD (arg3.view.read (Elt F) f) 1 ⟨_, off_lt i k⟩ := View.readAt_unit arg3.view f _ o11 (inbD 1 ⟨_, off_lt i k⟩)
  have r12 (f) : rd arg4 f (k0_off12 i k) S1x1x512.size (k0_off12_inb i k) = rowsL (arg4.view.read (Elt F) f) 1 ⟨_, off_lt i k⟩ := View.readAt_unit arg4.view f _ o12 (inbL 1 ⟨_, off_lt i k⟩)
  have r12d (f) : rd arg5 f (k0_off12 i k) S1x1x512.size (k0_off12_inb i k) = rowsL (arg5.view.read (Elt F) f) 1 ⟨_, off_lt i k⟩ := View.readAt_unit arg5.view f _ o12 (inbL 1 ⟨_, off_lt i k⟩)
  have q7 (f) : rd arg8 f (k0_off7 i k) S1x512x128.size (k0_off7_inb i k) = rowsQ (arg8.view.read (Elt F) f) 0 ⟨_, off_lt i k⟩ := View.readAt_unit arg8.view f _ o7 (inbQ 0 ⟨_, off_lt i k⟩)
  have q10 (f) : rd arg8 f (k0_off10 i k) S1x512x128.size (k0_off10_inb i k) = rowsQ (arg8.view.read (Elt F) f) 1 ⟨_, off_lt i k⟩ := View.readAt_unit arg8.view f _ o10 (inbQ 1 ⟨_, off_lt i k⟩)
  have s0 (f) : rd arg11 f ![0, 0, 0] S1x512x128.size inb_S2x512x128_S1x512x128_0_0_0 = halfK (arg11.view.read (Elt F) f) 0 := View.readAt_unit arg11.view f _ rfl (inbK 0)
  have s1 (f) : rd arg11 f ![1, 0, 0] S1x512x128.size inb_S2x512x128_S1x512x128_1_0_0 = halfK (arg11.view.read (Elt F) f) 1 := View.readAt_unit arg11.view f _ rfl (inbK 1)
  have u0 (f) : rd arg12 f ![0, 0, 0] S1x512x64.size inb_S2x512x64_S1x512x64_0_0_0 = halfV (arg12.view.read (Elt F) f) 0 := View.readAt_unit arg12.view f _ rfl (inbV 0)
  have u1 (f) : rd arg12 f ![1, 0, 0] S1x512x64.size inb_S2x512x64_S1x512x64_1_0_0 = halfV (arg12.view.read (Elt F) f) 1 := View.readAt_unit arg12.view f _ rfl (inbV 1)
  rw [trip_arg8, trip_arg11, trip_arg12]
  simp only [r7, r8, r9, r9d, r10, r11, r12, r12d, q7, q10, s0, s1, u0, u1, h2, h3, h4, h5, e12, e14, e16, e18]
  unfold stOf
  rw [View.read_writes_cons_put _ _ _ _ _ o10, View.read_writes_cons_put _ _ _ _ _ o7, View.read_writes_cons_put _ _ _ _ _ rfl, View.read_writes_cons_put _ _ _ _ _ rfl,
    View.read_writes_cons_put _ _ _ _ _ rfl, View.read_writes_cons_put _ _ _ _ _ rfl]
  rfl

/-- The loop's contents after `n` trips are the state after `n` unmasked steps. -/
theorem loop_steps (h2 : arg2.view.read (Elt F) X2 = Q) (h3 : arg3.view.read (Elt F) X3 = D) (h4 : arg4.view.read (Elt F) X4 = L) (h5 : arg5.view.read (Elt F) X5 = E)
    (e12 : v12 = k0_pay34 (halfK K 0)) (e14 : v14 = k0_pay34 (halfK K 1)) (e16 : v16 = k0_pay36 (halfV V 0)) (e18 : v18 = k0_pay36 (halfV V 1))
    (G8 : BufTy.Contents (Elt F) arg8.view.ty) (G11 : BufTy.Contents (Elt F) arg11.view.ty) (G12 : BufTy.Contents (Elt F) arg12.view.ty) :
    ∀ n ≤ (k0_t1_loop i).trips,
      stOf arg8 arg11 arg12 (arg8.view.writes (Elt F) G8 (pb_k0_t1 (F := F) 𝒱 c bd i arg2 harg2 arg3 harg3 arg4 harg4 arg5 harg5 arg6 harg6 arg7 harg7 arg8 harg8 arg9 harg9 arg10 harg10 arg11 harg11 arg12 harg12 v12 v14 v16 v18 v225 X2 X3 X4 X5 G8 G11 G12 n).1) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 v12 v14 v16 v18 v225 X2 X3 X4 X5 G8 G11 G12 n).2.1) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 v12 v14 v16 v18 v225 X2 X3 X4 X5 G8 G11 G12 n).2.2)
        = steps Q D L E K V (i 1) (stOf arg8 arg11 arg12 G8 G11 G12) n := by
  intro n
  induction n with
  | zero => intro _; rfl
  | succ n ih =>
    intro hn
    have ih' := ih (by omega)
    have hs := pb_k0_t1_succ (F := F) 𝒱 c bd i arg2 harg2 arg3 harg3 arg4 harg4 arg5 harg5 arg6 harg6 arg7 harg7 arg8 harg8 arg9 harg9 arg10 harg10 arg11 harg11 arg12 harg12 v12 v14 v16 v18 v225 X2 X3 X4 X5 G8 G11 G12 ⟨n, hn⟩
    rw [hs]
    simp only [View.writes_append]
    rw [trip_step 𝒱 c bd i arg2 harg2 arg3 harg3 arg4 harg4 arg5 harg5 arg6 harg6 arg7 harg7 arg8 harg8 arg9 harg9 arg10 harg10 arg11 harg11 arg12 harg12 v12 v14 v16 v18 v225 X2 X3 X4 X5 Q D L E K V h2 h3 h4 h5 e12 e14 e16 e18 ⟨n, hn⟩, ih']
    exact (steps_succ Q D L E K V (i 1) _ n (off_lt i ⟨n, hn⟩)).symm
end

end Cert.KernelIdeal.Attn
-- ==== Proof.Diag.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Step

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

open Idealize.ShloMosaic.Pipeline (Dat Cfg Window BodyObligation cellOf)

variable {F : FTy → Type} [FloatOps F] [Named F]

local notation "𝕄" => MT nD τ sig Unit (Elt F) ℕ (UR sig nD τ) ℕ

/-- The grid point is the first of its heads: the query gradient starts at zero. -/
abbrev firstOf (i : grid0.Coords) : Prop := (Scalar.cmpi .ne (Scalar.extui (Scalar.cmpi .eq (BitVec.ofNat 32 (i 1).val) 0#32)) 0#32) = 1#1

section
variable (c : Dev nD) (i : grid0.Coords)
  (arg2 : Memref sig .tc .vmem S2x8192x128 .bf16) (harg2 : arg2.IsWhole)
  (arg3 : Memref sig .tc .vmem S2x8192x64 .bf16) (harg3 : arg3.IsWhole)
  (arg4 : Memref sig .tc .vmem S2x1x8192 .f32) (harg4 : arg4.IsWhole)
  (arg5 : Memref sig .tc .vmem S2x1x8192 .f32) (harg5 : arg5.IsWhole)
  (arg6 : Memref sig .tc .vmem S2x512x128 .bf16) (harg6 : arg6.IsWhole)
  (arg7 : Memref sig .tc .vmem S2x512x64 .bf16) (harg7 : arg7.IsWhole)
  (arg8 : Memref sig .tc .vmem S2x8192x128 .f32) (harg8 : arg8.IsWhole)
  (arg9 : Memref sig .tc .vmem S2x512x128 .f32) (harg9 : arg9.IsWhole)
  (arg10 : Memref sig .tc .vmem S2x512x64 .f32) (harg10 : arg10.IsWhole)
  (arg11 : Memref sig .tc .vmem S2x512x128 .f32) (harg11 : arg11.IsWhole)
  (arg12 : Memref sig .tc .vmem S2x512x64 .f32) (harg12 : arg12.IsWhole)
  (f0 : BufTy.Contents (Elt F) arg2.view.ty) (f1 : BufTy.Contents (Elt F) arg3.view.ty) (f2 : BufTy.Contents (Elt F) arg4.view.ty) (f3 : BufTy.Contents (Elt F) arg5.view.ty)
  (f4 : BufTy.Contents (Elt F) arg6.view.ty) (f5 : BufTy.Contents (Elt F) arg7.view.ty)

/-- How many unmasked steps the loop takes. -/
theorem trips1 : Scf.trips (k0_t1_loop i).lb (k0_t1_loop i).ub (k0_t1_loop i).st = 15 - (i 1).val := by
  have h : ∀ n : Fin 16, Scf.trips (Scalar.addi (BitVec.ofNat 32 n.val) 1#32)
      (Scalar.addi (Scalar.addi (BitVec.ofNat 32 n.val) 1#32) (Scalar.muli (Scalar.divsi (Scalar.subi 16#32 (Scalar.addi (BitVec.ofNat 32 n.val) 1#32)) 1#32) 1#32)) 1#32 = 15 - n.val := by decide
  exact h (i 1)
/-- The loop's remainder takes no trip. -/
theorem trips2 : Scf.trips (k0_t2_loop i).lb (k0_t2_loop i).ub (k0_t2_loop i).st = 0 :=
  Nat.le_zero.1 (k0_t2_abs i).2.1

/-- No trip of the remainder writes nothing. -/
theorem pb2_zero8 (v12 v14 : FVec F S512x128 .bf16) (v16 v18 : FVec F S512x64 .bf16) (v230 : BitVec 32) (G8 : BufTy.Contents (Elt F) arg8.view.ty) (G11 : BufTy.Contents (Elt F) arg11.view.ty) (G12 : BufTy.Contents (Elt F) arg12.view.ty) :
    (pb_k0_t2 (F := F) Variants.none c none i arg2 harg2 arg3 harg3 arg4 harg4 arg5 harg5 arg6 harg6 arg7 harg7 arg8 harg8 arg9 harg9 arg10 harg10 arg11 harg11 arg12 harg12 v12 v14 v16 v18 v230 f0 f1 f2 f3 G8 G11 G12 0).1 = [] := rfl

/-- No trip of the remainder writes nothing. -/
theorem pb2_zero11 (v12 v14 : FVec F S512x128 .bf16) (v16 v18 : FVec F S512x64 .bf16) (v230 : BitVec 32) (G8 : BufTy.Contents (Elt F) arg8.view.ty) (G11 : BufTy.Contents (Elt F) arg11.view.ty) (G12 : BufTy.Contents (Elt F) arg12.view.ty) :
    (pb_k0_t2 (F := F) Variants.none c none i arg2 harg2 arg3 harg3 arg4 harg4 arg5 harg5 arg6 harg6 arg7 harg7 arg8 harg8 arg9 harg9 arg10 harg10 arg11 harg11 arg12 harg12 v12 v14 v16 v18 v230 f0 f1 f2 f3 G8 G11 G12 0).2.1 = [] := rfl

/-- No trip of the remainder writes nothing. -/
theorem pb2_zero12 (v12 v14 : FVec F S512x128 .bf16) (v16 v18 : FVec F S512x64 .bf16) (v230 : BitVec 32) (G8 : BufTy.Contents (Elt F) arg8.view.ty) (G11 : BufTy.Contents (Elt F) arg11.view.ty) (G12 : BufTy.Contents (Elt F) arg12.view.ty) :
    (pb_k0_t2 (F := F) Variants.none c none i arg2 harg2 arg3 harg3 arg4 harg4 arg5 harg5 arg6 harg6 arg7 harg7 arg8 harg8 arg9 harg9 arg10 harg10 arg11 harg11 arg12 harg12 v12 v14 v16 v18 v230 f0 f1 f2 f3 G8 G11 G12 0).2.2 = [] := rfl

/-- The score gradient of head 0 on the diagonal block, from the loads. -/
def ds0 : FVec F S512x512 .bf16 :=
  k0_pay2 (k0_pay36 (rd arg7 f5 ![0, 0, 0] S1x512x64.size inb_S2x512x64_S1x512x64_0_0_0)) (k0_pay10 (rd arg3 f1 (k0_off2 i) S1x512x64.size (k0_off2_inb i)))
    (k0_pay45 (k0_pay53 (k0_pay34 (rd arg6 f4 ![0, 0, 0] S1x512x128.size inb_S2x512x128_S1x512x128_0_0_0)) (rd arg2 f0 (k0_off1 i) S1x512x128.size (k0_off1_inb i))) k0_pay41 k0_pay42 k0_pay43 k0_pay44 (rd arg4 f2 (k0_off3 i) S1x1x512.size (k0_off3_inb i)))
    (rd arg5 f3 (k0_off3 i) S1x1x512.size (k0_off3_inb i))
/-- The score gradient of head 1 on the diagonal block, from the loads. -/
def ds1 : FVec F S512x512 .bf16 :=
  k0_pay2 (k0_pay36 (rd arg7 f5 ![1, 0, 0] S1x512x64.size inb_S2x512x64_S1x512x64_1_0_0)) (k0_pay10 (rd arg3 f1 (k0_off5 i) S1x512x64.size (k0_off5_inb i)))
    (k0_pay45 (k0_pay53 (k0_pay34 (rd arg6 f4 ![1, 0, 0] S1x512x128.size inb_S2x512x128_S1x512x128_1_0_0)) (rd arg2 f0 (k0_off4 i) S1x512x128.size (k0_off4_inb i))) k0_pay41 k0_pay42 k0_pay43 k0_pay44 (rd arg4 f2 (k0_off6 i) S1x1x512.size (k0_off6_inb i)))
    (rd arg5 f3 (k0_off6 i) S1x1x512.size (k0_off6_inb i))

/-- The pieces the diagonal step writes into the key gradient's scratch, after its zeros. -/
def diag11 : List (View.Piece (Elt F) S2x512x128 .f32) :=
  [⟨Rect.unit ![1, 0, 0] S1x512x128.size inb_S2x512x128_S1x512x128_1_0_0, k0_pay14 (k0_pay9 (rd arg2 f0 (k0_off4 i) S1x512x128.size (k0_off4_inb i))) (ds1 i arg2 arg3 arg4 arg5 arg6 arg7 f0 f1 f2 f3 f4 f5)
     (rd arg11 (arg11.view.writes (Elt F) arg11.view.junk [⟨Rect.unit ![0, 0, 0] S1x512x128.size inb_S2x512x128_S1x512x128_0_0_0, k0_pay14 (k0_pay9 (rd arg2 f0 (k0_off1 i) S1x512x128.size (k0_off1_inb i))) (ds0 i arg2 arg3 arg4 arg5 arg6 arg7 f0 f1 f2 f3 f4 f5)
        (rd arg11 (arg11.view.writes (Elt F) arg11.view.junk [⟨Rect.unit ![0, 0, 0] S2x512x128.size inb_S2x512x128_S2x512x128_0_0_0, k0_pay32⟩]) ![0, 0, 0] S1x512x128.size inb_S2x512x128_S1x512x128_0_0_0)⟩, ⟨Rect.unit ![0, 0, 0] S2x512x128.size inb_S2x512x128_S2x512x128_0_0_0, k0_pay32⟩]) ![1, 0, 0] S1x512x128.size inb_S2x512x128_S1x512x128_1_0_0)⟩,
   ⟨Rect.unit ![0, 0, 0] S1x512x128.size inb_S2x512x128_S1x512x128_0_0_0, k0_pay14 (k0_pay9 (rd arg2 f0 (k0_off1 i) S1x512x128.size (k0_off1_inb i))) (ds0 i arg2 arg3 arg4 arg5 arg6 arg7 f0 f1 f2 f3 f4 f5)
        (rd arg11 (arg11.view.writes (Elt F) arg11.view.junk [⟨Rect.unit ![0, 0, 0] S2x512x128.size inb_S2x512x128_S2x512x128_0_0_0, k0_pay32⟩]) ![0, 0, 0] S1x512x128.size inb_S2x512x128_S1x512x128_0_0_0)⟩,
   ⟨Rect.unit ![0, 0, 0] S2x512x128.size inb_S2x512x128_S2x512x128_0_0_0, k0_pay32⟩]

/-- What one head's diagonal step leaves of its value gradient, from the loads. -/
def dvp (kb : FVec F S512x128 .bf16) (qb : Vec F S1x512x128 .bf16) (db : Vec F S1x512x64 .bf16) (ls : Vec F S1x1x512 .f32) (x : Vec F S1x512x64 .f32) : Vec F S1x512x64 .f32 :=
  shapeCast S1x512x64 (addf (shapeCast S512x64 x shapeCasts_S1x512x64_S512x64)
    (matmul dot_S512x512_S512x64_S512x64_1_0_0_1_n_n none (truncf .bf16 (k0_pay45 (k0_pay53 kb qb) k0_pay41 k0_pay42 k0_pay43 k0_pay44 ls) bitsLt_bf16_f32) (k0_pay10 db) (constant S512x64 .f32 0x00000000#32)))
    shapeCasts_S512x64_S1x512x64

/-- The pieces the diagonal step writes into the value gradient's scratch, after its zeros. -/
def diag12 : List (View.Piece (Elt F) S2x512x64 .f32) :=
  [⟨Rect.unit ![1, 0, 0] S1x512x64.size inb_S2x512x64_S1x512x64_1_0_0, dvp (k0_pay34 (rd arg6 f4 ![1, 0, 0] S1x512x128.size inb_S2x512x128_S1x512x128_1_0_0)) (rd arg2 f0 (k0_off4 i) S1x512x128.size (k0_off4_inb i)) (rd arg3 f1 (k0_off5 i) S1x512x64.size (k0_off5_inb i)) (rd arg4 f2 (k0_off6 i) S1x1x512.size (k0_off6_inb i))
      (rd arg12 (arg12.view.writes (Elt F) arg12.view.junk [⟨Rect.unit ![0, 0, 0] S1x512x64.size inb_S2x512x64_S1x512x64_0_0_0, dvp (k0_pay34 (rd arg6 f4 ![0, 0, 0] S1x512x128.size inb_S2x512x128_S1x512x128_0_0_0)) (rd arg2 f0 (k0_off1 i) S1x512x128.size (k0_off1_inb i)) (rd arg3 f1 (k0_off2 i) S1x512x64.size (k0_off2_inb i)) (rd arg4 f2 (k0_off3 i) S1x1x512.size (k0_off3_inb i))
          (rd arg12 (arg12.view.writes (Elt F) arg12.view.junk [⟨Rect.unit ![0, 0, 0] S2x512x64.size inb_S2x512x64_S2x512x64_0_0_0, k0_pay33⟩]) ![0, 0, 0] S1x512x64.size inb_S2x512x64_S1x512x64_0_0_0)⟩, ⟨Rect.unit ![0, 0, 0] S2x512x64.size inb_S2x512x64_S2x512x64_0_0_0, k0_pay33⟩]) ![1, 0, 0] S1x512x64.size inb_S2x512x64_S1x512x64_1_0_0)⟩,
   ⟨Rect.unit ![0, 0, 0] S1x512x64.size inb_S2x512x64_S1x512x64_0_0_0, dvp (k0_pay34 (rd arg6 f4 ![0, 0, 0] S1x512x128.size inb_S2x512x128_S1x512x128_0_0_0)) (rd arg2 f0 (k0_off1 i) S1x512x128.size (k0_off1_inb i)) (rd arg3 f1 (k0_off2 i) S1x512x64.size (k0_off2_inb i)) (rd arg4 f2 (k0_off3 i) S1x1x512.size (k0_off3_inb i))
          (rd arg12 (arg12.view.writes (Elt F) arg12.view.junk [⟨Rect.unit ![0, 0, 0] S2x512x64.size inb_S2x512x64_S2x512x64_0_0_0, k0_pay33⟩]) ![0, 0, 0] S1x512x64.size inb_S2x512x64_S1x512x64_0_0_0)⟩,
   ⟨Rect.unit ![0, 0, 0] S2x512x64.size inb_S2x512x64_S2x512x64_0_0_0, k0_pay33⟩]

/-- The pieces the diagonal step writes into the query gradient, which read `x0` and `x1` under them. -/
def diag8 (x0 x1 : Vec F S1x512x128 .f32) : List (View.Piece (Elt F) S2x8192x128 .f32) :=
  [⟨Rect.unit (k0_off4 i) S1x512x128.size (k0_off4_inb i), k0_pay15 (k0_pay34 (rd arg6 f4 ![1, 0, 0] S1x512x128.size inb_S2x512x128_S1x512x128_1_0_0)) (ds1 i arg2 arg3 arg4 arg5 arg6 arg7 f0 f1 f2 f3 f4 f5) x1⟩,
   ⟨Rect.unit (k0_off1 i) S1x512x128.size (k0_off1_inb i), k0_pay15 (k0_pay34 (rd arg6 f4 ![0, 0, 0] S1x512x128.size inb_S2x512x128_S1x512x128_0_0_0)) (ds0 i arg2 arg3 arg4 arg5 arg6 arg7 f0 f1 f2 f3 f4 f5) x0⟩]

section
variable (Q : Vec F S2x8192x128 .bf16) (D : Vec F S2x8192x64 .bf16) (L E : Vec F S2x1x8192 .f32) (K : Vec F S2x512x128 .bf16) (V : Vec F S2x512x64 .bf16)

theorem halfK_put0 (x : Vec F S2x512x128 .f32) (w : Vec F S1x512x128 .f32) : halfK (VecWindow.put x ![0, 0, 0] S1x512x128.size w) 1 = halfK x 1 :=
  VecWindow.window_put_of_disjoint x _ _ _ _ _ w (0 : Fin 3) (Or.inr (by decide))
theorem halfV_put0 (x : Vec F S2x512x64 .f32) (w : Vec F S1x512x64 .f32) : halfV (VecWindow.put x ![0, 0, 0] S1x512x64.size w) 1 = halfV x 1 :=
  VecWindow.window_put_of_disjoint x _ _ _ _ _ w (0 : Fin 3) (Or.inr (by decide))

/-- The diagonal step's pieces, over contents that read `dq` in the query gradient, leave the masked step's state. -/
theorem diag_step (h2 : arg2.view.read (Elt F) f0 = Q) (h3 : arg3.view.read (Elt F) f1 = D) (h4 : arg4.view.read (Elt F) f2 = L) (h5 : arg5.view.read (Elt F) f3 = E)
    (h6 : arg6.view.read (Elt F) f4 = K) (h7 : arg7.view.read (Elt F) f5 = V) (f6 g8 : BufTy.Contents (Elt F) arg8.view.ty) (dq : Vec F S2x8192x128 .f32) (x0 x1 : Vec F S1x512x128 .f32)
    (h8 : arg8.view.read (Elt F) f6 = dq) (e0 : x0 = rowsQ dq 0 (i 1)) (e1 : x1 = rowsQ dq 1 (i 1)) :
    stOf arg8 arg11 arg12 (arg8.view.writes (Elt F) f6 (diag8 i arg2 arg3 arg4 arg5 arg6 arg7 f0 f1 f2 f3 f4 f5 x0 x1))
      (arg11.view.writes (Elt F) arg11.view.junk (diag11 i arg2 arg3 arg4 arg5 arg6 arg7 arg11 f0 f1 f2 f3 f4 f5))
      (arg12.view.writes (Elt F) arg12.view.junk (diag12 i arg2 arg3 arg4 arg6 arg12 f0 f1 f2 f4))
      = step Q D L E K V true (i 1) (dq, k0_pay32, k0_pay33) := by
  have o1 : k0_off1 i = ![(0 : Fin 2).val, 512 * (i 1).val, 0] := k0_off1_eq i
  have o2 : k0_off2 i = ![(0 : Fin 2).val, 512 * (i 1).val, 0] := k0_off2_eq i
  have o3 : k0_off3 i = ![(0 : Fin 2).val, 0, 512 * (i 1).val] := k0_off3_eq i
  have o4 : k0_off4 i = ![(1 : Fin 2).val, 512 * (i 1).val, 0] := k0_off4_eq i
  have o5 : k0_off5 i = ![(1 : Fin 2).val, 512 * (i 1).val, 0] := k0_off5_eq i
  have o6 : k0_off6 i = ![(1 : Fin 2).val, 0, 512 * (i 1).val] := k0_off6_eq i
  have r1 (f) : rd arg2 f (k0_off1 i) S1x512x128.size (k0_off1_inb i) = rowsQ (arg2.view.read (Elt F) f) 0 (i 1) := View.readAt_unit arg2.view f _ o1 (inbQ 0 (i 1))
  have r2 (f) : rd arg3 f (k0_off2 i) S1x512x64.size (k0_off2_inb i) = rowsD (arg3.view.read (Elt F) f) 0 (i 1) := View.readAt_unit arg3.view f _ o2 (inbD 0 (i 1))
  have r3 (f) : rd arg4 f (k0_off3 i) S1x1x512.size (k0_off3_inb i) = rowsL (arg4.view.read (Elt F) f) 0 (i 1) := View.readAt_unit arg4.view f _ o3 (inbL 0 (i 1))
  have r3d (f) : rd arg5 f (k0_off3 i) S1x1x512.size (k0_off3_inb i) = rowsL (arg5.view.read (Elt F) f) 0 (i 1) := View.readAt_unit arg5.view f _ o3 (inbL 0 (i 1))
  have r4 (f) : rd arg2 f (k0_off4 i) S1x512x128.size (k0_off4_inb i) = rowsQ (arg2.view.read (Elt F) f) 1 (i 1) := View.readAt_unit arg2.view f _ o4 (inbQ 1 (i 1))
  have r5 (f) : rd arg3 f (k0_off5 i) S1x512x64.size (k0_off5_inb i) = rowsD (arg3.view.read (Elt F) f) 1 (i 1) := View.readAt_unit arg3.view f _ o5 (inbD 1 (i 1))
  have r6 (f) : rd arg4 f (k0_off6 i) S1x1x512.size (k0_off6_inb i) = rowsL (arg4.view.read (Elt F) f) 1 (i 1) := View.readAt_unit arg4.view f _ o6 (inbL 1 (i 1))
  have r6d (f) : rd arg5 f (k0_off6 i) S1x1x512.size (k0_off6_inb i) = rowsL (arg5.view.read (Elt F) f) 1 (i 1) := View.readAt_unit arg5.view f _ o6 (inbL 1 (i 1))
  have s0 (f) : rd arg11 f ![0, 0, 0] S1x512x128.size inb_S2x512x128_S1x512x128_0_0_0 = halfK (arg11.view.read (Elt F) f) 0 := View.readAt_unit arg11.view f _ rfl (inbK 0)
  have s1 (f) : rd arg11 f ![1, 0, 0] S1x512x128.size inb_S2x512x128_S1x512x128_1_0_0 = halfK (arg11.view.read (Elt F) f) 1 := View.readAt_unit arg11.view f _ rfl (inbK 1)
  have u0 (f) : rd arg12 f ![0, 0, 0] S1x512x64.size inb_S2x512x64_S1x512x64_0_0_0 = halfV (arg12.view.read (Elt F) f) 0 := View.readAt_unit arg12.view f _ rfl (inbV 0)
  have u1 (f) : rd arg12 f ![1, 0, 0] S1x512x64.size inb_S2x512x64_S1x512x64_1_0_0 = halfV (arg12.view.read (Elt F) f) 1 := View.readAt_unit arg12.view f _ rfl (inbV 1)
  have k0 (f) : rd arg6 f ![0, 0, 0] S1x512x128.size inb_S2x512x128_S1x512x128_0_0_0 = halfK (arg6.view.read (Elt F) f) 0 := View.readAt_unit arg6.view f _ rfl (inbK 0)
  have k1 (f) : rd arg6 f ![1, 0, 0] S1x512x128.size inb_S2x512x128_S1x512x128_1_0_0 = halfK (arg6.view.read (Elt F) f) 1 := View.readAt_unit arg6.view f _ rfl (inbK 1)
  have w0 (f) : rd arg7 f ![0, 0, 0] S1x512x64.size inb_S2x512x64_S1x512x64_0_0_0 = halfV (arg7.view.read (Elt F) f) 0 := View.readAt_unit arg7.view f _ rfl (inbV 0)
  have w1 (f) : rd arg7 f ![1, 0, 0] S1x512x64.size inb_S2x512x64_S1x512x64_1_0_0 = halfV (arg7.view.read (Elt F) f) 1 := View.readAt_unit arg7.view f _ rfl (inbV 1)
  have d0 : ds0 i arg2 arg3 arg4 arg5 arg6 arg7 f0 f1 f2 f3 f4 f5 = dscore Q D L E K V true (i 1) 0 := by
    unfold ds0; rw [r1, r2, r3, r3d, k0, w0, h2, h3, h4, h5, h6, h7]; rfl
  have d1 : ds1 i arg2 arg3 arg4 arg5 arg6 arg7 f0 f1 f2 f3 f4 f5 = dscore Q D L E K V true (i 1) 1 := by
    unfold ds1; rw [r4, r5, r6, r6d, k1, w1, h2, h3, h4, h5, h6, h7]; rfl
  have c11 (f w L) : arg11.view.read (Elt F) (arg11.view.writes (Elt F) f (⟨Rect.unit ![1, 0, 0] S1x512x128.size inb_S2x512x128_S1x512x128_1_0_0, w⟩ :: L)) = VecWindow.put (arg11.view.read (Elt F) (arg11.view.writes (Elt F) f L)) ![1, 0, 0] S1x512x128.size w := View.read_writes_cons_put _ _ _ _ _ rfl
  have c11' (f w L) : arg11.view.read (Elt F) (arg11.view.writes (Elt F) f (⟨Rect.unit ![0, 0, 0] S1x512x128.size inb_S2x512x128_S1x512x128_0_0_0, w⟩ :: L)) = VecWindow.put (arg11.view.read (Elt F) (arg11.view.writes (Elt F) f L)) ![0, 0, 0] S1x512x128.size w := View.read_writes_cons_put _ _ _ _ _ rfl
  have c12 (f w L) : arg12.view.read (Elt F) (arg12.view.writes (Elt F) f (⟨Rect.unit ![1, 0, 0] S1x512x64.size inb_S2x512x64_S1x512x64_1_0_0, w⟩ :: L)) = VecWindow.put (arg12.view.read (Elt F) (arg12.view.writes (Elt F) f L)) ![1, 0, 0] S1x512x64.size w := View.read_writes_cons_put _ _ _ _ _ rfl
  have c12' (f w L) : arg12.view.read (Elt F) (arg12.view.writes (Elt F) f (⟨Rect.unit ![0, 0, 0] S1x512x64.size inb_S2x512x64_S1x512x64_0_0_0, w⟩ :: L)) = VecWindow.put (arg12.view.read (Elt F) (arg12.view.writes (Elt F) f L)) ![0, 0, 0] S1x512x64.size w := View.read_writes_cons_put _ _ _ _ _ rfl
  have z11 : arg11.view.read (Elt F) (arg11.view.writes (Elt F) arg11.view.junk [⟨Rect.unit ![0, 0, 0] S2x512x128.size inb_S2x512x128_S2x512x128_0_0_0, k0_pay32⟩]) = k0_pay32 := View.read_writes_full _ _ _ _ _
  have z12 : arg12.view.read (Elt F) (arg12.view.writes (Elt F) arg12.view.junk [⟨Rect.unit ![0, 0, 0] S2x512x64.size inb_S2x512x64_S2x512x64_0_0_0, k0_pay33⟩]) = k0_pay33 := View.read_writes_full _ _ _ _ _
  refine Prod.ext ?_ (Prod.ext ?_ ?_)
  · show arg8.view.read (Elt F) _ = _
    unfold diag8
    rw [View.read_writes_cons_put _ _ _ _ _ o4, View.read_writes_cons_put _ _ _ _ _ o1, View.writes_nil, h8, d0, d1, k0, k1, h6, e0, e1]
    rfl
  · show arg11.view.read (Elt F) _ = _
    unfold diag11
    rw [c11, c11', z11, s1, c11', z11, s0, z11, halfK_put0, d0, d1, r1, r4, h2]
    rfl
  · show arg12.view.read (Elt F) _ = _
    unfold diag12
    rw [c12, c12', z12, u1, c12', z12, u0, z12, halfV_put0, r1, r2, r3, r4, r5, r6, k0, k1, h2, h3, h4, h6]
    rfl

/-- The loop after the diagonal step leaves the whole body's state. -/
theorem finish (h2 : arg2.view.read (Elt F) f0 = Q) (h3 : arg3.view.read (Elt F) f1 = D) (h4 : arg4.view.read (Elt F) f2 = L) (h5 : arg5.view.read (Elt F) f3 = E)
    (v12 v14 : FVec F S512x128 .bf16) (v16 v18 : FVec F S512x64 .bf16) (v225 : BitVec 32)
    (e12 : v12 = k0_pay34 (halfK K 0)) (e14 : v14 = k0_pay34 (halfK K 1)) (e16 : v16 = k0_pay36 (halfV V 0)) (e18 : v18 = k0_pay36 (halfV V 1))
    (G8 : BufTy.Contents (Elt F) arg8.view.ty) (G11 : BufTy.Contents (Elt F) arg11.view.ty) (G12 : BufTy.Contents (Elt F) arg12.view.ty) (dq : Vec F S2x8192x128 .f32)
    (hG : stOf arg8 arg11 arg12 G8 G11 G12 = step Q D L E K V true (i 1) (dq, k0_pay32, k0_pay33)) (n : ℕ) (hn : n = 15 - (i 1).val) :
    arg8.view.read (Elt F) (arg8.view.writes (Elt F) G8 (pb_k0_t1 (F := F) Variants.none c none i arg2 harg2 arg3 harg3 arg4 harg4 arg5 harg5 arg6 harg6 arg7 harg7 arg8 harg8 arg9 harg9 arg10 harg10 arg11 harg11 arg12 harg12 v12 v14 v16 v18 v225 f0 f1 f2 f3 G8 G11 G12 n).1) = (blockStep Q D L E K V (i 1) dq).1
      ∧ arg11.view.read (Elt F) (arg11.view.writes (Elt F) G11 (pb_k0_t1 (F := F) Variants.none c none i arg2 harg2 arg3 harg3 arg4 harg4 arg5 harg5 arg6 harg6 arg7 harg7 arg8 harg8 arg9 harg9 arg10 harg10 arg11 harg11 arg12 harg12 v12 v14 v16 v18 v225 f0 f1 f2 f3 G8 G11 G12 n).2.1) = (blockStep Q D L E K V (i 1) dq).2.1
      ∧ arg12.view.read (Elt F) (arg12.view.writes (Elt F) G12 (pb_k0_t1 (F := F) Variants.none c none i arg2 harg2 arg3 harg3 arg4 harg4 arg5 harg5 arg6 harg6 arg7 harg7 arg8 harg8 arg9 harg9 arg10 harg10 arg11 harg11 arg12 harg12 v12 v14 v16 v18 v225 f0 f1 f2 f3 G8 G11 G12 n).2.2) = (blockStep Q D L E K V (i 1) dq).2.2 := by
  have h := loop_steps Variants.none c none i arg2 harg2 arg3 harg3 arg4 harg4 arg5 harg5 arg6 harg6 arg7 harg7 arg8 harg8 arg9 harg9 arg10 harg10 arg11 harg11 arg12 harg12 v12 v14 v16 v18 v225 f0 f1 f2 f3 Q D L E K V h2 h3 h4 h5 e12 e14 e16 e18 G8 G11 G12 n
    (le_of_eq (hn.trans (trips1 i).symm))
  rw [hG] at h
  subst hn
  exact ⟨congrArg Prod.fst h, congrArg (fun s => s.2.1) h, congrArg (fun s => s.2.2) h⟩
end
end

end Cert.KernelIdeal.Attn
-- ==== Proof.BodyA.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Step
public import proofs.«01_k».proof.Proof.Diag

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

set_option maxHeartbeats 1000000 in
/-- The body at the first grid point of its heads, by values. -/
theorem bodyA (c : Dev nD) (i : grid0.Coords)
  (arg2 : Memref sig .tc .vmem S2x8192x128 .bf16) (harg2 : arg2.IsWhole)
  (arg3 : Memref sig .tc .vmem S2x8192x64 .bf16) (harg3 : arg3.IsWhole)
  (arg4 : Memref sig .tc .vmem S2x1x8192 .f32) (harg4 : arg4.IsWhole)
  (arg5 : Memref sig .tc .vmem S2x1x8192 .f32) (harg5 : arg5.IsWhole)
  (arg6 : Memref sig .tc .vmem S2x512x128 .bf16) (harg6 : arg6.IsWhole)
  (arg7 : Memref sig .tc .vmem S2x512x64 .bf16) (harg7 : arg7.IsWhole)
  (arg8 : Memref sig .tc .vmem S2x8192x128 .f32) (harg8 : arg8.IsWhole)
  (arg9 : Memref sig .tc .vmem S2x512x128 .f32) (harg9 : arg9.IsWhole)
  (arg10 : Memref sig .tc .vmem S2x512x64 .f32) (harg10 : arg10.IsWhole)
  (arg11 : Memref sig .tc .vmem S2x512x128 .f32) (harg11 : arg11.IsWhole)
  (arg12 : Memref sig .tc .vmem S2x512x64 .f32) (harg12 : arg12.IsWhole)
    (hc0 : firstOf i)
    (Q : Vec F S2x8192x128 .bf16) (D : Vec F S2x8192x64 .bf16) (L E : Vec F S2x1x8192 .f32) (K : Vec F S2x512x128 .bf16) (V : Vec F S2x512x64 .bf16)
    (dq : Vec F S2x8192x128 .f32) (E' : Set ℕ) (K' : PUnit → sProp 𝕄) :
    iprop(owns (c : Thread nD τ) arg2 fullShare Q ∗ owns (c : Thread nD τ) arg3 fullShare D ∗ owns (c : Thread nD τ) arg4 fullShare L ∗ owns (c : Thread nD τ) arg5 fullShare E ∗ owns (c : Thread nD τ) arg6 fullShare K ∗ owns (c : Thread nD τ) arg7 fullShare V ∗ owns (c : Thread nD τ) arg8 fullShare dq ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg2 fullShare Q ∗ owns (c : Thread nD τ) arg3 fullShare D ∗ owns (c : Thread nD τ) arg4 fullShare L ∗ owns (c : Thread nD τ) arg5 fullShare E ∗ owns (c : Thread nD τ) arg6 fullShare K ∗ owns (c : Thread nD τ) arg7 fullShare V ∗ owns (c : Thread nD τ) arg8 fullShare (blockStep Q D L E K V (i 1) k0_pay31).1 ∗ owns (c : Thread nD τ) arg9 fullShare (blockStep Q D L E K V (i 1) k0_pay31).2.1 ∗ owns (c : Thread nD τ) arg10 fullShare (blockStep Q D L E K V (i 1) k0_pay31).2.2 ∗ (∃ d, owns (c : Thread nD τ) arg11 fullShare d) ∗ (∃ d, owns (c : Thread nD τ) arg12 fullShare d) -∗ K' ⟨⟩)))
    ⊢ wp frame (wpE (defs₀ (F := F)) Variants.none c none) E' (cc0_attn_bwd1 i arg2 harg2 arg3 harg3 arg4 harg4 arg5 harg5 arg6 harg6 arg7 harg7 arg8 harg8 arg9 harg9 arg10 harg10 arg11 harg11 arg12 harg12) K' := by
  simp only [cc0_attn_bwd1_eq_skeleton]; unfold cc0_attn_bwd1_skel
  simp only [k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  sl_exec (disch := first | sl_exact hc0)
  sl_step
  have hz8 : arg8.view.read (Elt F) (arg8.view.writes (Elt F) arg8.view.junk bodyA.sl.H6_1) = k0_pay31 := View.read_writes_full arg8.view _ _ _ _
  have hz0 : rd arg8 (arg8.view.writes (Elt F) arg8.view.junk bodyA.sl.H6_1) (k0_off1 i) S1x512x128.size (k0_off1_inb i) = rowsQ k0_pay31 0 (i 1) := by
    rw [← hz8]; exact View.readAt_unit arg8.view _ _ (k0_off1_eq i) (inbQ 0 (i 1))
  have hz1 : rd arg8 (arg8.view.writes (Elt F) arg8.view.junk (bodyA.sl.H6_2 c i arg2 arg3 arg4 arg5 arg6 arg7 arg8 f0 f1 f2 f3 f4 f5)) (k0_off4 i) S1x512x128.size (k0_off4_inb i) = rowsQ k0_pay31 1 (i 1) := by
    refine (View.readAt_unit arg8.view _ _ (k0_off4_eq i) (inbQ 1 (i 1))).trans ?_
    unfold bodyA.sl.H6_2
    rw [View.read_writes_cons_put _ _ _ _ _ (k0_off1_eq i), hz8]
    exact VecWindow.window_put_of_disjoint _ _ _ _ _ _ _ (0 : Fin 3) (Or.inr (by show 0 + 1 ≤ 1; decide))
  have er : bodyA.sl.r c arg6 f4 = k0_pay34 (rd arg6 f4 ![0, 0, 0] S1x512x128.size inb_S2x512x128_S1x512x128_0_0_0) := rfl
  have er1 : bodyA.sl.r_1 c arg6 f4 = k0_pay34 (rd arg6 f4 ![1, 0, 0] S1x512x128.size inb_S2x512x128_S1x512x128_1_0_0) := rfl
  have er2 : bodyA.sl.r_2 c arg7 f5 = k0_pay36 (rd arg7 f5 ![0, 0, 0] S1x512x64.size inb_S2x512x64_S1x512x64_0_0_0) := rfl
  have er3 : bodyA.sl.r_3 c arg7 f5 = k0_pay36 (rd arg7 f5 ![1, 0, 0] S1x512x64.size inb_S2x512x64_S1x512x64_1_0_0) := rfl
  have el11 : bodyA.sl.HS0_3 c i arg2 arg3 arg4 arg5 arg6 arg7 arg11 f0 f1 f2 f3 f4 f5 = diag11 i arg2 arg3 arg4 arg5 arg6 arg7 arg11 f0 f1 f2 f3 f4 f5 := rfl
  have el12 : bodyA.sl.HS1_3 c i arg2 arg3 arg4 arg6 arg12 f0 f1 f2 f4 = diag12 i arg2 arg3 arg4 arg6 arg12 f0 f1 f2 f4 := rfl
  have el8 : (⟨Rect.unit (k0_off4 i) S1x512x128.size (k0_off4_inb i), k0_pay62 (bodyA.sl.r_1 c arg6 f4) (bodyA.sl.r_3 c arg7 f5) (bodyA.sl.r_10 c i arg3 f1) (bodyA.sl.r_12 c i arg2 arg4 arg6 f0 f2 f4) (rd arg5 f3 (k0_off6 i) S1x1x512.size (k0_off6_inb i)) (bodyA.sl.v217 c i arg2 arg3 arg4 arg5 arg6 arg7 arg8 f0 f1 f2 f3 f4 f5)⟩ :: bodyA.sl.H6_2 c i arg2 arg3 arg4 arg5 arg6 arg7 arg8 f0 f1 f2 f3 f4 f5 : List (View.Piece (Elt F) S2x8192x128 .f32))
      = diag8 i arg2 arg3 arg4 arg5 arg6 arg7 f0 f1 f2 f3 f4 f5 (rd arg8 (arg8.view.writes (Elt F) arg8.view.junk bodyA.sl.H6_1) (k0_off1 i) S1x512x128.size (k0_off1_inb i)) (rd arg8 (arg8.view.writes (Elt F) arg8.view.junk (bodyA.sl.H6_2 c i arg2 arg3 arg4 arg5 arg6 arg7 arg8 f0 f1 f2 f3 f4 f5)) (k0_off4 i) S1x512x128.size (k0_off4_inb i)) ++ bodyA.sl.H6_1 := rfl
  have hd := diag_step i arg2 arg3 arg4 arg5 arg6 arg7 arg8 arg11 arg12 f0 f1 f2 f3 f4 f5 Q D L E K V hf0 hf1 hf2 hf3 hf4 hf5 (arg8.view.writes (Elt F) arg8.view.junk bodyA.sl.H6_1) (arg8.view.writes (Elt F) arg8.view.junk bodyA.sl.H6_1) k0_pay31 (rd arg8 (arg8.view.writes (Elt F) arg8.view.junk bodyA.sl.H6_1) (k0_off1 i) S1x512x128.size (k0_off1_inb i)) (rd arg8 (arg8.view.writes (Elt F) arg8.view.junk (bodyA.sl.H6_2 c i arg2 arg3 arg4 arg5 arg6 arg7 arg8 f0 f1 f2 f3 f4 f5)) (k0_off4 i) S1x512x128.size (k0_off4_inb i)) hz8 hz0 hz1
  have hfin := finish c i arg2 harg2 arg3 harg3 arg4 harg4 arg5 harg5 arg6 harg6 arg7 harg7 arg8 harg8 arg9 harg9 arg10 harg10 arg11 harg11 arg12 harg12 f0 f1 f2 f3 Q D L E K V hf0 hf1 hf2 hf3
    (k0_pay34 (rd arg6 f4 ![0, 0, 0] S1x512x128.size inb_S2x512x128_S1x512x128_0_0_0)) (k0_pay34 (rd arg6 f4 ![1, 0, 0] S1x512x128.size inb_S2x512x128_S1x512x128_1_0_0))
    (k0_pay36 (rd arg7 f5 ![0, 0, 0] S1x512x64.size inb_S2x512x64_S1x512x64_0_0_0)) (k0_pay36 (rd arg7 f5 ![1, 0, 0] S1x512x64.size inb_S2x512x64_S1x512x64_1_0_0)) (bodyA.sl.v225 i)
    (by rw [← hf4]; rfl) (by rw [← hf4]; rfl)
    (by rw [← hf5]; rfl) (by rw [← hf5]; rfl)
    _ _ _ k0_pay31 hd _ (trips1 i)
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr; swap; · iexact H6
    ipureintro
    rw [trips2 i, pb2_zero8, List.nil_append, el8, el11, el12, er, er1, er2, er3]
    repeat rw [View.writes_append]
    exact hfin.1
  isplitl [H7]
  · iexists _; isplitr; swap; · iexact H7
    ipureintro
    rw [View.read_writes_full]
    unfold bodyA.sl.v231
    refine Eq.trans (View.readAt_full _ _ _) ?_
    rw [trips2 i, pb2_zero11, List.nil_append, el8, el11, el12, er, er1, er2, er3]
    repeat rw [View.writes_append]
    exact hfin.2.1
  isplitl [H8]
  · iexists _; isplitr; swap; · iexact H8
    ipureintro
    rw [View.read_writes_full]
    unfold bodyA.sl.v233
    refine Eq.trans (View.readAt_full _ _ _) ?_
    rw [trips2 i, pb2_zero12, List.nil_append, el8, el11, el12, er, er1, er2, er3]
    repeat rw [View.writes_append]
    exact hfin.2.2
  isplitl [HS0]
  · iexists _, _; isplitr; swap; · iexact HS0
    ipureintro; rfl
  iexists _, _; isplitr; swap; · iexact HS1
  ipureintro; rfl

end Cert.KernelIdeal.Attn
-- ==== Proof.BodyB.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Step
public import proofs.«01_k».proof.Proof.Diag

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

set_option maxHeartbeats 1000000 in
/-- The body at a grid point that is not the first of its heads, by values. -/
theorem bodyB (c : Dev nD) (i : grid0.Coords)
  (arg2 : Memref sig .tc .vmem S2x8192x128 .bf16) (harg2 : arg2.IsWhole)
  (arg3 : Memref sig .tc .vmem S2x8192x64 .bf16) (harg3 : arg3.IsWhole)
  (arg4 : Memref sig .tc .vmem S2x1x8192 .f32) (harg4 : arg4.IsWhole)
  (arg5 : Memref sig .tc .vmem S2x1x8192 .f32) (harg5 : arg5.IsWhole)
  (arg6 : Memref sig .tc .vmem S2x512x128 .bf16) (harg6 : arg6.IsWhole)
  (arg7 : Memref sig .tc .vmem S2x512x64 .bf16) (harg7 : arg7.IsWhole)
  (arg8 : Memref sig .tc .vmem S2x8192x128 .f32) (harg8 : arg8.IsWhole)
  (arg9 : Memref sig .tc .vmem S2x512x128 .f32) (harg9 : arg9.IsWhole)
  (arg10 : Memref sig .tc .vmem S2x512x64 .f32) (harg10 : arg10.IsWhole)
  (arg11 : Memref sig .tc .vmem S2x512x128 .f32) (harg11 : arg11.IsWhole)
  (arg12 : Memref sig .tc .vmem S2x512x64 .f32) (harg12 : arg12.IsWhole)
    (hc0 : ¬ firstOf i)
    (Q : Vec F S2x8192x128 .bf16) (D : Vec F S2x8192x64 .bf16) (L E : Vec F S2x1x8192 .f32) (K : Vec F S2x512x128 .bf16) (V : Vec F S2x512x64 .bf16)
    (dq : Vec F S2x8192x128 .f32) (E' : Set ℕ) (K' : PUnit → sProp 𝕄) :
    iprop(owns (c : Thread nD τ) arg2 fullShare Q ∗ owns (c : Thread nD τ) arg3 fullShare D ∗ owns (c : Thread nD τ) arg4 fullShare L ∗ owns (c : Thread nD τ) arg5 fullShare E ∗ owns (c : Thread nD τ) arg6 fullShare K ∗ owns (c : Thread nD τ) arg7 fullShare V ∗ owns (c : Thread nD τ) arg8 fullShare dq ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg2 fullShare Q ∗ owns (c : Thread nD τ) arg3 fullShare D ∗ owns (c : Thread nD τ) arg4 fullShare L ∗ owns (c : Thread nD τ) arg5 fullShare E ∗ owns (c : Thread nD τ) arg6 fullShare K ∗ owns (c : Thread nD τ) arg7 fullShare V ∗ owns (c : Thread nD τ) arg8 fullShare (blockStep Q D L E K V (i 1) dq).1 ∗ owns (c : Thread nD τ) arg9 fullShare (blockStep Q D L E K V (i 1) dq).2.1 ∗ owns (c : Thread nD τ) arg10 fullShare (blockStep Q D L E K V (i 1) dq).2.2 ∗ (∃ d, owns (c : Thread nD τ) arg11 fullShare d) ∗ (∃ d, owns (c : Thread nD τ) arg12 fullShare d) -∗ K' ⟨⟩)))
    ⊢ wp frame (wpE (defs₀ (F := F)) Variants.none c none) E' (cc0_attn_bwd1 i arg2 harg2 arg3 harg3 arg4 harg4 arg5 harg5 arg6 harg6 arg7 harg7 arg8 harg8 arg9 harg9 arg10 harg10 arg11 harg11 arg12 harg12) K' := by
  simp only [cc0_attn_bwd1_eq_skeleton]; unfold cc0_attn_bwd1_skel
  simp only [k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  sl_exec (disch := first | sl_exact hc0)
  sl_step
  have er : bodyB.sl.r c arg6 f4 = k0_pay34 (rd arg6 f4 ![0, 0, 0] S1x512x128.size inb_S2x512x128_S1x512x128_0_0_0) := rfl
  have er1 : bodyB.sl.r_1 c arg6 f4 = k0_pay34 (rd arg6 f4 ![1, 0, 0] S1x512x128.size inb_S2x512x128_S1x512x128_1_0_0) := rfl
  have er2 : bodyB.sl.r_2 c arg7 f5 = k0_pay36 (rd arg7 f5 ![0, 0, 0] S1x512x64.size inb_S2x512x64_S1x512x64_0_0_0) := rfl
  have er3 : bodyB.sl.r_3 c arg7 f5 = k0_pay36 (rd arg7 f5 ![1, 0, 0] S1x512x64.size inb_S2x512x64_S1x512x64_1_0_0) := rfl
  have el11 : bodyB.sl.HS0_3 c i arg2 arg3 arg4 arg5 arg6 arg7 arg11 f0 f1 f2 f3 f4 f5 = diag11 i arg2 arg3 arg4 arg5 arg6 arg7 arg11 f0 f1 f2 f3 f4 f5 := rfl
  have el12 : bodyB.sl.HS1_3 c i arg2 arg3 arg4 arg6 arg12 f0 f1 f2 f4 = diag12 i arg2 arg3 arg4 arg6 arg12 f0 f1 f2 f4 := rfl
  have el8 : ([⟨Rect.unit (k0_off4 i) S1x512x128.size (k0_off4_inb i), k0_pay62 (bodyB.sl.r_1 c arg6 f4) (bodyB.sl.r_3 c arg7 f5) (bodyB.sl.r_10 c i arg3 f1) (bodyB.sl.r_12 c i arg2 arg4 arg6 f0 f2 f4) (rd arg5 f3 (k0_off6 i) S1x1x512.size (k0_off6_inb i)) (bodyB.sl.v217 c i arg8 f6)⟩,
      ⟨Rect.unit (k0_off1 i) S1x512x128.size (k0_off1_inb i), k0_pay50 (bodyB.sl.r c arg6 f4) (bodyB.sl.r_7 c i arg2 arg3 arg4 arg5 arg6 arg7 f0 f1 f2 f3 f4 f5) (rd arg8 f6 (k0_off1 i) S1x512x128.size (k0_off1_inb i))⟩] : List (View.Piece (Elt F) S2x8192x128 .f32))
      = diag8 i arg2 arg3 arg4 arg5 arg6 arg7 f0 f1 f2 f3 f4 f5 (rd arg8 f6 (k0_off1 i) S1x512x128.size (k0_off1_inb i)) (rd arg8 f6 (k0_off4 i) S1x512x128.size (k0_off4_inb i)) := rfl
  have hd := diag_step i arg2 arg3 arg4 arg5 arg6 arg7 arg8 arg11 arg12 f0 f1 f2 f3 f4 f5 Q D L E K V hf0 hf1 hf2 hf3 hf4 hf5 f6 f6 dq (rd arg8 f6 (k0_off1 i) S1x512x128.size (k0_off1_inb i)) (rd arg8 f6 (k0_off4 i) S1x512x128.size (k0_off4_inb i)) hf6 (by rw [← hf6]; exact View.readAt_unit arg8.view f6 _ (k0_off1_eq i) (inbQ 0 (i 1))) (by rw [← hf6]; exact View.readAt_unit arg8.view f6 _ (k0_off4_eq i) (inbQ 1 (i 1)))
  have hfin := finish c i arg2 harg2 arg3 harg3 arg4 harg4 arg5 harg5 arg6 harg6 arg7 harg7 arg8 harg8 arg9 harg9 arg10 harg10 arg11 harg11 arg12 harg12 f0 f1 f2 f3 Q D L E K V hf0 hf1 hf2 hf3
    (k0_pay34 (rd arg6 f4 ![0, 0, 0] S1x512x128.size inb_S2x512x128_S1x512x128_0_0_0)) (k0_pay34 (rd arg6 f4 ![1, 0, 0] S1x512x128.size inb_S2x512x128_S1x512x128_1_0_0))
    (k0_pay36 (rd arg7 f5 ![0, 0, 0] S1x512x64.size inb_S2x512x64_S1x512x64_0_0_0)) (k0_pay36 (rd arg7 f5 ![1, 0, 0] S1x512x64.size inb_S2x512x64_S1x512x64_1_0_0)) (bodyB.sl.v225 i)
    (by rw [← hf4]; rfl) (by rw [← hf4]; rfl)
    (by rw [← hf5]; rfl) (by rw [← hf5]; rfl)
    _ _ _ dq hd _ (trips1 i)
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr; swap; · iexact H6
    ipureintro
    rw [trips2 i, pb2_zero8, List.nil_append, el8, el11, el12, er, er1, er2, er3]
    repeat rw [View.writes_append]
    exact hfin.1
  isplitl [H7]
  · iexists _; isplitr; swap; · iexact H7
    ipureintro
    rw [View.read_writes_full]
    unfold bodyB.sl.v231
    refine Eq.trans (View.readAt_full _ _ _) ?_
    rw [trips2 i, pb2_zero11, List.nil_append, el8, el11, el12, er, er1, er2, er3]
    repeat rw [View.writes_append]
    exact hfin.2.1
  isplitl [H8]
  · iexists _; isplitr; swap; · iexact H8
    ipureintro
    rw [View.read_writes_full]
    unfold bodyB.sl.v233
    refine Eq.trans (View.readAt_full _ _ _) ?_
    rw [trips2 i, pb2_zero12, List.nil_append, el8, el11, el12, er, er1, er2, er3]
    repeat rw [View.writes_append]
    exact hfin.2.2
  isplitl [HS0]
  · iexists _, _; isplitr; swap; · iexact HS0
    ipureintro; rfl
  iexists _, _; isplitr; swap; · iexact HS1
  ipureintro; rfl

end Cert.KernelIdeal.Attn
-- ==== Proof.Run.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Step
public import proofs.«01_k».proof.Proof.Diag
public import proofs.«01_k».proof.Proof.BodyA
public import proofs.«01_k».proof.Proof.BodyB
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # What the kernel leaves, point by point -/

/-- The first point of each pair of heads is the one whose second coordinate is zero. -/
theorem firstOf_iff : ∀ t : Fin cfg0.N, firstOf (grid0.coords t) ↔ t.val % 16 = 0 := (fun t => by
    have ht : t.val < 64 := Nat.lt_of_lt_of_eq t.isLt N_0
    have e1 : (grid0.coords t 1).val = t.val / 1 % 16 := Pipeline.Grid.coords_val t 1 (by decide) rfl
    simp only [firstOf, e1]
    word_cmp : ∀ t : Fin grid0.N, _)

/-- The body's state after point `t`, the query gradient having been `dq` before it. -/
def stateOn (c : Dev nD) (t : Fin cfg0.N) (dq : Vec F S2x8192x128 .f32) : St F :=
  blockStep (iblk m c 0 t) (iblk m c 1 t) (iblk m c 2 t) (iblk m c 3 t) (iblk m c 4 t) (iblk m c 5 t) (grid0.coords t 1) dq

/-- The grid point numbered `n`. -/
def pt (n : ℕ) : Fin cfg0.N := ⟨n % 64, Nat.lt_of_lt_of_eq (Nat.mod_lt n (by decide)) N_0.symm⟩

theorem pt_val (t : Fin cfg0.N) : pt t.val = t :=
  Fin.ext (Nat.mod_eq_of_lt (Nat.lt_of_lt_of_eq t.isLt N_0))

/-- The query gradient under way after point `n`: it starts at zero at the first point of each pair of heads. -/
def dqAfter (c : Dev nD) : ℕ → Vec F S2x8192x128 .f32
  | 0 => (stateOn m c (pt 0) k0_pay31).1
  | n + 1 => (stateOn m c (pt (n + 1)) (if (n + 1) % 16 = 0 then k0_pay31 else dqAfter c n)).1

theorem dqAfter_first (c : Dev nD) (t : Fin cfg0.N) (h : t.val % 16 = 0) : dqAfter m c t.val = (stateOn m c t k0_pay31).1 := by
  obtain ⟨n, hn⟩ : ∃ n, t.val = n := ⟨_, rfl⟩
  have hp : pt n = t := hn ▸ pt_val t
  rw [hn]
  cases n with
  | zero => rw [dqAfter, hp]
  | succ n => rw [dqAfter, hp, if_pos (hn ▸ h)]

theorem dqAfter_next (c : Dev nD) (t : Fin cfg0.N) (h : ¬ t.val % 16 = 0) :
    dqAfter m c t.val = (stateOn m c t (dqAfter m c (t.val - 1))).1 := by
  obtain ⟨n, hn⟩ : ∃ n, t.val = n := ⟨_, rfl⟩
  have hp : pt n = t := hn ▸ pt_val t
  rw [hn]
  cases n with
  | zero => exact absurd (by rw [hn]) h
  | succ n => rw [dqAfter, hp, if_neg (hn ▸ h)]; rfl

/-- The two other outputs do not depend on the query gradient under way. -/
theorem steps_snd (Q : Vec F S2x8192x128 .bf16) (D : Vec F S2x8192x64 .bf16) (L E : Vec F S2x1x8192 .f32) (K : Vec F S2x512x128 .bf16) (V : Vec F S2x512x64 .bf16)
    (ki : Fin 16) (s s' : St F) (h : s.2 = s'.2) (n : ℕ) : (steps Q D L E K V ki s n).2 = (steps Q D L E K V ki s' n).2 := by
  induction n with
  | zero => exact h
  | succ n ih =>
    rw [steps, steps]
    split
    · unfold step; dsimp only; rw [ih]
    · exact ih

theorem stateOn_snd (c : Dev nD) (t : Fin cfg0.N) (dq dq' : Vec F S2x8192x128 .f32) : (stateOn m c t dq).2 = (stateOn m c t dq').2 := by
  unfold stateOn blockStep
  exact steps_snd _ _ _ _ _ _ _ _ _ (by unfold step; rfl) _

/-! # The proof data -/

/-- After the body at point `t` each input's buffer is at its block, and each output's at the state's part. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAfter m c t.val
    | ⟨7, _⟩ => (stateOn m c t k0_pay31).2.1
    | ⟨8, _⟩ => (stateOn m c t k0_pay31).2.2
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqAfter m c t.val := by dsimp only [dats]
theorem after0_7 (c : Dev nD) (t : Fin cfg0.N) : (dats m 0 c).after 7 t = (stateOn m c t k0_pay31).2.1 := by dsimp only [dats]
theorem after0_8 (c : Dev nD) (t : Fin cfg0.N) : (dats m 0 c).after 8 t = (stateOn m c t k0_pay31).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Past the first point of its heads, the query gradient's buffer holds what the point before left. -/
theorem before0_6 (c : Dev nD) (t : Fin cfg0.N) (h : ¬ t.val % 16 = 0) (d) : (dats m 0 c).before 6 t d = dqAfter m c (t.val - 1) := by
  have ht : t.val ≠ 0 := fun e => h (by rw [e])
  rw [(dats m 0 c).before_out_kept 6 rfl t ht (by
    rw [Bool.eq_false_iff]
    intro hf
    have := (flush0_6 _).mp hf
    dsimp only at this
    omega) (fun _ => rfl) (fun _ _ => rfl) d, after0_6]

/-! # The body at every point -/

abbrev ms0_0 (t : Fin cfg0.N) : Memref sig .tc .vmem S2x8192x128 .bf16 := win0_0.stage (cfg0.slots t 0)
abbrev ms0_1 (t : Fin cfg0.N) : Memref sig .tc .vmem S2x8192x64 .bf16 := win0_1.stage (cfg0.slots t 1)
abbrev ms0_2 (t : Fin cfg0.N) : Memref sig .tc .vmem S2x1x8192 .f32 := win0_2.stage (cfg0.slots t 2)
abbrev ms0_3 (t : Fin cfg0.N) : Memref sig .tc .vmem S2x1x8192 .f32 := win0_3.stage (cfg0.slots t 3)
abbrev ms0_4 (t : Fin cfg0.N) : Memref sig .tc .vmem S2x512x128 .bf16 := win0_4.stage (cfg0.slots t 4)
abbrev ms0_5 (t : Fin cfg0.N) : Memref sig .tc .vmem S2x512x64 .bf16 := win0_5.stage (cfg0.slots t 5)
abbrev ms0_6 (t : Fin cfg0.N) : Memref sig .tc .vmem S2x8192x128 .f32 := win0_6.stage (cfg0.slots t 6)
abbrev ms0_7 (t : Fin cfg0.N) : Memref sig .tc .vmem S2x512x128 .f32 := win0_7.stage (cfg0.slots t 7)
abbrev ms0_8 (t : Fin cfg0.N) : Memref sig .tc .vmem S2x512x64 .f32 := win0_8.stage (cfg0.slots t 8)
abbrev scM0_0 : Memref sig .tc .vmem S2x512x128 .f32 := Memref.whole cc0_scratch0
abbrev scM0_1 : Memref sig .tc .vmem S2x512x64 .f32 := Memref.whole cc0_scratch1

/-- The invariant, as the two scratches at some contents and the generator's register. -/
theorem PhiA0_eq (c : Dev nD) : (Pipeline.ΦA spec0 c : sProp 𝕄) = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point takes what the windows hold before it to what they hold after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  by_cases h0 : t.val % 16 = 0
  · rw [dqAfter_first m c t h0]
    unfold stateOn
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bodyA c (grid0.coords t) _ _ _ _ _ _ _ _ _ _ _ _ _ _ _ _ _ _ _ _ _ _ ((firstOf_iff t).mpr h0) (iblk m c 0 t) (iblk m c 1 t) (iblk m c 2 t) (iblk m c 3 t) (iblk m c 4 t) (iblk m c 5 t) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [dqAfter_next m c t h0, stateOn_snd m c t k0_pay31 (dqAfter m c (t.val - 1))]
    simp only [before0_6 m c t h0]
    unfold stateOn
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bodyB c (grid0.coords t) _ _ _ _ _ _ _ _ _ _ _ _ _ _ _ _ _ _ _ _ _ _ (fun h => h0 ((firstOf_iff t).mp h)) (iblk m c 0 t) (iblk m c 1 t) (iblk m c 2 t) (iblk m c 3 t) (iblk m c 4 t) (iblk m c 5 t) (dqAfter m c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

/-- The body's triple at every point of the grid. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! # The run and the frame -/

set_option backward.isDefEq.respectTransparency.types false in
set_option maxHeartbeats 800000 in
/-- Every run ends with the arrays at the proof data's final contents and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame of the idealised kernel: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Attn
-- ==== Proof.Rounded.lean ====
module

public import proofs.«01_k».proof.Defs
public import proofs.«01_k».proof.Proof.Gen.Kernel
public import proofs.«01_k».proof.Proof.Run

@[expose] public section

/-!
  The frame of the kernel at words. The two programs differ in the two named constants alone, and `Attn.frame` holds of
  the named program at any float values: where a name reads as its word, the two are one program.
-/

noncomputable section

namespace Cert.Rounded

open Idealize.ShloMosaic Idealize.SL.Sem

attribute [local instance] Cert.Kernel.Gen.facts Cert.KernelIdeal.Gen.facts

/-- A named constant read as its word. -/
@[local instance, instance_reducible] def wordNamed : Named Bits where
  named _ _ {φ} b := FloatOps.ofBits (F := Bits) φ b

set_option maxRecDepth 20000 in
set_option maxHeartbeats 4000000 in
theorem main_eq : Cert.Kernel.main (F := Bits) = Cert.KernelIdeal.main (F := Bits) := by
  funext c; rfl

set_option maxRecDepth 20000 in
set_option maxHeartbeats 4000000 in
theorem body_eq : @Cert.Kernel.cc0_attn_bwd1 Bits _ _ = @Cert.KernelIdeal.cc0_attn_bwd1 Bits _ _ _ := by
  rfl

set_option maxRecDepth 20000 in
set_option maxHeartbeats 4000000 in
theorem bodies_eq : Cert.Kernel.defs₀ (F := Bits) = Cert.KernelIdeal.defs₀ (F := Bits) := by
  refine congrArg Defs.onTc (funext fun l => funext fun a => ?_)
  match l, a with
  | ⟨0, _⟩, (t, s) =>
    show Cert.Kernel.cc0_attn_bwd1 _ _ _ _ _ _ _ _ _ _ _ _ _ _ _ _ _ _ _ _ _ _ _ = Cert.KernelIdeal.cc0_attn_bwd1 _ _ _ _ _ _ _ _ _ _ _ _ _ _ _ _ _ _ _ _ _ _ _
    rw [body_eq]; rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.Kernel.pcfgs (F := Bits))) bodies_eq

theorem frame : Cert.quiescent_Kernel (hKernel := Cert.Kernel.Gen.facts) := fun m ρ _ =>
  Eq.mpr (congrArg₂ (fun d p => θ_run d (onTc (τ := Cert.Kernel.τ) p) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)) defs_eq main_eq)
    (Cert.KernelIdeal.Attn.frame (F := Bits) m ρ)

end Cert.Rounded

end
-- ==== Proof.Math.lean ====
/-
  The gradient of attention with the block-causal chunk mask, over the real numbers.

  Eight heads, 8192 positions, keys and queries 96 wide, values 64 wide. A query sees the keys of its own chunk of 64
  positions and of the chunks before it.
-/
module

public import Mathlib.Analysis.SpecialFunctions.Pow.Real
public import Mathlib.Tactic.FieldSimp
public import Mathlib.Tactic.Ring
public import Mathlib.Algebra.BigOperators.Fin
public import Mathlib.Algebra.BigOperators.Field

@[expose] public section

noncomputable section

namespace Cert.Attn

open scoped BigOperators

/-- Query position `i` sees key position `j`. -/
def seen (i j : Fin 8192) : Prop := j.val / 64 ≤ i.val / 64
instance (i j : Fin 8192) : Decidable (seen i j) := inferInstanceAs (Decidable (_ ≤ _))

theorem seen_self (i : Fin 8192) : seen i i := le_refl _

section
variable (q k : Fin 8 → Fin 8192 → Fin 96 → ℝ) (v g : Fin 8 → Fin 8192 → Fin 64 → ℝ)

/-- The scaled score of a query and a key. -/
def score (h : Fin 8) (i j : Fin 8192) : ℝ := (∑ d, q h i d * k h j d) / √96
/-- The exponential of the score, less `c`; zero for a key that is not seen. -/
def wt (c : ℝ) (h : Fin 8) (i j : Fin 8192) : ℝ := if seen i j then Real.exp (score q k h i j - c) else 0
/-- The sum of a query's weights. -/
def norm (c : ℝ) (h : Fin 8) (i : Fin 8192) : ℝ := ∑ j, wt q k c h i j
/-- The attention probability. -/
def P (h : Fin 8) (i j : Fin 8192) : ℝ := wt q k 0 h i j / norm q k 0 h i
/-- The gradient of the probability. -/
def dp (h : Fin 8) (i j : Fin 8192) : ℝ := ∑ d, g h i d * v h j d
/-- A query's mean of the probabilities' gradients. -/
def delta (h : Fin 8) (i : Fin 8192) : ℝ := ∑ j, P q k h i j * dp v g h i j
/-- The gradient of the unscaled score. -/
def dS (h : Fin 8) (i j : Fin 8192) : ℝ := P q k h i j * (dp v g h i j - delta q k v g h i) / √96
/-- The gradient of the queries. -/
def dq (h : Fin 8) (i : Fin 8192) (d : Fin 96) : ℝ := ∑ j, dS q k v g h i j * k h j d
/-- The gradient of the keys. -/
def dk (h : Fin 8) (j : Fin 8192) (d : Fin 96) : ℝ := ∑ i, dS q k v g h i j * q h i d
/-- The gradient of the values. -/
def dv (h : Fin 8) (j : Fin 8192) (d : Fin 64) : ℝ := ∑ i, P q k h i j * g h i d

/-! ### The softmax does not depend on what is subtracted -/

theorem wt_nonneg (c : ℝ) (h : Fin 8) (i j : Fin 8192) : 0 ≤ wt q k c h i j := by
  unfold wt; split_ifs
  · exact (Real.exp_pos _).le
  · exact le_rfl

theorem norm_pos (c : ℝ) (h : Fin 8) (i : Fin 8192) : 0 < norm q k c h i :=
  Finset.sum_pos' (fun j _ => wt_nonneg q k c h i j)
    ⟨i, Finset.mem_univ _, by unfold wt; rw [if_pos (seen_self i)]; exact Real.exp_pos _⟩

theorem wt_shift (c : ℝ) (h : Fin 8) (i j : Fin 8192) : wt q k c h i j = wt q k 0 h i j * Real.exp (-c) := by
  unfold wt; split_ifs
  · rw [← Real.exp_add]; congr 1; ring
  · rw [zero_mul]

theorem norm_shift (c : ℝ) (h : Fin 8) (i : Fin 8192) : norm q k c h i = norm q k 0 h i * Real.exp (-c) := by
  unfold norm; rw [Finset.sum_mul]; exact Finset.sum_congr rfl fun j _ => wt_shift q k c h i j

theorem wt_div_norm (c : ℝ) (h : Fin 8) (i j : Fin 8192) : wt q k c h i j / norm q k c h i = P q k h i j := by
  rw [wt_shift, norm_shift, mul_div_mul_right _ _ (Real.exp_pos _).ne']; rfl

theorem P_unseen (h : Fin 8) (i j : Fin 8192) (hs : ¬seen i j) : P q k h i j = 0 := by
  unfold P wt; rw [if_neg hs, zero_div]

theorem dS_unseen (h : Fin 8) (i j : Fin 8192) (hs : ¬seen i j) : dS q k v g h i j = 0 := by
  unfold dS; rw [P_unseen q k h i j hs, zero_mul, zero_div]

/-- The probability as a power of two, off the logarithm of the weights' sum to base two. -/
theorem P_eq_rpow (c : ℝ) (h : Fin 8) (i j : Fin 8192) (hs : seen i j) :
    (2 : ℝ) ^ ((∑ d, q h i d * k h j d) * ((√96)⁻¹ * (Real.log 2)⁻¹) - (c + Real.log (norm q k c h i)) / Real.log 2) = P q k h i j := by
  have h2 : Real.log 2 ≠ 0 := (Real.log_pos one_lt_two).ne'
  rw [← wt_div_norm q k c, wt, if_pos hs, Real.rpow_def_of_pos two_pos]
  have e : Real.log 2 * ((∑ d, q h i d * k h j d) * ((√96)⁻¹ * (Real.log 2)⁻¹) - (c + Real.log (norm q k c h i)) / Real.log 2)
      = (score q k h i j - c) - Real.log (norm q k c h i) := by
    unfold score; field_simp; ring
  rw [e, Real.exp_sub, Real.exp_log (norm_pos q k c h i)]

/-- The mean of the gradients, off the attention's output. -/
theorem delta_eq (h : Fin 8) (i : Fin 8192) : ∑ d, (∑ j, P q k h i j * v h j d) * g h i d = delta q k v g h i := by
  unfold delta dp
  simp only [Finset.sum_mul, Finset.mul_sum]
  rw [Finset.sum_comm]
  exact Finset.sum_congr rfl fun j _ => Finset.sum_congr rfl fun d _ => by ring

/-- The score's gradient as the derivative of a quotient gives it. -/
theorem dS_eq (c : ℝ) (h : Fin 8) (i j : Fin 8192) :
    (dp v g h i j / norm q k c h i + -∑ l, dp v g h i l * (1 / (norm q k c h i * norm q k c h i)) * wt q k c h i l)
        * wt q k c h i j / √96
      = dS q k v g h i j := by
  have hn := (norm_pos q k c h i).ne'
  have e : ∑ l, dp v g h i l * (1 / (norm q k c h i * norm q k c h i)) * wt q k c h i l = delta q k v g h i / norm q k c h i := by
    unfold delta; rw [Finset.sum_div]
    refine Finset.sum_congr rfl fun l _ => ?_
    rw [← wt_div_norm q k c h i l]; field_simp
  rw [e]; unfold dS; rw [← wt_div_norm q k c h i j]; field_simp; ring
end

/-! ### The arrays the kernel works on: 128 lanes for 96, blocks of 512 positions -/

/-- An array widened with zeros. -/
def widen (x : Fin 8 → Fin 8192 → Fin 96 → ℝ) (h : Fin 8) (i : Fin 8192) (d : Fin 128) : ℝ :=
  if hd : d.val < 96 then x h i ⟨d.val, hd⟩ else 0

theorem widen_lt (x : Fin 8 → Fin 8192 → Fin 96 → ℝ) (h : Fin 8) (i : Fin 8192) (d : Fin 128) (hd : d.val < 96) :
    widen x h i d = x h i ⟨d.val, hd⟩ := dif_pos hd

theorem sum_widen (x y : Fin 8 → Fin 8192 → Fin 96 → ℝ) (h : Fin 8) (i j : Fin 8192) :
    ∑ d, widen x h i d * widen y h j d = ∑ d, x h i d * y h j d := by
  refine (Fin.sum_univ_add (a := 96) (b := 32) (fun d : Fin (96 + 32) => widen x h i d * widen y h j d)).trans ?_
  rw [Finset.sum_eq_zero (s := Finset.univ (α := Fin 32)), add_zero]
  · refine Finset.sum_congr rfl fun d _ => ?_
    rw [widen_lt _ _ _ _ (by exact d.isLt), widen_lt _ _ _ _ (by exact d.isLt)]; rfl
  · intro d _
    have : ¬ (Fin.natAdd 96 d).val < 96 := by rw [Fin.val_natAdd]; omega
    unfold widen; rw [dif_neg this, zero_mul]

/-- Position `r` of block `b`. -/
def at' (b : Fin 16) (r : Fin 512) : Fin 8192 := ⟨512 * b.val + r.val, by omega⟩

theorem exists_at' (i : Fin 8192) : ∃ b r, at' b r = i :=
  ⟨⟨i.val / 512, by omega⟩, ⟨i.val % 512, by omega⟩, Fin.ext (by unfold at'; dsimp only; omega)⟩

theorem sum_blocks (f : Fin 8192 → ℝ) : ∑ b : Fin 16, ∑ r : Fin 512, f (at' b r) = ∑ i, f i := by
  rw [← Fintype.sum_prod_type', ← Equiv.sum_comp (finProdFinEquiv (m := 16) (n := 512))]
  refine Finset.sum_congr rfl fun x _ => congrArg f (Fin.ext ?_)
  show 512 * x.1.val + x.2.val = x.2.val + 512 * x.1.val
  omega

/-- A later block of keys is not seen. -/
theorem not_seen (b b' : Fin 16) (r r' : Fin 512) (h : b < b') : ¬seen (at' b r) (at' b' r') := by
  have : b.val < b'.val := h
  unfold seen at'; dsimp only; omega
theorem seen_of_lt (b b' : Fin 16) (r r' : Fin 512) (h : b' < b) : seen (at' b r) (at' b' r') := by
  have : b'.val < b.val := h
  unfold seen at'; dsimp only; omega
theorem seen_diag (b : Fin 16) (r r' : Fin 512) : seen (at' b r) (at' b r') ↔ r'.val / 64 ≤ r.val / 64 := by
  unfold seen at'; dsimp only; omega

end Cert.Attn

end
-- ==== Proof.Rows.lean ====
/-
  What the host's lines compute of a masked table of scores, over the extended reals: the row's maximum is some real, and
  the exponentials, their sum, the logarithm of the sum and the mean of the gradients are the real numbers of Math.lean.
-/
module

public import proofs.«01_k».proof.Proof.Math
public import proofs.«01_k».proof.Proof.Gen.KernelIdeal
public import Idealize.ShloMosaic.Lib.Pointwise

@[expose] public section

set_option maxRecDepth 16384

noncomputable section

namespace Cert.Attn

open Idealize.ShloMosaic Cert.KernelIdeal Cert.KernelIdeal.Gen
open scoped BigOperators

/-! ### Sums, quotients, literals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x y : ℝ) (hy : y ≠ 0) : Ideal.div (x : EReal) (y : EReal) = ((x / y : ℝ) : EReal) := by
  rw [Ideal.div_coe hy, ← EReal.coe_mul]; congr 1; ring

theorem exp_real (r : ℝ) : Ideal.exp (r : EReal) = ((Real.exp r : ℝ) : EReal) := rfl
theorem log_real (r : ℝ) (h : 0 < r) : Ideal.log (r : EReal) = ((Real.log r : ℝ) : EReal) := by
  show (if r ≤ 0 then ⊥ else (Real.log r : EReal)) = _
  rw [if_neg (not_le.mpr h)]
theorem sqrt_real (r : ℝ) (h : 0 ≤ r) : Ideal.sqrt (r : EReal) = ((√r : ℝ) : EReal) := by
  show (if r < 0 then ⊥ else (Real.sqrt r : EReal)) = _
  rw [if_neg (not_lt.mpr h)]

theorem lit_neg_inf : Ideal.ofBits .f32 0xFF800000#32 = ⊥ := by simp [Ideal.ofBits, Ideal.ieee]
theorem lit_inf : Ideal.ofBits .f32 0x7F800000#32 = ⊤ := by simp [Ideal.ofBits, Ideal.ieee]
theorem lit_96 : Ideal.ofBits .f32 0x42C00000#32 = ((96 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num

theorem fold_max_real {n : ℕ} (f : Fin n → EReal) (h : ∀ k, f k ≠ ⊤) (k : Fin n) (hk : f k ≠ ⊥) :
    ∃ r : ℝ, Finset.univ.fold max ⊥ f = (r : EReal) := by
  have e : Finset.univ.fold max ⊥ f = Finset.univ.sup f := rfl
  refine ⟨(Finset.univ.sup f).toReal, ?_⟩
  rw [e, EReal.coe_toReal]
  · exact ((Finset.sup_lt_iff (bot_lt_top)).mpr fun b _ => lt_top_iff_ne_top.mpr (h b)).ne
  · exact (lt_of_lt_of_le (bot_lt_iff_ne_bot.mpr hk) (Finset.le_sup (Finset.mem_univ k))).ne'

/-! ### The host's lines over a table of scores -/

section
variable {F : FTy → Type} [FloatOps F]

def rowMax (X : FVec F S8x8192x8192 .f32) : FVec F S8x8192 .f32 :=
  Host.reduce FloatOps.maximumf X (constant S_ .f32 0xFF800000#32) reducesTo_S8x8192x8192_S8x8192_d2 h_S_
def alongRow (x : FVec F S8x8192 .f32) : FVec F S8x8192x8192 .f32 :=
  broadcastInDim S8x8192x8192 ![0, 1, 2] bcast_S8x8192x1_S8x8192x8192_0_1_2 (broadcastInDim S8x8192x1 ![0, 1] bcast_S8x8192_S8x8192x1_0_1 x)
def rowExp (X : FVec F S8x8192x8192 .f32) : FVec F S8x8192x8192 .f32 := Host.exp (subf X (alongRow (rowMax X)))
def rowSum (X : FVec F S8x8192x8192 .f32) : FVec F S8x8192 .f32 :=
  Host.reduceAdd (rowExp X) (constant S_ .f32 0x00000000#32) reducesTo_S8x8192x8192_S8x8192_d2 h_S_
/-- The logarithm to base two of the exponentials' sum, off the maximum and the sum of the shifted exponentials. -/
def lseOf (a b : FVec F S8x8192 .f32) : FVec F S8x8192 .f32 :=
  Host.divf (addf a (Host.log b)) (broadcastInDim S8x8192 ![] bcast_S_S8x8192 (Host.log (constant S_ .f32 0x40000000#32)))
def rowLse (X : FVec F S8x8192x8192 .f32) : FVec F S8x8192 .f32 := lseOf (rowMax X) (rowSum X)
def rowDelta (X : FVec F S8x8192x8192 .f32) (v g : FVec F S8x8192x64 .f32) : FVec F S8x8192 .f32 :=
  Host.reduceAdd (mulf (Host.dotGeneral dot_S8x8192x8192_S8x8192x64_S8x8192x64_2_1_1_2_0_0 none (Host.divf (rowExp X) (alongRow (rowSum X))) v) g)
    (constant S_ .f32 0x00000000#32) reducesTo_S8x8192x64_S8x8192_d2 h_S_
end

theorem lseOf_at (a b : FVec Ideal S8x8192 .f32) (h : Fin 8) (i : Fin 8192) :
    lseOf a b (ix2 h i) = Ideal.div (a (ix2 h i) + Ideal.log (b (ix2 h i))) (Ideal.log (Ideal.ofBits .f32 0x40000000#32)) := by
  pointwise [lseOf]

section
variable (q k : Fin 8 → Fin 8192 → Fin 96 → ℝ) (v g : Fin 8 → Fin 8192 → Fin 64 → ℝ)
  (X : FVec Ideal S8x8192x8192 .f32)
  (hX : ∀ h i j, X (ix3 h i j) = if seen i j then ((score q k h i j : ℝ) : EReal) else ⊥)
include hX

theorem rowMax_real : ∃ M : Fin 8 → Fin 8192 → ℝ, ∀ h i, rowMax X (ix2 h i) = (M h i : EReal) := by
  have : ∀ h i, ∃ r : ℝ, rowMax X (ix2 h i) = (r : EReal) := fun h i => by
    pointwise [rowMax]
    rw [lit_neg_inf]
    refine fold_max_real _ (fun j => ?_) i ?_ <;> rw [hX]
    · split_ifs
      · exact EReal.coe_ne_top _
      · exact bot_ne_top
    · rw [if_pos (seen_self i)]; exact EReal.coe_ne_bot _
  choose M hM using this
  exact ⟨M, hM⟩

variable (M : Fin 8 → Fin 8192 → ℝ) (hM : ∀ h i, rowMax X (ix2 h i) = (M h i : EReal))
include hM

theorem rowExp_real (h : Fin 8) (i j : Fin 8192) : rowExp X (ix3 h i j) = ((wt q k (M h i) h i j : ℝ) : EReal) := by
  pointwise [rowExp, alongRow]
  rw [hM, hX]
  unfold wt
  split_ifs
  · rw [← EReal.coe_sub]; rfl
  · rw [EReal.bot_sub]; rfl

theorem rowSum_real (h : Fin 8) (i : Fin 8192) : rowSum X (ix2 h i) = ((norm q k (M h i) h i : ℝ) : EReal) := by
  pointwise [rowSum]
  simp only [rowExp_real q k X hX M hM, ← coe_sum]
  rfl

theorem rowLse_real (h : Fin 8) (i : Fin 8192) :
    rowLse X (ix2 h i) = (((M h i + Real.log (norm q k (M h i) h i)) / Real.log 2 : ℝ) : EReal) := by
  unfold rowLse
  rw [lseOf_at, hM, rowSum_real q k X hX M hM, lit_2, log_real _ (norm_pos q k _ h i), log_real _ two_pos, ← EReal.coe_add,
    div_real _ _ (Real.log_pos one_lt_two).ne']

theorem rowDelta_real (xv xg : FVec Ideal S8x8192x64 .f32) (hv : ∀ h i d, xv (ix3 h i d) = (v h i d : EReal))
    (hg : ∀ h i d, xg (ix3 h i d) = (g h i d : EReal)) (h : Fin 8) (i : Fin 8192) :
    rowDelta X xv xg (ix2 h i) = ((delta q k v g h i : ℝ) : EReal) := by
  pointwise [rowDelta, alongRow]
  simp only [rowExp_real q k X hX M hM, rowSum_real q k X hX M hM, hv, hg, div_real _ _ (norm_pos q k _ _ _).ne', wt_div_norm,
    ← EReal.coe_mul, ← coe_sum, delta_eq]
end

end Cert.Attn

end
-- ==== Proof.Finite.lean ====
/-
  What the precondition says: every element of the four arguments is a real number.
-/
module

public import proofs.«01_k».proof.Defs
public import proofs.«01_k».proof.Proof.Rows
public import Idealize.ShloMosaic.Lib.Claim

@[expose] public section

set_option maxRecDepth 16384

noncomputable section

namespace Cert.Attn

open Idealize.ShloMosaic Cert.KernelIdeal

theorem facts_finite : Cert.Pre_finite.Facts := ⟨by decide, by decide⟩

attribute [local instance] facts_finite

/-- An extended real whose absolute value compares below infinity is a real. -/
theorem real_of_abs_lt (x : EReal) (h : BitVec.ofBool (decide (max x (-x) < Ideal.ofBits FTy.f32 0x7F800000#32)) = 1#1) :
    x = (x.toReal : EReal) := by
  rw [lit_inf] at h
  have hlt : max x (-x) < ⊤ := by
    by_contra hn
    rw [decide_eq_false hn] at h
    exact absurd h (by decide)
  refine (EReal.coe_toReal (fun e => ?_) (fun e => ?_)).symm <;> simp [e] at hlt

section
variable (m : (ℓ : Loc nD τ sig) → Buf (Elt Ideal) ℓ) (c : Dev nD) (hpre : Cert.Pre_KernelIdeal_finite m)
include hpre

theorem arg0_real (h : Fin 8) (i : Fin 8192) (d : Fin 96) : (m (c, Proc.devRef .tc main_arg0) : FVec Ideal S8x8192x96 .f32) (ix3 h i d)
    = (((m (c, Proc.devRef .tc main_arg0) : FVec Ideal S8x8192x96 .f32) (ix3 h i d)).toReal : EReal) := by
  have e := congrFun (hpre c).1 (ix3 h i d)
  pointwise [Cert.Pre_finite.fn] at e
  exact real_of_abs_lt _ e
theorem arg1_real (h : Fin 8) (i : Fin 8192) (d : Fin 96) : (m (c, Proc.devRef .tc main_arg1) : FVec Ideal S8x8192x96 .f32) (ix3 h i d)
    = (((m (c, Proc.devRef .tc main_arg1) : FVec Ideal S8x8192x96 .f32) (ix3 h i d)).toReal : EReal) := by
  have e := congrFun (hpre c).2.1 (ix3 h i d)
  pointwise [Cert.Pre_finite.fn] at e
  exact real_of_abs_lt _ e
theorem arg2_real (h : Fin 8) (i : Fin 8192) (d : Fin 64) : (m (c, Proc.devRef .tc main_arg2) : FVec Ideal S8x8192x64 .f32) (ix3 h i d)
    = (((m (c, Proc.devRef .tc main_arg2) : FVec Ideal S8x8192x64 .f32) (ix3 h i d)).toReal : EReal) := by
  have e := congrFun (hpre c).2.2.1 (ix3 h i d)
  pointwise [Cert.Pre_finite.fn] at e
  exact real_of_abs_lt _ e
theorem arg3_real (h : Fin 8) (i : Fin 8192) (d : Fin 64) : (m (c, Proc.devRef .tc main_arg3) : FVec Ideal S8x8192x64 .f32) (ix3 h i d)
    = (((m (c, Proc.devRef .tc main_arg3) : FVec Ideal S8x8192x64 .f32) (ix3 h i d)).toReal : EReal) := by
  have e := congrFun (hpre c).2.2.2 (ix3 h i d)
  pointwise [Cert.Pre_finite.fn] at e
  exact real_of_abs_lt _ e

end
end Cert.Attn

end
-- ==== Proof.Words.lean ====
/-
  The chunk of a position as the programs compute it: an integer division of 32-bit words rounded down, jax's `//`.
-/
module

public import Idealize.ShloMosaic.Lib.Pointwise

@[expose] public section

noncomputable section

namespace Cert.Attn

open Idealize.ShloMosaic

theorem msb_word (n : ℕ) (hn : n < 8192) : (BitVec.ofNat 32 n).msb = false := by
  rw [BitVec.msb_eq_false_iff_two_mul_lt, BitVec.toNat_ofNat, Nat.mod_eq_of_lt (by omega)]; omega

theorem toInt_word (n : ℕ) (hn : n < 8192) : (BitVec.ofNat 32 n).toInt = n := by
  rw [BitVec.toInt_eq_toNat_of_msb (msb_word n hn), BitVec.toNat_ofNat, Nat.mod_eq_of_lt (by omega)]

theorem not_corner (n : ℕ) : ¬IntOp.SDivCorner (BitVec.ofNat 32 n) 64#32 := by simp [IntOp.SDivCorner]

theorem divsi_word (u : ArithUnit) (n : ℕ) (hn : n < 8192) : IntOp.divsi u (BitVec.ofNat 32 n) 64#32 = BitVec.ofNat 32 (n / 64) := by
  unfold IntOp.divsi; rw [if_neg (not_corner n), BitVec.sdiv_eq, msb_word n hn]
  apply BitVec.eq_of_toNat_eq
  show ((BitVec.ofNat 32 n).udiv 64#32).toNat = _
  rw [BitVec.udiv_eq, BitVec.toNat_udiv, BitVec.toNat_ofNat, BitVec.toNat_ofNat, BitVec.toNat_ofNat, Nat.mod_eq_of_lt (show n < 2 ^ 32 by omega),
    Nat.mod_eq_of_lt (show n / 64 < _ by omega)]

theorem remsi_word (u : ArithUnit) (n : ℕ) (hn : n < 8192) : IntOp.remsi u (BitVec.ofNat 32 n) 64#32 = BitVec.ofNat 32 (n % 64) := by
  unfold IntOp.remsi; rw [if_neg (not_corner n), BitVec.srem_eq, msb_word n hn]
  apply BitVec.eq_of_toNat_eq
  show ((BitVec.ofNat 32 n).umod 64#32).toNat = _
  rw [BitVec.umod_eq, BitVec.toNat_umod, BitVec.toNat_ofNat, BitVec.toNat_ofNat, BitVec.toNat_ofNat, Nat.mod_eq_of_lt (show n < 2 ^ 32 by omega),
    Nat.mod_eq_of_lt (show n % 64 < _ by omega)]

theorem word_ne_zero (n : ℕ) (hn : n < 8192) (h0 : n ≠ 0) : BitVec.ofNat 32 n ≠ 0#32 := fun h => by
  have := congrArg BitVec.toNat h
  rw [BitVec.toNat_ofNat, BitVec.toNat_ofNat, Nat.mod_eq_of_lt (by omega)] at this; omega

/-- The division rounded down, its sign test any word that is the divisor's sign at a positive dividend. -/
theorem floorDiv_word (u u' : ArithUnit) (s t : BitVec 32) (n : ℕ) (hn : n < 8192) (hs : n ≠ 0 → s = t) :
    Scalar.select (IntOp.andi (IntOp.cmpi .ne s t) (IntOp.cmpi .ne (IntOp.remsi u (BitVec.ofNat 32 n) 64#32) 0#32))
      (IntOp.subi (IntOp.divsi u' (BitVec.ofNat 32 n) 64#32) 1#32) (IntOp.divsi u' (BitVec.ofNat 32 n) 64#32)
    = BitVec.ofNat 32 (n / 64) := by
  rw [divsi_word u' n hn, remsi_word u n hn]
  have e : IntOp.andi (IntOp.cmpi .ne s t) (IntOp.cmpi .ne (BitVec.ofNat 32 (n % 64)) 0#32) = 0#1 := by
    by_cases h0 : n = 0
    · subst h0; simp [IntOp.andi, IntOp.cmpi]
    · rw [hs h0]; simp [IntOp.andi, IntOp.cmpi]
  rw [e]; rfl

theorem sgt_word (n : ℕ) (hn : n < 8192) (h0 : n ≠ 0) : IntOp.cmpi .sgt (BitVec.ofNat 32 n) 0#32 = 1#1 := by
  show BitVec.ofBool ((0#32).slt (BitVec.ofNat 32 n)) = 1#1
  rw [BitVec.slt, toInt_word n hn, decide_eq_true (by simp; omega)]; rfl
theorem slt_word (n : ℕ) (hn : n < 8192) : IntOp.cmpi .slt (BitVec.ofNat 32 n) 0#32 = 0#1 := by
  show BitVec.ofBool ((BitVec.ofNat 32 n).slt 0#32) = 0#1
  rw [BitVec.slt, toInt_word n hn, decide_eq_false (by simp)]; rfl
theorem sle_word (a b : ℕ) (ha : a < 8192) (hb : b < 8192) :
    IntOp.cmpi .sle (BitVec.ofNat 32 a) (BitVec.ofNat 32 b) = BitVec.ofBool (decide (a ≤ b)) := by
  show BitVec.ofBool ((BitVec.ofNat 32 a).sle (BitVec.ofNat 32 b)) = _
  rw [BitVec.sle, toInt_word a ha, toInt_word b hb]; simp

/-- The host's sign of a word. -/
def hostSign (x : BitVec 32) : BitVec 32 := if x = 0 then 0 else if x.msb = true then -1 else 1

/-- A position's chunk on the host. -/
def hostChunk (n : ℕ) : BitVec 32 :=
  Scalar.select
    (IntOp.andi
      (IntOp.cmpi .ne (hostSign (BitVec.ofNat 32 n)) (hostSign 64#32)) (IntOp.cmpi .ne (IntOp.remsi .host (BitVec.ofNat 32 n) 64#32) 0#32))
    (IntOp.subi (IntOp.divsi .host (BitVec.ofNat 32 n) 64#32) 1#32) (IntOp.divsi .host (BitVec.ofNat 32 n) 64#32)

theorem hostChunk_eq (n : ℕ) (hn : n < 8192) : hostChunk n = BitVec.ofNat 32 (n / 64) :=
  floorDiv_word .host .host _ _ n hn fun h0 => by
    unfold hostSign
    rw [if_neg (show ¬BitVec.ofNat 32 n = 0 from word_ne_zero n hn h0), msb_word n hn]; decide

/-- A position's chunk on the vector unit. -/
def laneChunk (n : ℕ) : BitVec 32 :=
  Scalar.select
    (IntOp.andi
      (IntOp.cmpi .ne (IntOp.subi (BitVec.setWidth 32 (IntOp.cmpi .sgt (BitVec.ofNat 32 n) 0#32)) (BitVec.setWidth 32 (IntOp.cmpi .slt (BitVec.ofNat 32 n) 0#32)))
        (Scalar.subi (Scalar.extui (Scalar.cmpi .sgt 64#32 0#32)) (Scalar.extui (Scalar.cmpi .slt 64#32 0#32))))
      (IntOp.cmpi .ne (IntOp.remsi .vector (BitVec.ofNat 32 n) 64#32) 0#32))
    (IntOp.subi (IntOp.divsi .vector (BitVec.ofNat 32 n) 64#32) 1#32) (IntOp.divsi .vector (BitVec.ofNat 32 n) 64#32)

theorem laneChunk_eq (n : ℕ) (hn : n < 8192) : laneChunk n = BitVec.ofNat 32 (n / 64) :=
  floorDiv_word .vector .vector _ _ n hn fun h0 => by
    rw [sgt_word n hn h0, slt_word n hn]; decide

/-- A choice by the order of two chunks. -/
theorem select_chunks {α : Type} (a b : ℕ) (ha : a < 8192) (hb : b < 8192) (x y : α) :
    Scalar.select (IntOp.cmpi .sle (BitVec.ofNat 32 (a / 64)) (BitVec.ofNat 32 (b / 64))) x y = if a / 64 ≤ b / 64 then x else y := by
  rw [sle_word _ _ (by omega) (by omega)]
  by_cases h : a / 64 ≤ b / 64
  · rw [decide_eq_true h, if_pos h]; rfl
  · rw [decide_eq_false h, if_neg h]; rfl

end Cert.Attn

end
-- ==== Proof.BlockValue.lean ====
/-
  One step of the kernel's body at finite arguments: the state stays real, and every part gains the block's sum.
-/
module

public import proofs.«01_k».proof.Proof.Step
public import proofs.«01_k».proof.Proof.Rows
public import proofs.«01_k».proof.Proof.Words

@[expose] public section

set_option maxRecDepth 16384

noncomputable section

namespace Cert.Attn

open Idealize.ShloMosaic Cert.KernelIdeal Cert.KernelIdeal.Gen Cert.KernelIdeal.Attn
open scoped BigOperators

/-! ### The payloads at an index -/

theorem scale2_eq : (Named.named κ "att_scale2" (φ := .f32) 0x3E16C740#32 : Ideal .f32) = (((√96)⁻¹ * (Real.log 2)⁻¹ : ℝ) : EReal) := rfl
theorem scale_eq : (Named.named κ "att_scale" (φ := .f32) 0x3DD105EC#32 : Ideal .f32) = (((√96)⁻¹ : ℝ) : EReal) := rfl

section
variable (kb : Vec Ideal S1x512x128 .bf16) (vb db : Vec Ideal S1x512x64 .bf16) (qb : Vec Ideal S1x512x128 .bf16) (l : Vec Ideal S1x1x512 .f32)

theorem score_at (r c : Fin 512) : k0_pay53 (k0_pay34 kb) qb (ix2 r c)
    = (∑ d, kb (ix3 0 r d) * qb (ix3 0 c d)) * (((√96)⁻¹ * (Real.log 2)⁻¹ : ℝ) : EReal) := by
  rw [← scale2_eq]
  pointwise [k0_pay53, k0_pay51, k0_pay34]

theorem unmasked_at (r c : Fin 512) : k0_pay11 (k0_pay34 kb) qb l (ix2 r c)
    = Ideal.exp2 (k0_pay53 (k0_pay34 kb) qb (ix2 r c) - l (ix3 0 0 c)) := by
  pointwise [k0_pay11, k0_pay53, k0_pay51, k0_pay9]
  rfl

theorem masked_at (s : FVec Ideal S512x512 .f32) (r c : Fin 512) : k0_pay45 s k0_pay41 k0_pay42 k0_pay43 k0_pay44 l (ix2 r c)
    = Ideal.exp2 ((if r.val / 64 ≤ c.val / 64 then s (ix2 r c) else ⊥) - l (ix3 0 0 c)) := by
  pointwise [k0_pay45, k0_pay41, k0_pay42, k0_pay43, k0_pay44]
  change Ideal.exp2 (Scalar.select (IntOp.cmpi .sle (laneChunk r.val) (laneChunk c.val)) (s (ix2 r c)) (Ideal.ofBits .f32 0xFF800000#32) - l (ix3 0 0 c)) = _
  rw [laneChunk_eq _ (by omega), laneChunk_eq _ (by omega), select_chunks _ _ (by omega) (by omega), lit_neg_inf]

theorem dscore_at (z : FVec Ideal S512x512 .f32) (r c : Fin 512) : k0_pay2 (k0_pay36 vb) (k0_pay10 db) z l (ix2 r c)
    = z (ix2 r c) * (∑ d, vb (ix3 0 r d) * db (ix3 0 c d) - l (ix3 0 0 c)) * (((√96)⁻¹ : ℝ) : EReal) := by
  rw [← scale_eq]
  pointwise [k0_pay2, k0_pay36, k0_pay10]

theorem addQ_pay_at (ds : FVec Ideal S512x512 .bf16) (z : Vec Ideal S1x512x128 .f32) (r : Fin 512) (d : Fin 128) :
    k0_pay15 (k0_pay34 kb) ds z (ix3 0 r d) = z (ix3 0 r d) + ∑ x, ds (ix2 x r) * kb (ix3 0 x d) := by
  pointwise [k0_pay15, k0_pay34]

theorem addK_pay_at (ds : FVec Ideal S512x512 .bf16) (z : Vec Ideal S1x512x128 .f32) (r : Fin 512) (d : Fin 128) :
    k0_pay14 (k0_pay9 qb) ds z (ix3 0 r d) = z (ix3 0 r d) + ∑ x, ds (ix2 r x) * qb (ix3 0 x d) := by
  pointwise [k0_pay14, k0_pay9]

theorem addV_pay_at (p : FVec Ideal S512x512 .f32) (z : Vec Ideal S1x512x64 .f32) (r : Fin 512) (d : Fin 64) :
    shapeCast S1x512x64 (addf (shapeCast S512x64 z shapeCasts_S1x512x64_S512x64)
      (matmul dot_S512x512_S512x64_S512x64_1_0_0_1_n_n none (truncf .bf16 p bitsLt_bf16_f32) (k0_pay10 db) (constant S512x64 .f32 0x00000000#32)))
      shapeCasts_S512x64_S1x512x64 (ix3 0 r d) = z (ix3 0 r d) + ∑ x, p (ix2 r x) * db (ix3 0 x d) := by
  pointwise [k0_pay10]
end

/-! ### The windows at an index -/

theorem rowsQ_at {e : EltTy} (x : Vec Ideal S2x8192x128 e) (g : Fin 2) (b : Fin 16) (r : Fin 512) (d : Fin 128) :
    rowsQ x g b (ix3 0 r d) = x (ix3 g (at' b r) d) :=
  congrArg x (funext fun a => Fin.ext (by
    fin_cases a
    · show g.val + 1 * 0 = g.val; omega
    · show 512 * b.val + 1 * r.val = 512 * b.val + r.val; omega
    · show 0 + 1 * d.val = d.val; omega))
theorem rowsD_at {e : EltTy} (x : Vec Ideal S2x8192x64 e) (g : Fin 2) (b : Fin 16) (r : Fin 512) (d : Fin 64) :
    rowsD x g b (ix3 0 r d) = x (ix3 g (at' b r) d) :=
  congrArg x (funext fun a => Fin.ext (by
    fin_cases a
    · show g.val + 1 * 0 = g.val; omega
    · show 512 * b.val + 1 * r.val = 512 * b.val + r.val; omega
    · show 0 + 1 * d.val = d.val; omega))
theorem rowsL_at {e : EltTy} (x : Vec Ideal S2x1x8192 e) (g : Fin 2) (b : Fin 16) (r : Fin 512) :
    rowsL x g b (ix3 0 0 r) = x (ix3 g 0 (at' b r)) :=
  congrArg x (funext fun a => Fin.ext (by
    fin_cases a
    · show g.val + 1 * 0 = g.val; omega
    · rfl
    · show 512 * b.val + 1 * r.val = 512 * b.val + r.val; omega))
theorem halfK_at {e : EltTy} (x : Vec Ideal S2x512x128 e) (g : Fin 2) (r : Fin 512) (d : Fin 128) : halfK x g (ix3 0 r d) = x (ix3 g r d) :=
  congrArg x (funext fun a => Fin.ext (by
    fin_cases a
    · show g.val + 1 * 0 = g.val; omega
    · show 0 + 1 * r.val = r.val; omega
    · show 0 + 1 * d.val = d.val; omega))
theorem halfV_at {e : EltTy} (x : Vec Ideal S2x512x64 e) (g : Fin 2) (r : Fin 512) (d : Fin 64) : halfV x g (ix3 0 r d) = x (ix3 g r d) :=
  congrArg x (funext fun a => Fin.ext (by
    fin_cases a
    · show g.val + 1 * 0 = g.val; omega
    · show 0 + 1 * r.val = r.val; omega
    · show 0 + 1 * d.val = d.val; omega))

/-- A window put at rows `n` onwards of head `g0`, read at a position. -/
theorem put_at {N w n : ℕ} {α : Type} (x : (⟨3, ![2, N, w]⟩ : Shape).Idx → α) (g0 : Fin 2) (W : (⟨3, ![1, 512, w]⟩ : Shape).Idx → α)
    (g : Fin 2) (i : Fin N) (d : Fin w) :
    VecWindow.put x ![g0.val, n, 0] ![1, 512, w] W (ix3 g i d)
      = if h : g = g0 ∧ n ≤ i.val ∧ i.val < n + 512 then W (ix3 0 ⟨i.val - n, by omega⟩ d) else x (ix3 g i d) := by
  unfold VecWindow.put
  by_cases h : g = g0 ∧ n ≤ i.val ∧ i.val < n + 512
  · obtain ⟨hg, h1, h2⟩ := h
    have hall : ∀ a, (![g0.val, n, 0] : Fin 3 → ℕ) a ≤ ((ix3 g i d : (⟨3, ![2, N, w]⟩ : Shape).Idx) a).val
        ∧ ((ix3 g i d : (⟨3, ![2, N, w]⟩ : Shape).Idx) a).val < (![g0.val, n, 0] : Fin 3 → ℕ) a + (![1, 512, w] : Fin 3 → ℕ) a := by
      intro a; fin_cases a
      · subst hg; exact ⟨le_refl g.val, Nat.lt_succ_self g.val⟩
      · exact ⟨h1, h2⟩
      · exact ⟨Nat.zero_le _, by show d.val < 0 + w; omega⟩
    rw [dif_pos hall, dif_pos ⟨hg, h1, h2⟩]
    refine congrArg W (funext fun a => Fin.ext ?_)
    fin_cases a
    · show g.val - g0.val = 0; subst hg; omega
    · rfl
    · rfl
  · rw [dif_neg h, dif_neg]
    intro hall
    refine h ⟨?_, (hall 1).1, (hall 1).2⟩
    have h0 : g0.val ≤ g.val ∧ g.val < g0.val + 1 := hall 0
    exact Fin.ext (by omega)

end Cert.Attn

end
-- ==== Proof.Fold.lean ====
/-
  The kernel's body at one block of keys, at finite arguments: the steps add up to the sums over all queries.
-/
module

public import proofs.«01_k».proof.Proof.BlockValue

@[expose] public section

set_option maxRecDepth 16384

noncomputable section

namespace Cert.Attn

open Idealize.ShloMosaic Cert.KernelIdeal Cert.KernelIdeal.Gen Cert.KernelIdeal.Attn
open scoped BigOperators

/-! ### Sums over blocks, one block at a time -/

section
variable (S T : Fin 16 → Prop) [DecidablePred S] [DecidablePred T] (b0 : Fin 16) (hT : ∀ b, T b ↔ S b ∨ b = b0) (h0 : ¬S b0)
include hT h0
theorem ite_step (b : Fin 16) (x : ℝ) : (if T b then x else 0) = (if S b then x else 0) + if b = b0 then x else 0 := by
  by_cases hb : b = b0
  · rw [if_pos ((hT b).mpr (.inr hb)), if_neg (hb ▸ h0), if_pos hb, zero_add]
  · rw [if_neg hb, add_zero]
    exact if_congr ((hT b).trans (or_iff_left hb)) rfl rfl
theorem sum_step (f : Fin 16 → ℝ) : ∑ b, (if T b then f b else 0) = (∑ b, if S b then f b else 0) + f b0 := by
  rw [Finset.sum_congr rfl fun b _ => ite_step S T b0 hT h0 b (f b), Finset.sum_add_distrib, Finset.sum_ite_eq' Finset.univ b0 f,
    if_pos (Finset.mem_univ _)]
end

/-! ### Both heads' windows put -/

theorem put_both {N w n : ℕ} {α : Type} (x : (⟨3, ![2, N, w]⟩ : Shape).Idx → α) (W : Fin 2 → (⟨3, ![1, 512, w]⟩ : Shape).Idx → α)
    (g : Fin 2) (i : Fin N) (d : Fin w) :
    VecWindow.put (VecWindow.put x ![0, n, 0] ![1, 512, w] (W 0)) ![1, n, 0] ![1, 512, w] (W 1) (ix3 g i d)
      = if h : n ≤ i.val ∧ i.val < n + 512 then W g (ix3 0 ⟨i.val - n, by omega⟩ d) else x (ix3 g i d) := by
  refine (put_at _ 1 _ g i d).trans ?_
  by_cases h : n ≤ i.val ∧ i.val < n + 512
  · rw [dif_pos h]
    by_cases hg : g = 1
    · subst hg; rw [dif_pos ⟨rfl, h⟩]
    · have h0 : g = 0 := by omega
      rw [dif_neg fun hh => hg hh.1]
      refine (put_at x 0 _ g i d).trans ?_
      subst h0; rw [dif_pos ⟨rfl, h⟩]
  · rw [dif_neg h, dif_neg fun hh => h hh.2]
    refine (put_at x 0 _ g i d).trans ?_
    rw [dif_neg fun hh => h hh.2]

/-- Of the rows of block `qi`. -/
theorem put_rows {w : ℕ} {α : Type} (qi : Fin 16) (x : (⟨3, ![2, 8192, w]⟩ : Shape).Idx → α) (W : Fin 2 → (⟨3, ![1, 512, w]⟩ : Shape).Idx → α)
    (g : Fin 2) (b : Fin 16) (r : Fin 512) (d : Fin w) :
    VecWindow.put (VecWindow.put x ![0, 512 * qi.val, 0] ![1, 512, w] (W 0)) ![1, 512 * qi.val, 0] ![1, 512, w] (W 1) (ix3 g (at' b r) d)
      = if b = qi then W g (ix3 0 r d) else x (ix3 g (at' b r) d) := by
  rw [put_both]
  by_cases h : b = qi
  · have hr : 512 * qi.val ≤ (at' b r).val ∧ (at' b r).val < 512 * qi.val + 512 := by subst h; unfold at'; dsimp only; omega
    rw [dif_pos hr, if_pos h]
    have e : (⟨(at' b r).val - 512 * qi.val, by omega⟩ : Fin 512) = r := Fin.ext (by subst h; unfold at'; dsimp only; omega)
    rw [e]
  · rw [if_neg h, dif_neg]
    have hv : b.val ≠ qi.val := fun e => h (Fin.ext e)
    unfold at'; dsimp only; omega

/-- Of the whole of both heads. -/
theorem put_whole {w : ℕ} {α : Type} (x : (⟨3, ![2, 512, w]⟩ : Shape).Idx → α) (W : Fin 2 → (⟨3, ![1, 512, w]⟩ : Shape).Idx → α)
    (g : Fin 2) (r : Fin 512) (d : Fin w) :
    VecWindow.put (VecWindow.put x ![0, 0, 0] ![1, 512, w] (W 0)) ![1, 0, 0] ![1, 512, w] (W 1) (ix3 g r d) = W g (ix3 0 r d) := by
  rw [put_both, dif_pos ⟨Nat.zero_le _, by omega⟩]
  rfl

/-! ### A step -/

section
variable (q k : Fin 8 → Fin 8192 → Fin 96 → ℝ) (v gr : Fin 8 → Fin 8192 → Fin 64 → ℝ) (M : Fin 8 → Fin 8192 → ℝ)
  (hd : Fin 2 → Fin 8) (ki : Fin 16)

/-- What key block `ki` adds to the query gradient at row `r` of block `b`. -/
def cq (g : Fin 2) (b : Fin 16) (r : Fin 512) (d : Fin 128) : ℝ :=
  ∑ x, dS q k v gr (hd g) (at' b r) (at' ki x) * widen k (hd g) (at' ki x) d
/-- What query block `b` adds to the key gradient at row `r` of block `ki`. -/
def ck (b : Fin 16) (g : Fin 2) (r : Fin 512) (d : Fin 128) : ℝ :=
  ∑ x, dS q k v gr (hd g) (at' b x) (at' ki r) * widen q (hd g) (at' b x) d
/-- What query block `b` adds to the value gradient at row `r` of block `ki`. -/
def cv (b : Fin 16) (g : Fin 2) (r : Fin 512) (d : Fin 64) : ℝ :=
  ∑ x, P q k (hd g) (at' b x) (at' ki r) * gr (hd g) (at' b x) d

/-- The state holds the given real numbers. -/
structure IsState (A : Fin 2 → Fin 16 → Fin 512 → Fin 128 → ℝ) (B : Fin 2 → Fin 512 → Fin 128 → ℝ) (C : Fin 2 → Fin 512 → Fin 64 → ℝ)
    (s : St Ideal) : Prop where
  queries : ∀ g b r d, s.1 (ix3 g (at' b r) d) = ((A g b r d : ℝ) : EReal)
  keys : ∀ g r d, s.2.1 (ix3 g r d) = ((B g r d : ℝ) : EReal)
  values : ∀ g r d, s.2.2 (ix3 g r d) = ((C g r d : ℝ) : EReal)

theorem exp2_sub (x y : ℝ) : Ideal.exp2 ((x : EReal) - (y : EReal)) = (((2 : ℝ) ^ (x - y) : ℝ) : EReal) := by
  rw [← EReal.coe_sub]; rfl

variable (Q : Vec Ideal S2x8192x128 .bf16) (D : Vec Ideal S2x8192x64 .bf16) (L E : Vec Ideal S2x1x8192 .f32)
  (K : Vec Ideal S2x512x128 .bf16) (V : Vec Ideal S2x512x64 .bf16)

/-- The buffers the body reads hold the given real numbers. -/
structure IsInput : Prop where
  hq : ∀ g i d, Q (ix3 g i d) = ((widen q (hd g) i d : ℝ) : EReal)
  hg : ∀ g i d, D (ix3 g i d) = ((gr (hd g) i d : ℝ) : EReal)
  hl : ∀ g i, L (ix3 g 0 i) = (((M (hd g) i + Real.log (norm q k (M (hd g) i) (hd g) i)) / Real.log 2 : ℝ) : EReal)
  hdelta : ∀ g i, E (ix3 g 0 i) = ((delta q k v gr (hd g) i : ℝ) : EReal)
  hk : ∀ g r d, K (ix3 g r d) = ((widen k (hd g) (at' ki r) d : ℝ) : EReal)
  hv : ∀ g r d, V (ix3 g r d) = ((v (hd g) (at' ki r) d : ℝ) : EReal)

variable {q k v gr M hd ki Q D L E K V} (hI : IsInput q k v gr M hd ki Q D L E K V) (masked : Bool) (qi : Fin 16)
  (hm : masked = true ∧ qi = ki ∨ masked = false ∧ ki < qi)
include hI hm

theorem prob_at (g : Fin 2) (r c : Fin 512) :
    prob Q L K masked qi g (ix2 r c) = ((P q k (hd g) (at' qi c) (at' ki r) : ℝ) : EReal) := by
  have hs : k0_pay53 (k0_pay34 (halfK K g)) (rowsQ Q g qi) (ix2 r c)
      = (((∑ d, q (hd g) (at' qi c) d * k (hd g) (at' ki r) d) * ((√96)⁻¹ * (Real.log 2)⁻¹) : ℝ) : EReal) := by
    rw [score_at, ← sum_widen]
    simp only [halfK_at, rowsQ_at, hI.hq, hI.hk, ← EReal.coe_mul, ← coe_sum]
    congr 2
    exact Finset.sum_congr rfl fun d _ => mul_comm _ _
  rcases hm with ⟨rfl, rfl⟩ | ⟨rfl, hlt⟩
  · show k0_pay45 _ _ _ _ _ _ (ix2 r c) = _
    rw [masked_at, hs, rowsL_at, hI.hl]
    split_ifs with h
    · rw [exp2_sub, P_eq_rpow q k _ _ _ _ ((seen_diag _ _ _).mpr h)]
    · rw [EReal.bot_sub, P_unseen q k _ _ _ fun hh => h ((seen_diag _ _ _).mp hh)]; rfl
  · show k0_pay11 _ _ _ (ix2 r c) = _
    rw [unmasked_at, hs, rowsL_at, hI.hl, exp2_sub, P_eq_rpow q k _ _ _ _ (seen_of_lt _ _ _ _ hlt)]

theorem dscore_real (g : Fin 2) (r c : Fin 512) :
    dscore Q D L E K V masked qi g (ix2 r c) = ((dS q k v gr (hd g) (at' qi c) (at' ki r) : ℝ) : EReal) := by
  unfold dscore
  rw [dscore_at, prob_at hI masked qi hm]
  simp only [halfV_at, rowsD_at, rowsL_at, hI.hv, hI.hg, hI.hdelta, ← EReal.coe_mul, ← coe_sum, ← EReal.coe_sub]
  congr 1
  unfold dS dp
  rw [div_eq_mul_inv, Finset.sum_congr rfl fun d _ => mul_comm (v (hd g) (at' ki r) d) _]

theorem step_state {A B C} {s : St Ideal} (hs : IsState A B C s) :
    IsState (fun g b r d => A g b r d + if b = qi then cq q k v gr hd ki g b r d else 0)
      (fun g r d => B g r d + ck q k v gr hd ki qi g r d) (fun g r d => C g r d + cv q k gr hd ki qi g r d)
      (step Q D L E K V masked qi s) where
  queries g b r d := by
    refine (put_rows qi s.1 (fun g => addQ Q D L E K V masked qi g (rowsQ s.1 g qi)) g b r d).trans ?_
    by_cases h : b = qi
    · subst h
      rw [if_pos rfl, if_pos rfl]
      unfold addQ cq
      rw [addQ_pay_at, rowsQ_at, hs.queries, EReal.coe_add, coe_sum]
      congr 1
      exact Finset.sum_congr rfl fun x _ => by rw [dscore_real hI masked _ hm, halfK_at, hI.hk, EReal.coe_mul]
    · rw [if_neg h, if_neg h, add_zero, hs.queries]
  keys g r d := by
    refine (put_whole s.2.1 (fun g => addK Q D L E K V masked qi g (halfK s.2.1 g)) g r d).trans ?_
    unfold addK ck
    rw [addK_pay_at, halfK_at, hs.keys, EReal.coe_add, coe_sum]
    congr 1
    exact Finset.sum_congr rfl fun x _ => by rw [dscore_real hI masked _ hm, rowsQ_at, hI.hq, EReal.coe_mul]
  values g r d := by
    refine (put_whole s.2.2 (fun g => addV Q D L K masked qi g (halfV s.2.2 g)) g r d).trans ?_
    unfold addV cv
    rw [addV_pay_at, halfV_at, hs.values, EReal.coe_add, coe_sum]
    congr 1
    exact Finset.sum_congr rfl fun x _ => by rw [prob_at hI masked _ hm, rowsD_at, hI.hg, EReal.coe_mul]
end

/-! ### All the steps -/

section
variable {q k : Fin 8 → Fin 8192 → Fin 96 → ℝ} {v gr : Fin 8 → Fin 8192 → Fin 64 → ℝ} {M : Fin 8 → Fin 8192 → ℝ}
  {hd : Fin 2 → Fin 8} {ki : Fin 16} {Q : Vec Ideal S2x8192x128 .bf16} {D : Vec Ideal S2x8192x64 .bf16} {L E : Vec Ideal S2x1x8192 .f32}
  {K : Vec Ideal S2x512x128 .bf16} {V : Vec Ideal S2x512x64 .bf16} (hI : IsInput q k v gr M hd ki Q D L E K V)
include hI

theorem steps_state {A B C} {s : St Ideal} (hs : IsState A B C s) (n : ℕ) (hn : ki.val + n < 16) :
    IsState (fun g b r d => A g b r d + if ki.val ≤ b.val ∧ b.val ≤ ki.val + n then cq q k v gr hd ki g b r d else 0)
      (fun g r d => B g r d + ∑ b : Fin 16, if ki.val ≤ b.val ∧ b.val ≤ ki.val + n then ck q k v gr hd ki b g r d else 0)
      (fun g r d => C g r d + ∑ b : Fin 16, if ki.val ≤ b.val ∧ b.val ≤ ki.val + n then cv q k gr hd ki b g r d else 0)
      (steps Q D L E K V ki (step Q D L E K V true ki s) n) := by
  induction n with
  | zero =>
    have hT : ∀ b : Fin 16, ki.val ≤ b.val ∧ b.val ≤ ki.val + 0 ↔ False ∨ b = ki := fun b => by
      rw [false_or, Fin.ext_iff]; omega
    have h1 := step_state hI true ki (.inl ⟨rfl, rfl⟩) hs
    refine ⟨fun g b r d => ?_, fun g r d => ?_, fun g r d => ?_⟩
    · rw [ite_step (fun _ => False) _ ki hT id, if_neg id, zero_add]; exact h1.queries g b r d
    · rw [sum_step (fun _ => False) _ ki hT id]; simp only [if_false, Finset.sum_const_zero, zero_add]; exact h1.keys g r d
    · rw [sum_step (fun _ => False) _ ki hT id]; simp only [if_false, Finset.sum_const_zero, zero_add]; exact h1.values g r d
  | succ n ih =>
    have hT : ∀ b : Fin 16, ki.val ≤ b.val ∧ b.val ≤ ki.val + (n + 1)
        ↔ (ki.val ≤ b.val ∧ b.val ≤ ki.val + n) ∨ b = ⟨ki.val + 1 + n, by omega⟩ := fun b => by
      rw [Fin.ext_iff]; dsimp only; omega
    have h0 : ¬(ki.val ≤ ki.val + 1 + n ∧ ki.val + 1 + n ≤ ki.val + n) := by omega
    have h1 := step_state hI false ⟨ki.val + 1 + n, by omega⟩ (.inr ⟨rfl, by show ki.val < ki.val + 1 + n; omega⟩) (ih (by omega))
    rw [steps_succ _ _ _ _ _ _ _ _ _ (by omega)]
    refine ⟨fun g b r d => ?_, fun g r d => ?_, fun g r d => ?_⟩
    · rw [ite_step _ _ _ hT h0, ← add_assoc]; exact h1.queries g b r d
    · rw [sum_step _ _ _ hT h0, ← add_assoc]; exact h1.keys g r d
    · rw [sum_step _ _ _ hT h0, ← add_assoc]; exact h1.values g r d

/-- Key block `ki` done: the query gradient has gained the block's sums, and the two others are whole. -/
theorem block_state {A : Fin 2 → Fin 16 → Fin 512 → Fin 128 → ℝ} {dq0 : Vec Ideal S2x8192x128 .f32} (hA : ∀ g b r d, dq0 (ix3 g (at' b r) d) = ((A g b r d : ℝ) : EReal)) :
    IsState (fun g b r d => A g b r d + cq q k v gr hd ki g b r d)
      (fun g r d => ∑ i, dS q k v gr (hd g) i (at' ki r) * widen q (hd g) i d)
      (fun g r d => dv q k gr (hd g) (at' ki r) d) (blockStep Q D L E K V ki dq0) := by
  have hs : IsState A (fun _ _ _ => 0) (fun _ _ _ => 0) (dq0, k0_pay32 (F := Ideal), k0_pay33 (F := Ideal)) :=
    ⟨hA, fun g r d => by show k0_pay32 (F := Ideal) (ix3 g r d) = _; pointwise [k0_pay32]; rfl,
      fun g r d => by show k0_pay33 (F := Ideal) (ix3 g r d) = _; pointwise [k0_pay33]; rfl⟩
  have h := steps_state hI hs (15 - ki.val) (by omega)
  have hc : ∀ b : Fin 16, ki.val ≤ b.val ∧ b.val ≤ ki.val + (15 - ki.val) ↔ ki ≤ b := fun b =>
    ⟨fun h => h.1, fun h => ⟨h, by omega⟩⟩
  refine ⟨fun g b r d => (h.queries g b r d).trans ?_, fun g r d => (h.keys g r d).trans ?_, fun g r d => (h.values g r d).trans ?_⟩
  · by_cases hb : ki ≤ b
    · rw [if_pos ((hc b).mpr hb)]
    · rw [if_neg fun hh => hb ((hc b).mp hh)]
      have : cq q k v gr hd ki g b r d = 0 := Finset.sum_eq_zero fun x _ => by
        rw [dS_unseen q k v gr _ _ _ (not_seen _ _ _ _ (not_le.mp hb)), zero_mul]
      rw [this]
  · rw [zero_add, ← sum_blocks]
    congr 1
    refine Finset.sum_congr rfl fun b _ => ?_
    by_cases hb : ki ≤ b
    · rw [if_pos ((hc b).mpr hb)]; rfl
    · rw [if_neg fun hh => hb ((hc b).mp hh)]
      exact (Finset.sum_eq_zero fun x _ => by rw [dS_unseen q k v gr _ _ _ (not_seen _ _ _ _ (not_le.mp hb)), zero_mul]).symm
  · unfold dv
    rw [zero_add, ← sum_blocks]
    congr 1
    refine Finset.sum_congr rfl fun b _ => ?_
    by_cases hb : ki ≤ b
    · rw [if_pos ((hc b).mpr hb)]; rfl
    · rw [if_neg fun hh => hb ((hc b).mp hh)]
      exact (Finset.sum_eq_zero fun x _ => by rw [P_unseen q k _ _ _ (not_seen _ _ _ _ (not_le.mp hb)), zero_mul]).symm
end

end Cert.Attn

end
-- ==== Proof.HostValue.lean ====
/-
  What the host's lines before the launch leave in the arrays the launch reads, at finite arguments.
-/
module

public import proofs.«01_k».proof.Proof.Rows
public import proofs.«01_k».proof.Proof.Words
public import proofs.«01_k».proof.Proof.Gen.KernelIdeal.Frame
public import Idealize.ShloMosaic.Lib.StableHlo.ReadAt

@[expose] public section

set_option maxRecDepth 16384

noncomputable section

namespace Cert.Attn

open Idealize.ShloMosaic Idealize.ShloMosaic.StableHlo Idealize.ShloMosaic.TcCoe Cert.KernelIdeal Cert.KernelIdeal.Gen
open scoped BigOperators

theorem after_two (l₁ l₂ : List (HloOp τ sig (Elt Ideal))) (W : Valuation τ sig (Elt Ideal)) :
    after (l₁ ++ l₂) W = after l₂ (after l₁ W) := by
  induction l₁ generalizing W with
  | nil => rfl
  | cons op l ih => exact ih _

theorem pad_zero : (FloatOps.sitofp .f32 0#32 : Ideal .f32) = ((0 : ℝ) : EReal) := by
  show (((0#32).toInt : ℝ) : EReal) = _
  simp

section
variable (W : Valuation τ sig (Elt Ideal))

/-- The host's lines up to the masked scores, and from there on. -/
abbrev opsScore : List (HloOp τ sig (Elt Ideal)) := List.flatten [hostOps0, hostOps0_1, hostOps0_2, hostOps0_3]
abbrev opsRest : List (HloOp τ sig (Elt Ideal)) := List.flatten [hostOps0_4, hostOps0_5, hostOps0_6, hostOps0_7, hostOps0_8]

theorem rest_lse : (after opsRest W (Proc.devRef .tc main_v36) : FVec Ideal S8x1x8192 .f32)
    = shapeCast S8x1x8192 (rowLse (F := Ideal) (W (Proc.devRef .tc main_v12))) shapeCasts_S8x8192_S8x1x8192 := by
  after_reads_simp
  rfl

theorem rest_delta : (after opsRest W (Proc.devRef .tc main_v37) : FVec Ideal S8x1x8192 .f32)
    = shapeCast S8x1x8192 (rowDelta (F := Ideal) (W (Proc.devRef .tc main_v12)) (W (Proc.devRef .tc main_arg2)) (W (Proc.devRef .tc main_arg3))) shapeCasts_S8x8192_S8x1x8192 := by
  after_reads_simp
  rfl

theorem score_kept (r : Ref sig .tc) (hr : r = main_arg2 ∨ r = main_arg3) :
    after opsScore W (Proc.devRef .tc r) = W (Proc.devRef .tc r) := by
  rcases hr with rfl | rfl <;> after_reads_simp

variable (q k : Fin 8 → Fin 8192 → Fin 96 → ℝ)
  (hq : ∀ h i d, (W (Proc.devRef .tc main_arg0) : FVec Ideal S8x8192x96 .f32) (ix3 h i d) = (q h i d : EReal))
  (hk : ∀ h i d, (W (Proc.devRef .tc main_arg1) : FVec Ideal S8x8192x96 .f32) (ix3 h i d) = (k h i d : EReal))
include hq hk

theorem table_at (h : Fin 8) (i j : Fin 8192) :
    (after opsScore W (Proc.devRef .tc main_v12) : FVec Ideal S8x8192x8192 .f32) (ix3 h i j)
      = if seen i j then ((score q k h i j : ℝ) : EReal) else ⊥ := by
  after_reads_at
  change Scalar.select (IntOp.cmpi .sle (hostChunk j.val) (hostChunk i.val)) (Ideal.div _ _) (Ideal.ofBits .f32 0xFF800000#32) = _
  rw [hostChunk_eq _ j.isLt, hostChunk_eq _ i.isLt, select_chunks _ _ j.isLt i.isLt, lit_neg_inf, lit_96, sqrt_real _ (by norm_num)]
  simp only [hq, hk, ← EReal.coe_mul, ← coe_sum, div_real _ _ (show √(96 : ℝ) ≠ 0 by positivity)]
  rfl
end

section
variable (m : (ℓ : Loc nD τ sig) → Buf (Elt Ideal) ℓ) (c : Dev nD)

theorem V_eq (r : Ref sig .tc) : Gen.V m c r = after opsRest (after opsScore fun b => m (c, b)) (Proc.devRef .tc r) := by
  rw [← after_two]; rfl

variable (q k : Fin 8 → Fin 8192 → Fin 96 → ℝ) (v g : Fin 8 → Fin 8192 → Fin 64 → ℝ)
  (hq : ∀ h i d, (m (c, Proc.devRef .tc main_arg0) : FVec Ideal S8x8192x96 .f32) (ix3 h i d) = (q h i d : EReal))
  (hk : ∀ h i d, (m (c, Proc.devRef .tc main_arg1) : FVec Ideal S8x8192x96 .f32) (ix3 h i d) = (k h i d : EReal))
  (hv : ∀ h i d, (m (c, Proc.devRef .tc main_arg2) : FVec Ideal S8x8192x64 .f32) (ix3 h i d) = (v h i d : EReal))
  (hg : ∀ h i d, (m (c, Proc.devRef .tc main_arg3) : FVec Ideal S8x8192x64 .f32) (ix3 h i d) = (g h i d : EReal))

include hq in
theorem q_at (h : Fin 8) (i : Fin 8192) (d : Fin 128) : (Gen.V m c main_v31 : FVec Ideal S8x8192x128 .bf16) (ix3 h i d) = (widen q h i d : EReal) := by
  unfold Gen.V
  after_reads_at
  unfold widen
  split_ifs
  · exact hq _ _ _
  · exact pad_zero

include hk in
theorem k_at (h : Fin 8) (i : Fin 8192) (d : Fin 128) : (Gen.V m c main_v33 : FVec Ideal S8x8192x128 .bf16) (ix3 h i d) = (widen k h i d : EReal) := by
  unfold Gen.V
  after_reads_at
  unfold widen
  split_ifs
  · exact hk _ _ _
  · exact pad_zero

include hv in
theorem v_at (h : Fin 8) (i : Fin 8192) (d : Fin 64) : (Gen.V m c main_v34 : FVec Ideal S8x8192x64 .bf16) (ix3 h i d) = (v h i d : EReal) := by
  unfold Gen.V
  after_reads_at
  exact hv _ _ _

include hg in
theorem g_at (h : Fin 8) (i : Fin 8192) (d : Fin 64) : (Gen.V m c main_v35 : FVec Ideal S8x8192x64 .bf16) (ix3 h i d) = (g h i d : EReal) := by
  unfold Gen.V
  after_reads_at
  exact hg _ _ _

theorem row_at (x : FVec Ideal S8x8192 .f32) (h : Fin 8) (i : Fin 8192) :
    shapeCast S8x1x8192 x shapeCasts_S8x8192_S8x1x8192 (ix3 h 0 i) = x (ix2 h i) := by
  pointwise

include hq hk in
theorem lse_at : ∃ M : Fin 8 → Fin 8192 → ℝ, ∀ h i, (Gen.V m c main_v36 : FVec Ideal S8x1x8192 .f32) (ix3 h 0 i)
    = (((M h i + Real.log (norm q k (M h i) h i)) / Real.log 2 : ℝ) : EReal) := by
  have hX := table_at (fun b => m (c, b)) q k hq hk
  obtain ⟨M, hM⟩ := rowMax_real q k _ hX
  refine ⟨M, fun h i => ?_⟩
  rw [V_eq, rest_lse]
  exact (row_at _ h i).trans (rowLse_real q k _ hX M hM h i)

include hq hk hv hg in
theorem delta_at (h : Fin 8) (i : Fin 8192) : (Gen.V m c main_v37 : FVec Ideal S8x1x8192 .f32) (ix3 h 0 i) = ((delta q k v g h i : ℝ) : EReal) := by
  have hX := table_at (fun b => m (c, b)) q k hq hk
  obtain ⟨M, hM⟩ := rowMax_real q k _ hX
  rw [V_eq, rest_delta, score_kept _ _ (.inl rfl), score_kept _ _ (.inr rfl)]
  exact (row_at _ h i).trans (rowDelta_real q k v g _ hX M hM _ _ hv hg h i)
end

end Cert.Attn

end
-- ==== Proof.Final.lean ====
/-
  The arrays the launch leaves at finite arguments: the gradients of Math.lean, on 128 lanes where the kernel works on 128.
-/
module

public import proofs.«01_k».proof.Proof.Fold
public import proofs.«01_k».proof.Proof.HostValue
public import proofs.«01_k».proof.Proof.Run
public import Idealize.ShloMosaic.Lib.Pipeline.ValueKit
public import Idealize.ShloMosaic.Lib.StableHlo.ReadAt

@[expose] public section

set_option maxRecDepth 16384

noncomputable section

namespace Cert.Attn

open Idealize.ShloMosaic Cert.KernelIdeal Cert.KernelIdeal.Gen Cert.KernelIdeal.Attn
open scoped BigOperators

/-! ### Where the windows' blocks lie -/

theorem t_lt (t : Fin cfg0.N) : t.val < 64 := Nat.lt_of_lt_of_eq t.isLt N_0

/-- The head of half `g` at point `t`. -/
def hdOf (t : Fin cfg0.N) (g : Fin 2) : Fin 8 := ⟨t.val / 16 * 2 + g.val, by have := t_lt t; omega⟩
/-- The block of keys at point `t`. -/
def kiOf (t : Fin cfg0.N) : Fin 16 := grid0.coords t 1

theorem kiOf_val (t : Fin cfg0.N) : (kiOf t).val = t.val % 16 := (by decide +kernel : ∀ t : Fin grid0.N, (grid0.coords t 1).val = t.val % 16) t

theorem e0 : ∀ t : Fin cfg0.N, win0_0.index t = ![t.val / 16, 0, 0] := (by decide +kernel : ∀ t : Fin grid0.N, _)
theorem e1 : ∀ t : Fin cfg0.N, win0_1.index t = ![t.val / 16, 0, 0] := (by decide +kernel : ∀ t : Fin grid0.N, _)
theorem e2 : ∀ t : Fin cfg0.N, win0_2.index t = ![t.val / 16, 0, 0] := (by decide +kernel : ∀ t : Fin grid0.N, _)
theorem e3 : ∀ t : Fin cfg0.N, win0_3.index t = ![t.val / 16, 0, 0] := (by decide +kernel : ∀ t : Fin grid0.N, _)
theorem e4 : ∀ t : Fin cfg0.N, win0_4.index t = ![t.val / 16, t.val % 16, 0] := (by decide +kernel : ∀ t : Fin grid0.N, _)
theorem e5 : ∀ t : Fin cfg0.N, win0_5.index t = ![t.val / 16, t.val % 16, 0] := (by decide +kernel : ∀ t : Fin grid0.N, _)
theorem e6 : ∀ t : Fin cfg0.N, win0_6.index t = ![t.val / 16, 0, 0] := (by decide +kernel : ∀ t : Fin grid0.N, _)
theorem e7 : ∀ t : Fin cfg0.N, win0_7.index t = ![t.val / 16, t.val % 16, 0] := (by decide +kernel : ∀ t : Fin grid0.N, _)
theorem e8 : ∀ t : Fin cfg0.N, win0_8.index t = ![t.val / 16, t.val % 16, 0] := (by decide +kernel : ∀ t : Fin grid0.N, _)

theorem zero_at (a : Fin 2) (b : Fin 16) (r : Fin 512) (d : Fin 128) : k0_pay31 (F := Ideal) (ix3 a (at' b r) d) = ((0 : ℝ) : EReal) := by
  pointwise [k0_pay31]; rfl

/-- Real numbers as an array's contents. -/
def asArray {n w : ℕ} (f : Fin 8 → Fin n → Fin w → ℝ) : (⟨3, ![8, n, w]⟩ : Shape).Idx → EReal := fun i => ((f (i 0) (i 1) (i 2) : ℝ) : EReal)

section
variable (m : (ℓ : Loc nD τ sig) → Buf (Elt Ideal) ℓ) (c : Dev nD)

theorem blk0_at (t : Fin cfg0.N) (g : Fin 2) (i : Fin 8192) (d : Fin 128) :
    (iblk m c 0 t : Vec Ideal S2x8192x128 .bf16) (ix3 g i d) = (Gen.V m c main_v31 : FVec Ideal S8x8192x128 .bf16) (ix3 (hdOf t g) i d) := by
  blk_simp [iblk]
  refine congrArg (Gen.V m c main_v31 : FVec Ideal S8x8192x128 .bf16) ?_
  blk_ext [e0 t, hdOf]
theorem blk1_at (t : Fin cfg0.N) (g : Fin 2) (i : Fin 8192) (d : Fin 64) :
    (iblk m c 1 t : Vec Ideal S2x8192x64 .bf16) (ix3 g i d) = (Gen.V m c main_v35 : FVec Ideal S8x8192x64 .bf16) (ix3 (hdOf t g) i d) := by
  blk_simp [iblk]
  refine congrArg (Gen.V m c main_v35 : FVec Ideal S8x8192x64 .bf16) ?_
  blk_ext [e1 t, hdOf]
theorem blk2_at (t : Fin cfg0.N) (g : Fin 2) (i : Fin 8192) :
    (iblk m c 2 t : Vec Ideal S2x1x8192 .f32) (ix3 g 0 i) = (Gen.V m c main_v36 : FVec Ideal S8x1x8192 .f32) (ix3 (hdOf t g) 0 i) := by
  blk_simp [iblk]
  refine congrArg (Gen.V m c main_v36 : FVec Ideal S8x1x8192 .f32) ?_
  blk_ext [e2 t, hdOf]
theorem blk3_at (t : Fin cfg0.N) (g : Fin 2) (i : Fin 8192) :
    (iblk m c 3 t : Vec Ideal S2x1x8192 .f32) (ix3 g 0 i) = (Gen.V m c main_v37 : FVec Ideal S8x1x8192 .f32) (ix3 (hdOf t g) 0 i) := by
  blk_simp [iblk]
  refine congrArg (Gen.V m c main_v37 : FVec Ideal S8x1x8192 .f32) ?_
  blk_ext [e3 t, hdOf]
theorem blk4_at (t : Fin cfg0.N) (g : Fin 2) (r : Fin 512) (d : Fin 128) :
    (iblk m c 4 t : Vec Ideal S2x512x128 .bf16) (ix3 g r d)
      = (Gen.V m c main_v33 : FVec Ideal S8x8192x128 .bf16) (ix3 (hdOf t g) (at' (kiOf t) r) d) := by
  have := kiOf_val t
  blk_simp [iblk]
  refine congrArg (Gen.V m c main_v33 : FVec Ideal S8x8192x128 .bf16) ?_
  blk_ext [e4 t, hdOf, at']
theorem blk5_at (t : Fin cfg0.N) (g : Fin 2) (r : Fin 512) (d : Fin 64) :
    (iblk m c 5 t : Vec Ideal S2x512x64 .bf16) (ix3 g r d)
      = (Gen.V m c main_v34 : FVec Ideal S8x8192x64 .bf16) (ix3 (hdOf t g) (at' (kiOf t) r) d) := by
  have := kiOf_val t
  blk_simp [iblk]
  refine congrArg (Gen.V m c main_v34 : FVec Ideal S8x8192x64 .bf16) ?_
  blk_ext [e5 t, hdOf, at']

/-! ### The points of the grid -/

variable (q k : Fin 8 → Fin 8192 → Fin 96 → ℝ) (v g : Fin 8 → Fin 8192 → Fin 64 → ℝ)
  (hq : ∀ h i d, (m (c, Proc.devRef .tc main_arg0) : FVec Ideal S8x8192x96 .f32) (ix3 h i d) = (q h i d : EReal))
  (hk : ∀ h i d, (m (c, Proc.devRef .tc main_arg1) : FVec Ideal S8x8192x96 .f32) (ix3 h i d) = (k h i d : EReal))
  (hv : ∀ h i d, (m (c, Proc.devRef .tc main_arg2) : FVec Ideal S8x8192x64 .f32) (ix3 h i d) = (v h i d : EReal))
  (hg : ∀ h i d, (m (c, Proc.devRef .tc main_arg3) : FVec Ideal S8x8192x64 .f32) (ix3 h i d) = (g h i d : EReal))
include hq hk hv hg

theorem isInput : ∃ M, ∀ t : Fin cfg0.N, IsInput q k v g M (hdOf t) (kiOf t) (iblk m c 0 t) (iblk m c 1 t) (iblk m c 2 t) (iblk m c 3 t)
    (iblk m c 4 t) (iblk m c 5 t) := by
  obtain ⟨M, hM⟩ := lse_at m c q k hq hk
  exact ⟨M, fun t => {
    hq := fun a i d => (blk0_at m c t a i d).trans (q_at m c q hq _ _ _)
    hg := fun a i d => (blk1_at m c t a i d).trans (g_at m c g hg _ _ _)
    hl := fun a i => (blk2_at m c t a i).trans (hM _ _)
    hdelta := fun a i => (blk3_at m c t a i).trans (delta_at m c q k v g hq hk hv hg _ _)
    hk := fun a r d => (blk4_at m c t a r d).trans (k_at m c k hk _ _ _)
    hv := fun a r d => (blk5_at m c t a r d).trans (v_at m c v hv _ _ _) }⟩

theorem state_at (t : Fin cfg0.N) {A : Fin 2 → Fin 16 → Fin 512 → Fin 128 → ℝ} {x : Vec Ideal S2x8192x128 .f32}
    (hA : ∀ a b r d, x (ix3 a (at' b r) d) = ((A a b r d : ℝ) : EReal)) :
    IsState (fun a b r d => A a b r d + cq q k v g (hdOf t) (kiOf t) a b r d)
      (fun a r d => ∑ i, dS q k v g (hdOf t a) i (at' (kiOf t) r) * widen q (hdOf t a) i d)
      (fun a r d => dv q k g (hdOf t a) (at' (kiOf t) r) d) (stateOn m c t x) := by
  obtain ⟨M, hI⟩ := isInput m c q k v g hq hk hv hg
  exact block_state (hI t) hA

/-- The query gradient after point `t` holds the sums over the blocks of keys up to the point's. -/
theorem dqAfter_at (n : ℕ) : ∀ t : Fin cfg0.N, t.val % 16 = n → ∀ a b r d, dqAfter m c t.val (ix3 a (at' b r) d)
    = ((∑ kj : Fin 16, if kj.val ≤ n then cq q k v g (hdOf t) kj a b r d else 0 : ℝ) : EReal) := by
  induction n with
  | zero =>
    intro t ht a b r d
    have hT : ∀ kj : Fin 16, kj.val ≤ 0 ↔ False ∨ kj = kiOf t := fun kj => by
      have := kiOf_val t; rw [false_or, Fin.ext_iff]; omega
    rw [dqAfter_first m c t ht, sum_step (fun _ => False) _ (kiOf t) hT id]
    simp only [if_false, Finset.sum_const_zero]
    exact (state_at m c q k v g hq hk hv hg t zero_at).queries a b r d
  | succ n ih =>
    intro t ht a b r d
    have hlt := t_lt t
    have hT : ∀ kj : Fin 16, kj.val ≤ n + 1 ↔ kj.val ≤ n ∨ kj = kiOf t := fun kj => by
      have := kiOf_val t; rw [Fin.ext_iff]; omega
    have h0 : ¬ (kiOf t).val ≤ n := by rw [kiOf_val]; omega
    rw [dqAfter_next m c t (by omega), sum_step (fun kj : Fin 16 => kj.val ≤ n) _ (kiOf t) hT h0]
    have hd : hdOf ⟨t.val - 1, by omega⟩ = hdOf t := by
      funext a; refine Fin.ext ?_
      show (t.val - 1) / 16 * 2 + a.val = t.val / 16 * 2 + a.val
      omega
    have hp := ih ⟨t.val - 1, by omega⟩ (by dsimp only; omega)
    rw [hd] at hp
    exact (state_at m c q k v g hq hk hv hg t hp).queries a b r d

/-! ### The three arrays -/

theorem arr6 : (dats m 0 c).arrAt 6 cfg0.N
    = (asArray fun h i d => ∑ j, dS q k v g h i j * widen k h j d : FVec Ideal S8x8192x128 .f32) := by
  refine (dats m 0 c).arrAt_eq_of_covers 6 _ (by decide +kernel) fun t hf y => ?_
  have ht : t.val % 16 = 15 := (flush0_6 t).mp hf
  blk_simp
  rw [after0_6]
  idx_vars y
  have e : (((cfg0.win 6).blk t).view.emb (ix3 y0 y1 y2) : S8x8192x128.Idx) = ix3 (hdOf t y0) y1 y2 := by blk_ext [e6 t, hdOf]
  refine Eq.trans ?_ (congrArg (asArray fun h i d => ∑ j, dS q k v g h i j * widen k h j d : FVec Ideal S8x8192x128 .f32) e.symm)
  obtain ⟨b, r, rfl⟩ := exists_at' y1
  refine (dqAfter_at m c q k v g hq hk hv hg 15 t ht y0 b r y2).trans ?_
  rw [Finset.sum_congr rfl fun kj _ => if_pos (show kj.val ≤ 15 by omega)]
  exact congrArg _ (sum_blocks fun j => dS q k v g (hdOf t y0) (at' b r) j * widen k (hdOf t y0) j y2)

theorem arr7 : (dats m 0 c).arrAt 7 cfg0.N
    = (asArray fun h j d => ∑ i, dS q k v g h i j * widen q h i d : FVec Ideal S8x8192x128 .f32) := by
  refine (dats m 0 c).arrAt_eq_of_covers 7 _ (by decide +kernel) fun t hf y => ?_
  have := kiOf_val t
  blk_simp
  rw [after0_7]
  idx_vars y
  have e : (((cfg0.win 7).blk t).view.emb (ix3 y0 y1 y2) : S8x8192x128.Idx) = ix3 (hdOf t y0) (at' (kiOf t) y1) y2 := by
    blk_ext [e7 t, hdOf, at']
  refine Eq.trans ?_ (congrArg (asArray fun h j d => ∑ i, dS q k v g h i j * widen q h i d : FVec Ideal S8x8192x128 .f32) e.symm)
  exact (state_at m c q k v g hq hk hv hg t zero_at).keys y0 y1 y2

theorem arr8 : (dats m 0 c).arrAt 8 cfg0.N = (asArray (dv q k g) : FVec Ideal S8x8192x64 .f32) := by
  refine (dats m 0 c).arrAt_eq_of_covers 8 _ (by decide +kernel) fun t hf y => ?_
  have := kiOf_val t
  blk_simp
  rw [after0_8]
  idx_vars y
  have e : (((cfg0.win 8).blk t).view.emb (ix3 y0 y1 y2) : S8x8192x64.Idx) = ix3 (hdOf t y0) (at' (kiOf t) y1) y2 := by
    blk_ext [e8 t, hdOf, at']
  refine Eq.trans ?_ (congrArg (asArray (dv q k g) : FVec Ideal S8x8192x64 .f32) e.symm)
  exact (state_at m c q k v g hq hk hv hg t zero_at).values y0 y1 y2

/-! ### The results -/

omit hq hk hv hg in
theorem slices (W : Valuation τ sig (Elt Ideal)) (h : Fin 8) (i : Fin 8192) (d : Fin 96) :
    (StableHlo.after hostOps1 W (Proc.devRef .tc main_v39) : FVec Ideal S8x8192x96 .f32) (ix3 h i d)
        = (W (Proc.devRef .tc main_v38_0) : FVec Ideal S8x8192x128 .f32) (ix3 h i ⟨d.val, by omega⟩)
      ∧ (StableHlo.after hostOps1 W (Proc.devRef .tc main_v40) : FVec Ideal S8x8192x96 .f32) (ix3 h i d)
        = (W (Proc.devRef .tc main_v38_1) : FVec Ideal S8x8192x128 .f32) (ix3 h i ⟨d.val, by omega⟩) := by
  constructor <;> after_reads_at

/-- What the host finds after the launch. -/
def left : Valuation τ sig (Elt Ideal) := Pipeline.withArrays (cfgs 0).spec c (V0 m c) fun w => (dats m 0 c).arrAt w (cfgs 0).N

theorem left6 : (left m c (Proc.devRef .tc main_v38_0) : FVec Ideal S8x8192x128 .f32)
    = asArray fun h i d => ∑ j, dS q k v g h i j * widen k h j d :=
  (Pipeline.withArrays_arr (cfgs 0).spec launch0.win.arr_inj c (V0 m c) (fun w => (dats m 0 c).arrAt w (cfgs 0).N) 6).trans
    (arr6 m c q k v g hq hk hv hg)
theorem left7 : (left m c (Proc.devRef .tc main_v38_1) : FVec Ideal S8x8192x128 .f32)
    = asArray fun h j d => ∑ i, dS q k v g h i j * widen q h i d :=
  (Pipeline.withArrays_arr (cfgs 0).spec launch0.win.arr_inj c (V0 m c) (fun w => (dats m 0 c).arrAt w (cfgs 0).N) 7).trans
    (arr7 m c q k v g hq hk hv hg)

theorem dq_after (h : Fin 8) (i : Fin 8192) (d : Fin 96) :
    (StableHlo.after hostOps1 (left m c) (Proc.devRef .tc main_v39) : FVec Ideal S8x8192x96 .f32) (ix3 h i d) = ((dq q k v g h i d : ℝ) : EReal) := by
  rw [(slices (left m c) h i d).1, left6 m c q k v g hq hk hv hg]
  show ((∑ j, dS q k v g h i j * widen k h j ⟨d.val, _⟩ : ℝ) : EReal) = _
  congr 1
  exact Finset.sum_congr rfl fun j _ => by rw [widen_lt _ _ _ _ d.isLt]

theorem dk_after (h : Fin 8) (j : Fin 8192) (d : Fin 96) :
    (StableHlo.after hostOps1 (left m c) (Proc.devRef .tc main_v40) : FVec Ideal S8x8192x96 .f32) (ix3 h j d) = ((dk q k v g h j d : ℝ) : EReal) := by
  rw [(slices (left m c) h j d).2, left7 m c q k v g hq hk hv hg]
  show ((∑ i, dS q k v g h i j * widen q h i ⟨d.val, _⟩ : ℝ) : EReal) = _
  congr 1
  exact Finset.sum_congr rfl fun j _ => by rw [widen_lt _ _ _ _ d.isLt]

theorem dq_result : Pipeline.afterTail₀ cfgs (dats m) 0 (V0 m) [hostOps1] c main_v39 = (asArray (dq q k v g) : FVec Ideal S8x8192x96 .f32) := by
  show StableHlo.after hostOps1 (left m c) (Proc.devRef .tc main_v39) = _
  funext i
  idx_vars i
  exact dq_after m c q k v g hq hk hv hg i0 i1 i2

theorem dk_result : Pipeline.afterTail₀ cfgs (dats m) 0 (V0 m) [hostOps1] c main_v40 = (asArray (dk q k v g) : FVec Ideal S8x8192x96 .f32) := by
  show StableHlo.after hostOps1 (left m c) (Proc.devRef .tc main_v40) = _
  funext i
  idx_vars i
  exact dk_after m c q k v g hq hk hv hg i0 i1 i2
end

end Cert.Attn

end
-- ==== Proof.RefValue.lean ====
/-
  The three results of the reference at finite arguments: the gradients of Math.lean.
-/
module

public import proofs.«01_k».proof.Proof.Rows
public import proofs.«01_k».proof.Proof.Words
public import proofs.«01_k».proof.Proof.Gen.ReferenceIdeal.Read

@[expose] public section

set_option maxRecDepth 16384

noncomputable section

namespace Cert.Attn.Ref

open Idealize.ShloMosaic Cert.ReferenceIdeal Cert.ReferenceIdeal.Gen Cert.ReferenceIdeal.Read
open scoped BigOperators

variable (x0 x1 : FVec Ideal S8x8192x96 .f32) (x2 x3 : FVec Ideal S8x8192x64 .f32)
  (q k : Fin 8 → Fin 8192 → Fin 96 → ℝ) (v g : Fin 8 → Fin 8192 → Fin 64 → ℝ)
  (hq : ∀ h i d, x0 (ix3 h i d) = (q h i d : EReal)) (hk : ∀ h i d, x1 (ix3 h i d) = (k h i d : EReal))
  (hv : ∀ h i d, x2 (ix3 h i d) = (v h i d : EReal)) (hg : ∀ h i d, x3 (ix3 h i d) = (g h i d : EReal))

/-! ### The masked scores -/

theorem key_chunk (j : Fin 8192) : val_main_v6 (F := Ideal) (ix2 0 j) = hostChunk j.val := by
  pointwise [val_main_v6, val_main_v5, val_main_v4, val_main_call0_v11, val_main_call0_v13, val_main_call0_v2, val_main_call0_v6, val_main_call0_v10,
    val_main_call0_v12, val_main_call0_v9, val_main_call0_v8, val_main_call0_v7, val_main_call0_v5, val_main_call0_v4, val_main_call0_v3,
    val_main_call0_v1, val_main_call0_v0, val_main_call0_c, val_main_call0_c_0]
  rfl
theorem query_chunk (i : Fin 8192) : val_main_v8 (F := Ideal) (ix2 i 0) = hostChunk i.val := by
  pointwise [val_main_v8, val_main_v7, val_main_v4, val_main_call1_v11, val_main_call1_v13, val_main_call1_v2, val_main_call1_v6, val_main_call1_v10,
    val_main_call1_v12, val_main_call1_v9, val_main_call1_v8, val_main_call1_v7, val_main_call1_v5, val_main_call1_v4, val_main_call1_v3,
    val_main_call1_v1, val_main_call1_v0, val_main_call1_c, val_main_call1_c_0]
  rfl
theorem mask_at (h : Fin 8) (i j : Fin 8192) :
    val_main_v13_1 (F := Ideal) (ix3 h i j) = IntOp.cmpi .sle (BitVec.ofNat 32 (j.val / 64)) (BitVec.ofNat 32 (i.val / 64)) := by
  pointwise [val_main_v13_1, val_main_v12, val_main_v11, val_main_v10, val_main_v9]
  rw [key_chunk, query_chunk, hostChunk_eq _ j.isLt, hostChunk_eq _ i.isLt]
/-- What the mask selects: the first of two values for a key that is seen. -/
theorem select_mask {α : Type} (h : Fin 8) (i j : Fin 8192) (a b : α) :
    Scalar.select (val_main_v13_1 (F := Ideal) (ix3 h i j)) a b = if seen i j then a else b := by
  rw [mask_at, select_chunks _ _ j.isLt i.isLt]; rfl
theorem root : val_main_v1 (F := Ideal) ix0 = ((√96 : ℝ) : EReal) := by
  pointwise [val_main_v1, val_main_cst]
  rw [lit_96, sqrt_real _ (by norm_num)]

section
include hq hk
theorem table_at (h : Fin 8) (i j : Fin 8192) :
    val_main_v13_0 (F := Ideal) x0 x1 (ix3 h i j) = if seen i j then ((score q k h i j : ℝ) : EReal) else ⊥ := by
  have e : val_main_v13_0 (F := Ideal) x0 x1 (ix3 h i j) = Scalar.select (val_main_v13_1 (F := Ideal) (ix3 h i j))
      (Ideal.div (∑ d, x0 (ix3 h i d) * x1 (ix3 h j d)) (val_main_v1 (F := Ideal) ix0)) (Ideal.ofBits .f32 0xFF800000#32) := by
    pointwise [val_main_v13_0, val_main_v13_1, val_main_v12, val_main_v3, val_main_v0, val_main_v2, val_main_call2_v2, val_main_call2_v0, val_main_cst_1]
    rfl
  rw [e, select_mask, lit_neg_inf, root]
  simp only [hq, hk, ← EReal.coe_mul, ← coe_sum, div_real _ _ (show √(96 : ℝ) ≠ 0 by positivity)]
  rfl
end

/-! ### The softmax -/

theorem max_at (y : FVec Ideal S8x8192 .f32) (h : Fin 8) (i : Fin 8192) : maximumf (val_main_v20 (F := Ideal)) y (ix2 h i) = y (ix2 h i) := by
  pointwise [val_main_v20, val_main_cst_4]
  rw [lit_neg_inf, max_eq_right bot_le]

theorem reduce_eq : val_main_v14 (F := Ideal) x0 x1 = rowMax (F := Ideal) (val_main_v13_0 (F := Ideal) x0 x1) := by
  unfold val_main_v14 rowMax val_main_cst_2
  generalize val_main_v13_0 (F := Ideal) x0 x1 = X
  rfl

/-- The row's maximum of the reference is the maximum against minus infinity again. -/
theorem max_eq : val_main_v21 (F := Ideal) x0 x1 = rowMax (F := Ideal) (val_main_v13_0 (F := Ideal) x0 x1) := by
  unfold val_main_v21
  rw [← reduce_eq]
  generalize val_main_v14 (F := Ideal) x0 x1 = y
  funext i; idx_vars i
  exact max_at y _ _

theorem exp_eq : val_main_v34 (F := Ideal) x0 x1 = rowExp (F := Ideal) (val_main_v13_0 (F := Ideal) x0 x1) := by
  unfold val_main_v34 val_main_v33 val_main_v32 val_main_v31
  rw [max_eq]; rfl

theorem sum_at (h : Fin 8) (i : Fin 8192) :
    val_main_v36 (F := Ideal) x0 x1 (ix3 h i 0) = rowSum (F := Ideal) (val_main_v13_0 (F := Ideal) x0 x1) (ix2 h i) := by
  have e : val_main_v36 (F := Ideal) x0 x1 (ix3 h i 0) = val_main_v35 (F := Ideal) x0 x1 (ix2 h i) := by pointwise [val_main_v36]
  rw [e]; unfold val_main_v35; rw [exp_eq]; rfl

/-! ### The gradients -/

section
variable (M : Fin 8 → Fin 8192 → ℝ)
  (he : ∀ h i j, val_main_v34 (F := Ideal) x0 x1 (ix3 h i j) = ((wt q k (M h i) h i j : ℝ) : EReal))
  (hs : ∀ h i, val_main_v36 (F := Ideal) x0 x1 (ix3 h i 0) = ((norm q k (M h i) h i : ℝ) : EReal))
include he hs

include hg in
theorem dv_of (h : Fin 8) (j : Fin 8192) (d : Fin 64) : val_main_v44 (F := Ideal) x0 x1 x3 (ix3 h j d) = ((dv q k g h j d : ℝ) : EReal) := by
  pointwise [val_main_v44, val_main_v43, val_main_v38, val_main_v37]
  simp only [he, hs, hg, div_real _ _ (norm_pos q k _ _ _).ne', wt_div_norm, ← EReal.coe_mul, ← coe_sum]
  unfold dv; simp only [mul_comm]

include hv hg

theorem dp_at (h : Fin 8) (i j : Fin 8192) : val_main_v45 (F := Ideal) x2 x3 (ix3 h i j) = ((dp v g h i j : ℝ) : EReal) := by
  pointwise [val_main_v45]
  simp only [hv, hg, ← EReal.coe_mul, ← coe_sum]; rfl

theorem weighted_at (h : Fin 8) (i j : Fin 8192) : val_main_v48 (F := Ideal) x0 x1 x2 x3 (ix3 h i j)
    = ((dp v g h i j * (1 / (norm q k (M h i) h i * norm q k (M h i) h i)) * wt q k (M h i) h i j : ℝ) : EReal) := by
  pointwise [val_main_v48, val_main_v47, val_main_v46, val_main_v41, val_main_v40, val_main_v39, val_main_cst_11]
  have hn := (norm_pos q k (M h i) h i).ne'
  rw [dp_at x0 x1 x2 x3 q k v g hv hg M he hs, hs, he, ← EReal.coe_one, ← EReal.coe_mul, div_real _ _ (mul_ne_zero hn hn), ← EReal.coe_mul, ← EReal.coe_mul]

theorem mean_at (h : Fin 8) (i : Fin 8192) : val_main_v54 (F := Ideal) x0 x1 x2 x3 (ix2 h i)
    = ((-∑ l, dp v g h i l * (1 / (norm q k (M h i) h i * norm q k (M h i) h i)) * wt q k (M h i) h i l : ℝ) : EReal) := by
  pointwise [val_main_v54, val_main_v51, val_main_v50, val_main_v49, val_main_cst_13, val_main_cst_12]
  simp only [weighted_at x0 x1 x2 x3 q k v g hv hg M he hs, ← coe_sum, EReal.coe_neg, Fin.sum_univ_one]

theorem dS_at (h : Fin 8) (i j : Fin 8192) : val_main_v60 (F := Ideal) x0 x1 x2 x3 (ix3 h i j) = ((dS q k v g h i j : ℝ) : EReal) := by
  pointwise [val_main_v60, val_main_v59, val_main_v58, val_main_v57, val_main_v56, val_main_v55, val_main_v53, val_main_v52, val_main_call3_v0, val_main_call3_cst]
  rw [select_mask, root, dp_at x0 x1 x2 x3 q k v g hv hg M he hs, hs, he, mean_at x0 x1 x2 x3 q k v g hv hg M he hs,
    div_real _ _ (norm_pos q k _ _ _).ne', ← EReal.coe_add, ← EReal.coe_mul]
  have hr : √(96 : ℝ) ≠ 0 := by positivity
  split_ifs with hij
  · rw [div_real _ _ hr, dS_eq]
  · rw [dS_unseen q k v g h i j hij, ← EReal.coe_zero, div_real _ _ hr, zero_div]

include hq in
theorem dk_of (h : Fin 8) (j : Fin 8192) (d : Fin 96) : val_main_v61 (F := Ideal) x0 x1 x2 x3 (ix3 h j d) = ((dk q k v g h j d : ℝ) : EReal) := by
  pointwise [val_main_v61]
  simp only [dS_at x0 x1 x2 x3 q k v g hv hg M he hs, hq, ← EReal.coe_mul, ← coe_sum]; rfl

include hk in
theorem dq_of (h : Fin 8) (i : Fin 8192) (d : Fin 96) : val_main_v62 (F := Ideal) x0 x1 x2 x3 (ix3 h i d) = ((dq q k v g h i d : ℝ) : EReal) := by
  pointwise [val_main_v62]
  simp only [dS_at x0 x1 x2 x3 q k v g hv hg M he hs, hk, ← EReal.coe_mul, ← coe_sum]; rfl
end

include hq hk in
/-- There is a real for every query by which the reference shifts its scores. -/
theorem shift : ∃ M : Fin 8 → Fin 8192 → ℝ,
    (∀ h i j, val_main_v34 (F := Ideal) x0 x1 (ix3 h i j) = ((wt q k (M h i) h i j : ℝ) : EReal))
      ∧ ∀ h i, val_main_v36 (F := Ideal) x0 x1 (ix3 h i 0) = ((norm q k (M h i) h i : ℝ) : EReal) := by
  have hX := table_at x0 x1 q k hq hk
  obtain ⟨M, hM⟩ := rowMax_real q k _ hX
  refine ⟨M, fun h i j => ?_, fun h i => ?_⟩
  · rw [exp_eq]; exact rowExp_real q k _ hX M hM h i j
  · rw [sum_at]; exact rowSum_real q k _ hX M hM h i

include hq hk hv hg

theorem dv_at (h : Fin 8) (j : Fin 8192) (d : Fin 64) : val_main_v44 (F := Ideal) x0 x1 x3 (ix3 h j d) = ((dv q k g h j d : ℝ) : EReal) := by
  obtain ⟨M, he, hs⟩ := shift x0 x1 q k hq hk
  exact dv_of x0 x1 x3 q k g hg M he hs h j d
theorem dk_at (h : Fin 8) (j : Fin 8192) (d : Fin 96) : val_main_v61 (F := Ideal) x0 x1 x2 x3 (ix3 h j d) = ((dk q k v g h j d : ℝ) : EReal) := by
  obtain ⟨M, he, hs⟩ := shift x0 x1 q k hq hk
  exact dk_of x0 x1 x2 x3 q k v g hq hv hg M he hs h j d
theorem dq_at (h : Fin 8) (i : Fin 8192) (d : Fin 96) : val_main_v62 (F := Ideal) x0 x1 x2 x3 (ix3 h i d) = ((dq q k v g h i d : ℝ) : EReal) := by
  obtain ⟨M, he, hs⟩ := shift x0 x1 q k hq hk
  exact dq_of x0 x1 x2 x3 q k v g hk hv hg M he hs h i d

end Cert.Attn.Ref

end
-- ==== Proof.Value.lean ====
/-
  The two programs leave equal results at finite arguments: both leave the gradients of Math.lean.
-/
module

public import proofs.«01_k».proof.Proof.Finite
public import proofs.«01_k».proof.Proof.Final
public import proofs.«01_k».proof.Proof.RefValue
public import proofs.«01_k».proof.Proof.Gen.ReferenceIdeal.Run

@[expose] public section

set_option maxRecDepth 16384

noncomputable section

namespace Cert.Attn

open Idealize.ShloMosaic Idealize.SL.Sem Cert.KernelIdeal

attribute [local instance] facts_finite Cert.KernelIdeal.Gen.facts Cert.ReferenceIdeal.Gen.facts

section
variable (m : (ℓ : Loc nD τ sig) → Buf (Elt Ideal) ℓ) (c : Dev nD)

/-! ### The arguments as reals -/

def argQ : Fin 8 → Fin 8192 → Fin 96 → ℝ := fun h i d => ((m (c, Proc.devRef .tc main_arg0) : FVec Ideal S8x8192x96 .f32) (ix3 h i d)).toReal
def argK : Fin 8 → Fin 8192 → Fin 96 → ℝ := fun h i d => ((m (c, Proc.devRef .tc main_arg1) : FVec Ideal S8x8192x96 .f32) (ix3 h i d)).toReal
def argV : Fin 8 → Fin 8192 → Fin 64 → ℝ := fun h i d => ((m (c, Proc.devRef .tc main_arg2) : FVec Ideal S8x8192x64 .f32) (ix3 h i d)).toReal
def argG : Fin 8 → Fin 8192 → Fin 64 → ℝ := fun h i d => ((m (c, Proc.devRef .tc main_arg3) : FVec Ideal S8x8192x64 .f32) (ix3 h i d)).toReal

/-! ### The results both programs leave -/

def resQ : FVec Ideal S8x8192x96 .f32 := asArray (dq (argQ m c) (argK m c) (argV m c) (argG m c))
def resK : FVec Ideal S8x8192x96 .f32 := asArray (dk (argQ m c) (argK m c) (argV m c) (argG m c))
def resV : FVec Ideal S8x8192x64 .f32 := asArray (dv (argQ m c) (argK m c) (argG m c))

end

variable (m : (ℓ : Loc nD τ sig) → Buf (Elt Ideal) ℓ) (hpre : Cert.Pre_KernelIdeal_finite m)
include hpre

theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v39) = resQ m c
      ∧ r.2.mem ((c.tc : Thread nD τ).loc main_v40) = resK m c
      ∧ r.2.mem ((c.tc : Thread nD τ).loc main_v38_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c =>
    ⟨((h.1 c).2 main_v39 (Pipeline.mem_restRefs_of main_v39 (by decide) (by decide))).trans
        (dq_result m c _ _ _ _ (arg0_real m c hpre) (arg1_real m c hpre) (arg2_real m c hpre) (arg3_real m c hpre)),
      ((h.1 c).2 main_v40 (Pipeline.mem_restRefs_of main_v40 (by decide) (by decide))).trans
        (dk_result m c _ _ _ _ (arg0_real m c hpre) (arg1_real m c hpre) (arg2_real m c hpre) (arg3_real m c hpre)),
      ((h.1 c).1 8).trans
        (arr8 m c _ _ _ _ (arg0_real m c hpre) (arg1_real m c hpre) (arg2_real m c hpre) (arg3_real m c hpre)),
      h.2.1 c⟩)
    (θ_run_and (Attn.run_main m ρ) (Attn.frame m ρ))

theorem reference_results
    (m' : (ℓ : Loc Cert.ReferenceIdeal.nD Cert.ReferenceIdeal.τ Cert.ReferenceIdeal.sig) → Buf (Elt Ideal) ℓ)
    (same : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3))
    (c : Dev nD) :
    Cert.ReferenceIdeal.Value.res_main_v62 m' c = resQ m c ∧ Cert.ReferenceIdeal.Value.res_main_v61 m' c = resK m c
      ∧ Cert.ReferenceIdeal.Value.res_main_v44 m' c = resV m c := by
  obtain ⟨e0, e1, e2, e3⟩ := same c
  rw [Cert.ReferenceIdeal.Read.val_main_v62_eq, Cert.ReferenceIdeal.Read.val_main_v61_eq, Cert.ReferenceIdeal.Read.val_main_v44_eq, e0, e1, e2, e3]
  refine ⟨funext fun i => ?_, funext fun i => ?_, funext fun i => ?_⟩ <;> idx_vars i
  · exact Ref.dq_at _ _ _ _ _ _ _ _ (arg0_real m c hpre) (arg1_real m c hpre) (arg2_real m c hpre) (arg3_real m c hpre) i0 i1 i2
  · exact Ref.dk_at _ _ _ _ _ _ _ _ (arg0_real m c hpre) (arg1_real m c hpre) (arg2_real m c hpre) (arg3_real m c hpre) i0 i1 i2
  · exact Ref.dv_at _ _ _ _ _ _ _ _ (arg0_real m c hpre) (arg1_real m c hpre) (arg2_real m c hpre) (arg3_real m c hpre) i0 i1 i2

omit hpre in
/-- The kernel and the reference leave the same three gradients, their arguments unchanged. -/
theorem algebraic : Cert.algebraic_KernelIdeal_ReferenceIdeal_pre_finite := fun m ρ m' ρ' hpre same =>
  ⟨resQ m, resK m, resV m, kernel_run m hpre ρ, (θ_run _ _ _).mono (fun r h c =>
    have e := reference_results m hpre m' same c
    ⟨(h c).1.trans e.1, (h c).2.1.trans e.2.1, (h c).2.2.1.trans e.2.2, (h c).2.2.2⟩) (Cert.ReferenceIdeal.Value.run (F := Ideal) m' ρ')⟩

end Cert.Attn

end
-- ==== Proof.FwdStep.lean ====
/-
  Attention forward: one step of the kernel's body as a function of the values. A grid point takes one block of 512
  queries of four heads; a step takes one block of 512 keys, and brings every head's running maximum, sum of weights and
  weighted sum of values up to date.
-/
module

public import proofs.«01_k».proof.Proof.Gen.Kernel2Ideal.Frame
public import Idealize.ShloMosaic.Lib.VecWindow

@[expose] public section

set_option maxRecDepth 16384

noncomputable section

namespace Cert.Fwd

open Idealize.ShloMosaic Idealize.ShloMosaic.TcCoe Cert.Kernel2Ideal Cert.Kernel2Ideal.Gen

variable {F : FTy → Type} [FloatOps F] [Named F]

/-- A head under way: per query the maximum, the sum of the weights, and the weighted sum of the values. -/
abbrev Hd (F : FTy → Type) [FloatOps F] := FVec F S1x512 .f32 × FVec F S1x512 .f32 × FVec F S64x512 .f32
/-- The four heads, as the loop carries them. -/
abbrev All (F : FTy → Type) [FloatOps F] :=
  FVec F S1x512 .f32 × FVec F S1x512 .f32 × FVec F S64x512 .f32 × FVec F S1x512 .f32 × FVec F S1x512 .f32 × FVec F S64x512 .f32
    × FVec F S1x512 .f32 × FVec F S1x512 .f32 × FVec F S64x512 .f32 × FVec F S1x512 .f32 × FVec F S1x512 .f32 × FVec F S64x512 .f32

def pack (f : Fin 4 → Hd F) : All F :=
  ((f 0).1, (f 0).2.1, (f 0).2.2, (f 1).1, (f 1).2.1, (f 1).2.2, (f 2).1, (f 2).2.1, (f 2).2.2, (f 3).1, (f 3).2.1, (f 3).2.2)

/-- The scores of a block, keys down and queries across. -/
def scores (qb kb : Vec F S1x512x128 .bf16) : FVec F S512x512 .f32 := k0_pay1 (k0_pay41 qb) kb
/-- The scores of a diagonal block, with the chunk mask. -/
def masked (s : FVec F S512x512 .f32) : FVec F S512x512 .f32 :=
  k0_pay82 s (k0_pay80 (iota .tc S512x512 32 [0] iota_S512x512_d0_w32) 64#32 k0_pay78 k0_pay79) k0_pay81
/-- A head brought up to date by a block of scores and of values. -/
def headStep (s : FVec F S512x512 .f32) (vb : Vec F S1x64x512 .bf16) (x : Hd F) : Hd F :=
  (k0_pay57 x.1 s, k0_pay60 x.1 x.2.1 s, k0_pay61 x.1 x.2.2 s vb)
/-- A head before any key. -/
def start : Hd F := (k0_pay45, k0_pay46, k0_pay47)

theorem inbQ (g : Fin 4) : ∀ a, (![g.val, 0, 0] : Fin 3 → ℕ) a + S1x512x128.size a ≤ S4x512x128.size a := by
  have := g.isLt
  intro a; fin_cases a
  · show g.val + 1 ≤ 4; omega
  · show 0 + 512 ≤ 512; omega
  · show 0 + 128 ≤ 128; omega
theorem inbK (g : Fin 4) (b : Fin 16) : ∀ a, (![g.val, 512 * b.val, 0] : Fin 3 → ℕ) a + S1x512x128.size a ≤ S4x8192x128.size a := by
  have := g.isLt; have := b.isLt
  intro a; fin_cases a
  · show g.val + 1 ≤ 4; omega
  · show 512 * b.val + 512 ≤ 8192; omega
  · show 0 + 128 ≤ 128; omega
theorem inbV (g : Fin 4) (b : Fin 16) : ∀ a, (![g.val, 0, 512 * b.val] : Fin 3 → ℕ) a + S1x64x512.size a ≤ S4x64x8192.size a := by
  have := g.isLt; have := b.isLt
  intro a; fin_cases a
  · show g.val + 1 ≤ 4; omega
  · show 0 + 64 ≤ 64; omega
  · show 512 * b.val + 512 ≤ 8192; omega

/-- Head `g`'s queries, its keys of block `b`, and its values of block `b`. -/
def ofQ (x : Vec F S4x512x128 .bf16) (g : Fin 4) : Vec F S1x512x128 .bf16 := VecWindow.window x ![g.val, 0, 0] S1x512x128.size (inbQ g)
def ofK (x : Vec F S4x8192x128 .bf16) (g : Fin 4) (b : Fin 16) : Vec F S1x512x128 .bf16 := VecWindow.window x ![g.val, 512 * b.val, 0] S1x512x128.size (inbK g b)
def ofV (x : Vec F S4x64x8192 .bf16) (g : Fin 4) (b : Fin 16) : Vec F S1x64x512 .bf16 := VecWindow.window x ![g.val, 0, 512 * b.val] S1x64x512.size (inbV g b)

section
variable (Q : Vec F S4x512x128 .bf16) (K : Vec F S4x8192x128 .bf16) (V : Vec F S4x64x8192 .bf16)

/-- Head `g` after the first `n` blocks of keys. -/
def heads (g : Fin 4) : ℕ → Hd F
  | 0 => start
  | n + 1 => if h : n < 16 then headStep (scores (ofQ Q g) (ofK K g ⟨n, h⟩)) (ofV V g ⟨n, h⟩) (heads g n) else heads g n

theorem heads_succ (g : Fin 4) (n : ℕ) (h : n < 16) :
    heads Q K V g (n + 1) = headStep (scores (ofQ Q g) (ofK K g ⟨n, h⟩)) (ofV V g ⟨n, h⟩) (heads Q K V g n) := dif_pos h

/-- Head `g` after the diagonal block too. -/
def whole (g : Fin 4) (qi : Fin 16) : Hd F :=
  headStep (masked (scores (ofQ Q g) (ofK K g qi))) (ofV V g qi) (heads Q K V g qi.val)
end

/-! ### The counted loop -/

variable (c : Dev nD) (i : grid0.Coords)
  (arg2 : Memref sig .tc .vmem S4x512x128 .bf16) (harg2 : arg2.IsWhole)
  (arg3 : Memref sig .tc .vmem S4x8192x128 .bf16) (harg3 : arg3.IsWhole)
  (arg4 : Memref sig .tc .vmem S4x64x8192 .bf16) (harg4 : arg4.IsWhole)
  (arg5 : Memref sig .tc .vmem S4x512x64 .bf16) (harg5 : arg5.IsWhole)
  (arg6 : Memref sig .tc .vmem S4x512x64 .f32) (harg6 : arg6.IsWhole)
  (arg7 : Memref sig .tc .vmem S4x1x512 .f32) (harg7 : arg7.IsWhole)
  (v0 v2 v4 v6 : Vec F S1x512x128 .bf16) (X3 : BufTy.Contents (Elt F) arg3.view.ty) (X4 : BufTy.Contents (Elt F) arg4.view.ty)

/-- A load of a unit-stride box of a memref's contents. -/
abbrev rd {s : Shape} {e : EltTy} (m : Memref sig .tc .vmem s e) (X : BufTy.Contents (Elt F) m.view.ty) (off size : Fin s.rank → ℕ) (inb : ∀ a, off a + size a ≤ s.size a) :=
  m.view.readAt (Elt F) (Rect.unit (s := s) off size inb).toLoadRect X

set_option maxHeartbeats 1000000 in
/-- One trip brings the four heads up to date. -/
theorem trip_eq (k : Fin (k0_t1_loop i).trips) (f : Fin 4 → Hd F) :
    tripR_k0_t1 (F := F) Variants.none c none i arg2 harg2 arg3 harg3 arg4 harg4 arg5 harg5 arg6 harg6 arg7 harg7 v0 v2 v4 v6 X3 X4 k (pack f)
      = pack ![headStep (scores v0 (rd arg3 X3 (k0_off1 i k) S1x512x128.size (k0_off1_inb i k))) (rd arg4 X4 (k0_off2 i k) S1x64x512.size (k0_off2_inb i k)) (f 0), headStep (scores v2 (rd arg3 X3 (k0_off3 i k) S1x512x128.size (k0_off3_inb i k))) (rd arg4 X4 (k0_off4 i k) S1x64x512.size (k0_off4_inb i k)) (f 1), headStep (scores v4 (rd arg3 X3 (k0_off5 i k) S1x512x128.size (k0_off5_inb i k))) (rd arg4 X4 (k0_off6 i k) S1x64x512.size (k0_off6_inb i k)) (f 2), headStep (scores v6 (rd arg3 X3 (k0_off7 i k) S1x512x128.size (k0_off7_inb i k))) (rd arg4 X4 (k0_off8 i k) S1x64x512.size (k0_off8_inb i k)) (f 3)] := by
  unfold tripR_k0_t1 trip_k0_t1
  rfl

theorem trips1 : (k0_t1_loop i).trips = (i 1).val := by
  have h : ∀ n : Fin 16, Scf.trips 0#32 (Scalar.addi 0#32 (Scalar.muli (Scalar.divsi (Scalar.subi (BitVec.ofNat 32 n.val) 0#32) 1#32) 1#32)) 1#32 = n.val := by decide
  exact h (i 1)
theorem trips2 : (k0_t2_loop i).trips = 0 := Nat.le_zero.1 (k0_t2_abs i).2.1

/-- The loop's carried value after `n` trips. -/
theorem loop_eq (K : Vec F S4x8192x128 .bf16) (V : Vec F S4x64x8192 .bf16) (Q : Vec F S4x512x128 .bf16)
    (h3 : arg3.view.read (Elt F) X3 = K) (h4 : arg4.view.read (Elt F) X4 = V)
    (e0 : v0 = ofQ Q 0) (e2 : v2 = ofQ Q 1) (e4 : v4 = ofQ Q 2) (e6 : v6 = ofQ Q 3) :
    ∀ n ≤ (k0_t1_loop i).trips,
      st_k0_t1 (F := F) Variants.none c none i arg2 harg2 arg3 harg3 arg4 harg4 arg5 harg5 arg6 harg6 arg7 harg7 v0 v2 v4 v6 X3 X4 (pack fun _ => start) n
        = pack fun g => heads Q K V g n := by
  intro n
  induction n with
  | zero => intro _; rfl
  | succ n ih =>
    intro hn
    have hk : n < 16 := by have := trips1 i; have := (i 1).isLt; change (i 1).val < 16 at this; omega
    have hs := st_k0_t1_succ (F := F) Variants.none c none i arg2 harg2 arg3 harg3 arg4 harg4 arg5 harg5 arg6 harg6 arg7 harg7 v0 v2 v4 v6 X3 X4 (pack fun _ => start) ⟨n, hn⟩
    rw [hs, ih (by omega), trip_eq]
    have rk (g : Fin 4) (off) (inb) (ho : off = ![g.val, 512 * n, 0]) : rd arg3 X3 off S1x512x128.size inb = ofK K g ⟨n, hk⟩ := by
      rw [← h3]; exact View.readAt_unit arg3.view X3 _ ho (inbK g ⟨n, hk⟩)
    have rv (g : Fin 4) (off) (inb) (ho : off = ![g.val, 0, 512 * n]) : rd arg4 X4 off S1x64x512.size inb = ofV V g ⟨n, hk⟩ := by
      rw [← h4]; exact View.readAt_unit arg4.view X4 _ ho (inbV g ⟨n, hk⟩)
    rw [rk 0 _ _ (k0_off1_eq i _), rv 0 _ _ (k0_off2_eq i _), rk 1 _ _ (k0_off3_eq i _), rv 1 _ _ (k0_off4_eq i _), rk 2 _ _ (k0_off5_eq i _), rv 2 _ _ (k0_off6_eq i _), rk 3 _ _ (k0_off7_eq i _), rv 3 _ _ (k0_off8_eq i _), e0, e2, e4, e6]
    congr 1
    funext g
    rw [heads_succ Q K V g n hk]
    fin_cases g <;> rfl

end Cert.Fwd

end
-- ==== Proof.FwdRun.lean ====
/-
  Attention forward: what a grid point leaves in the three outputs' blocks, head by head.
-/
module

public import proofs.«01_k».proof.Proof.FwdStep

@[expose] public section

set_option maxRecDepth 16384

noncomputable section

namespace Cert.Fwd

open Idealize.ShloMosaic Idealize.ShloMosaic.TcCoe Cert.Kernel2Ideal Cert.Kernel2Ideal.Gen

variable {F : FTy → Type} [FloatOps F] [Named F]

/-- The four heads out of what the loop carries. -/
def un (a : All F) : Fin 4 → Hd F :=
  ![(a.1, a.2.1, a.2.2.1), (a.2.2.2.1, a.2.2.2.2.1, a.2.2.2.2.2.1), (a.2.2.2.2.2.2.1, a.2.2.2.2.2.2.2.1, a.2.2.2.2.2.2.2.2.1),
    (a.2.2.2.2.2.2.2.2.2.1, a.2.2.2.2.2.2.2.2.2.2.1, a.2.2.2.2.2.2.2.2.2.2.2)]
theorem un_pack (f : Fin 4 → Hd F) : un (pack f) = f := by
  funext g; fin_cases g <;> rfl

/-! ### The diagonal block, as each head's text has it -/

section
variable (q kb : Vec F S1x512x128 .bf16) (vb : Vec F S1x64x512 .bf16) (x : Hd F)
def diag0 : Hd F :=
  (k0_pay72 x.1 (k0_pay67 (k0_pay41 q) kb) k0_pay68 (iota .tc S512x512 32 [1] iota_S512x512_d1_w32) 64#32 k0_pay69 k0_pay70 1#32 0#1,
    k0_pay75 x.1 x.2.1 (k0_pay67 (k0_pay41 q) kb) k0_pay68 (iota .tc S512x512 32 [1] iota_S512x512_d1_w32) 64#32 k0_pay69 k0_pay70 1#32 0#1,
    k0_pay76 x.1 x.2.2 (k0_pay67 (k0_pay41 q) kb) k0_pay68 (iota .tc S512x512 32 [1] iota_S512x512_d1_w32) 64#32 k0_pay69 k0_pay70 1#32 0#1 vb)
def diag1 : Hd F :=
  (k0_pay83 x.1 (k0_pay77 (k0_pay42 q) kb) (k0_pay80 (iota .tc S512x512 32 [0] iota_S512x512_d0_w32) 64#32 k0_pay78 k0_pay79) k0_pay81,
    k0_pay86 x.1 x.2.1 (k0_pay77 (k0_pay42 q) kb) (k0_pay80 (iota .tc S512x512 32 [0] iota_S512x512_d0_w32) 64#32 k0_pay78 k0_pay79) k0_pay81,
    k0_pay87 x.1 x.2.2 (k0_pay77 (k0_pay42 q) kb) (k0_pay80 (iota .tc S512x512 32 [0] iota_S512x512_d0_w32) 64#32 k0_pay78 k0_pay79) k0_pay81 vb)
def diag2 : Hd F :=
  (k0_pay93 x.1 (k0_pay88 (k0_pay43 q) kb) k0_pay89 k0_pay90 k0_pay91,
    k0_pay96 x.1 x.2.1 (k0_pay88 (k0_pay43 q) kb) k0_pay89 k0_pay90 k0_pay91,
    k0_pay98 (k0_pay94 x.1 (k0_pay88 (k0_pay43 q) kb) k0_pay89 k0_pay90 k0_pay91) (k0_pay97 x.1 x.2.2 (k0_pay88 (k0_pay43 q) kb) k0_pay89 k0_pay90 k0_pay91) vb)
def diag3 : Hd F :=
  (k0_pay104 x.1 (k0_pay99 (k0_pay44 q) kb) k0_pay100 (iota .tc S512x512 32 [1] iota_S512x512_d1_w32) 64#32 k0_pay101 k0_pay102 0#32,
    k0_pay107 x.1 x.2.1 (k0_pay99 (k0_pay44 q) kb) k0_pay100 (iota .tc S512x512 32 [1] iota_S512x512_d1_w32) 64#32 k0_pay101 k0_pay102 0#32,
    k0_pay108 x.1 x.2.2 (k0_pay99 (k0_pay44 q) kb) k0_pay100 (iota .tc S512x512 32 [1] iota_S512x512_d1_w32) 64#32 k0_pay101 k0_pay102 0#32 vb)

theorem one_word : (1#32 : BitVec 32) = Scalar.extui (Scalar.cmpi .sgt 64#32 0#32) := by decide
theorem zero_bit : (0#1 : BitVec 1) = Scalar.cmpi .slt 64#32 0#32 := by decide

theorem mask0 (s : FVec F S512x512 .f32) : k0_pay71 s k0_pay68 (iota .tc S512x512 32 [1] iota_S512x512_d1_w32) 64#32 k0_pay69 k0_pay70 1#32 0#1 = masked s := by
  rw [one_word, zero_bit]; rfl

theorem diag0_eq : diag0 q kb vb x = headStep (masked (scores q kb)) vb x := by
  rw [← mask0]; rfl
theorem diag1_eq : diag1 q kb vb x = headStep (masked (scores q kb)) vb x := rfl
theorem diag2_eq : diag2 q kb vb x = headStep (masked (scores q kb)) vb x := rfl
theorem diag3_eq : diag3 q kb vb x = headStep (masked (scores q kb)) vb x := rfl
end

/-! ### The stores, last first -/

section
variable (x : Fin 4 → Hd F)
def piecesB : List (View.Piece (Elt F) S4x512x64 .bf16) :=
  [⟨Rect.unit (s := S4x512x64) ![3, 0, 0] S1x512x64.size inb_S4x512x64_S1x512x64_3_0_0, k0_pay123 (x 3).2.1 (x 3).2.2⟩,
    ⟨Rect.unit (s := S4x512x64) ![2, 0, 0] S1x512x64.size inb_S4x512x64_S1x512x64_2_0_0, k0_pay119 (k0_pay117 (x 2).2.1 (x 2).2.2)⟩,
    ⟨Rect.unit (s := S4x512x64) ![1, 0, 0] S1x512x64.size inb_S4x512x64_S1x512x64_1_0_0, k0_pay115 (x 1).2.1 (x 1).2.2⟩,
    ⟨Rect.unit (s := S4x512x64) ![0, 0, 0] S1x512x64.size inb_S4x512x64_S1x512x64_0_0_0, k0_pay111 (k0_pay109 (x 0).2.1 (x 0).2.2)⟩]
def piecesO : List (View.Piece (Elt F) S4x512x64 .f32) :=
  [⟨Rect.unit (s := S4x512x64) ![3, 0, 0] S1x512x64.size inb_S4x512x64_S1x512x64_3_0_0, k0_pay122 (x 3).2.1 (x 3).2.2⟩,
    ⟨Rect.unit (s := S4x512x64) ![2, 0, 0] S1x512x64.size inb_S4x512x64_S1x512x64_2_0_0, k0_pay118 (k0_pay117 (x 2).2.1 (x 2).2.2)⟩,
    ⟨Rect.unit (s := S4x512x64) ![1, 0, 0] S1x512x64.size inb_S4x512x64_S1x512x64_1_0_0, k0_pay114 (x 1).2.1 (x 1).2.2⟩,
    ⟨Rect.unit (s := S4x512x64) ![0, 0, 0] S1x512x64.size inb_S4x512x64_S1x512x64_0_0_0, k0_pay110 (k0_pay109 (x 0).2.1 (x 0).2.2)⟩]
def piecesL : List (View.Piece (Elt F) S4x1x512 .f32) :=
  [⟨Rect.unit (s := S4x1x512) ![3, 0, 0] S1x1x512.size inb_S4x1x512_S1x1x512_3_0_0, k0_pay124 (x 3).1 (x 3).2.1⟩,
    ⟨Rect.unit (s := S4x1x512) ![2, 0, 0] S1x1x512.size inb_S4x1x512_S1x1x512_2_0_0, k0_pay120 (x 2).1 (x 2).2.1⟩,
    ⟨Rect.unit (s := S4x1x512) ![1, 0, 0] S1x1x512.size inb_S4x1x512_S1x1x512_1_0_0, k0_pay116 (x 1).1 (x 1).2.1⟩,
    ⟨Rect.unit (s := S4x1x512) ![0, 0, 0] S1x1x512.size inb_S4x1x512_S1x1x512_0_0_0, k0_pay112 (x 0).1 (x 0).2.1⟩]
end

theorem un_tuple (A : All F) : un (A.1, A.2.1, A.2.2.1, A.2.2.2.1, A.2.2.2.2.1, A.2.2.2.2.2.1, A.2.2.2.2.2.2.1, A.2.2.2.2.2.2.2.1, A.2.2.2.2.2.2.2.2.1,
    A.2.2.2.2.2.2.2.2.2.1, A.2.2.2.2.2.2.2.2.2.2.1, A.2.2.2.2.2.2.2.2.2.2.2) = un A := rfl

variable (c : Dev nD) (i : grid0.Coords)
  (arg2 : Memref sig .tc .vmem S4x512x128 .bf16) (harg2 : arg2.IsWhole)
  (arg3 : Memref sig .tc .vmem S4x8192x128 .bf16) (harg3 : arg3.IsWhole)
  (arg4 : Memref sig .tc .vmem S4x64x8192 .bf16) (harg4 : arg4.IsWhole)
  (arg5 : Memref sig .tc .vmem S4x512x64 .bf16) (harg5 : arg5.IsWhole)
  (arg6 : Memref sig .tc .vmem S4x512x64 .f32) (harg6 : arg6.IsWhole)
  (arg7 : Memref sig .tc .vmem S4x1x512 .f32) (harg7 : arg7.IsWhole)

/-- The grid point's block of queries. -/
abbrev qi (i : grid0.Coords) : Fin 16 := i 1

/-- The heads after both loops (the second makes no trip) and the diagonal block. -/
def diag (X2 : BufTy.Contents (Elt F) arg2.view.ty) (X3 : BufTy.Contents (Elt F) arg3.view.ty) (X4 : BufTy.Contents (Elt F) arg4.view.ty) (A : All F) : Fin 4 → Hd F :=
  ![diag0 (rd arg2 X2 ![0, 0, 0] S1x512x128.size inb_S4x512x128_S1x512x128_0_0_0) (rd arg3 X3 (k0_off17 i) S1x512x128.size (k0_off17_inb i)) (rd arg4 X4 (k0_off18 i) S1x64x512.size (k0_off18_inb i)) (un A 0),
    diag1 (rd arg2 X2 ![1, 0, 0] S1x512x128.size inb_S4x512x128_S1x512x128_1_0_0) (rd arg3 X3 (k0_off19 i) S1x512x128.size (k0_off19_inb i)) (rd arg4 X4 (k0_off20 i) S1x64x512.size (k0_off20_inb i)) (un A 1),
    diag2 (rd arg2 X2 ![2, 0, 0] S1x512x128.size inb_S4x512x128_S1x512x128_2_0_0) (rd arg3 X3 (k0_off21 i) S1x512x128.size (k0_off21_inb i)) (rd arg4 X4 (k0_off22 i) S1x64x512.size (k0_off22_inb i)) (un A 2),
    diag3 (rd arg2 X2 ![3, 0, 0] S1x512x128.size inb_S4x512x128_S1x512x128_3_0_0) (rd arg3 X3 (k0_off23 i) S1x512x128.size (k0_off23_inb i)) (rd arg4 X4 (k0_off24 i) S1x64x512.size (k0_off24_inb i)) (un A 3)]
def loop1 (X2 : BufTy.Contents (Elt F) arg2.view.ty) (X3 : BufTy.Contents (Elt F) arg3.view.ty) (X4 : BufTy.Contents (Elt F) arg4.view.ty) : All F :=
  st_k0_t1 (F := F) Variants.none c none i arg2 harg2 arg3 harg3 arg4 harg4 arg5 harg5 arg6 harg6 arg7 harg7
    (rd arg2 X2 ![0, 0, 0] S1x512x128.size inb_S4x512x128_S1x512x128_0_0_0) (rd arg2 X2 ![1, 0, 0] S1x512x128.size inb_S4x512x128_S1x512x128_1_0_0) (rd arg2 X2 ![2, 0, 0] S1x512x128.size inb_S4x512x128_S1x512x128_2_0_0) (rd arg2 X2 ![3, 0, 0] S1x512x128.size inb_S4x512x128_S1x512x128_3_0_0) X3 X4
    (k0_pay45, k0_pay46, k0_pay47, k0_pay48, k0_pay49, k0_pay50, k0_pay51, k0_pay52, k0_pay53, k0_pay54, k0_pay55, k0_pay56)
    (Scf.trips (k0_t1_loop i).lb (k0_t1_loop i).ub (k0_t1_loop i).st)
def loop2 (v24 : BitVec 32) (X2 : BufTy.Contents (Elt F) arg2.view.ty) (X3 : BufTy.Contents (Elt F) arg3.view.ty) (X4 : BufTy.Contents (Elt F) arg4.view.ty) (A : All F) : All F :=
  st_k0_t2 (F := F) Variants.none c none i arg2 harg2 arg3 harg3 arg4 harg4 arg5 harg5 arg6 harg6 arg7 harg7
    (rd arg2 X2 ![0, 0, 0] S1x512x128.size inb_S4x512x128_S1x512x128_0_0_0) (rd arg2 X2 ![1, 0, 0] S1x512x128.size inb_S4x512x128_S1x512x128_1_0_0) (rd arg2 X2 ![2, 0, 0] S1x512x128.size inb_S4x512x128_S1x512x128_2_0_0) (rd arg2 X2 ![3, 0, 0] S1x512x128.size inb_S4x512x128_S1x512x128_3_0_0) v24 X3 X4
    (A.1, A.2.1, A.2.2.1, A.2.2.2.1, A.2.2.2.2.1, A.2.2.2.2.2.1, A.2.2.2.2.2.2.1, A.2.2.2.2.2.2.2.1, A.2.2.2.2.2.2.2.2.1,
      A.2.2.2.2.2.2.2.2.2.1, A.2.2.2.2.2.2.2.2.2.2.1, A.2.2.2.2.2.2.2.2.2.2.2)
    (Scf.trips (k0_t2_loop i).lb (k0_t2_loop i).ub (k0_t2_loop i).st)
def done (v24 : BitVec 32) (X2 : BufTy.Contents (Elt F) arg2.view.ty) (X3 : BufTy.Contents (Elt F) arg3.view.ty) (X4 : BufTy.Contents (Elt F) arg4.view.ty) : Fin 4 → Hd F :=
  diag i arg2 arg3 arg4 X2 X3 X4 (loop2 c i arg2 harg2 arg3 harg3 arg4 harg4 arg5 harg5 arg6 harg6 arg7 harg7 v24 X2 X3 X4 (loop1 c i arg2 harg2 arg3 harg3 arg4 harg4 arg5 harg5 arg6 harg6 arg7 harg7 X2 X3 X4))

set_option maxHeartbeats 1000000 in
theorem pieces_eq (x0 : Vec F S4x512x128 .bf16) (x1 : Vec F S4x8192x128 .bf16) (x2 : Vec F S4x64x8192 .bf16) : ∃ v24 : BitVec 32,
    (kernelRun0_A c i arg2 harg2 arg3 harg3 arg4 harg4 arg5 harg5 arg6 harg6 arg7 harg7 x0 x1 x2).1 = piecesB (done c i arg2 harg2 arg3 harg3 arg4 harg4 arg5 harg5 arg6 harg6 arg7 harg7 v24 (harg2.unread x0) (harg3.unread x1) (harg4.unread x2))
    ∧ (kernelRun0_A c i arg2 harg2 arg3 harg3 arg4 harg4 arg5 harg5 arg6 harg6 arg7 harg7 x0 x1 x2).2.1 = piecesO (done c i arg2 harg2 arg3 harg3 arg4 harg4 arg5 harg5 arg6 harg6 arg7 harg7 v24 (harg2.unread x0) (harg3.unread x1) (harg4.unread x2))
    ∧ (kernelRun0_A c i arg2 harg2 arg3 harg3 arg4 harg4 arg5 harg5 arg6 harg6 arg7 harg7 x0 x1 x2).2.2.1 = piecesL (done c i arg2 harg2 arg3 harg3 arg4 harg4 arg5 harg5 arg6 harg6 arg7 harg7 v24 (harg2.unread x0) (harg3.unread x1) (harg4.unread x2)) := by
  refine ⟨kernelRun0_A.sl.v24 i, ?_⟩
  have h4 : kernelRun0_A.sl.r_4 c i arg2 harg2 arg3 harg3 arg4 harg4 arg5 harg5 arg6 harg6 arg7 harg7 x0 x1 x2 = (loop2 c i arg2 harg2 arg3 harg3 arg4 harg4 arg5 harg5 arg6 harg6 arg7 harg7 (kernelRun0_A.sl.v24 i) (harg2.unread x0) (harg3.unread x1) (harg4.unread x2) (loop1 c i arg2 harg2 arg3 harg3 arg4 harg4 arg5 harg5 arg6 harg6 arg7 harg7 (harg2.unread x0) (harg3.unread x1) (harg4.unread x2))).1 := by
    unfold kernelRun0_A.sl.r_4 loop2 loop1; with_reducible rfl
  have h5 : kernelRun0_A.sl.r_5 c i arg2 harg2 arg3 harg3 arg4 harg4 arg5 harg5 arg6 harg6 arg7 harg7 x0 x1 x2 = (loop2 c i arg2 harg2 arg3 harg3 arg4 harg4 arg5 harg5 arg6 harg6 arg7 harg7 (kernelRun0_A.sl.v24 i) (harg2.unread x0) (harg3.unread x1) (harg4.unread x2) (loop1 c i arg2 harg2 arg3 harg3 arg4 harg4 arg5 harg5 arg6 harg6 arg7 harg7 (harg2.unread x0) (harg3.unread x1) (harg4.unread x2))).2.1 := by
    unfold kernelRun0_A.sl.r_5 loop2 loop1; with_reducible rfl
  have h6 : kernelRun0_A.sl.r_6 c i arg2 harg2 arg3 harg3 arg4 harg4 arg5 harg5 arg6 harg6 arg7 harg7 x0 x1 x2 = (loop2 c i arg2 harg2 arg3 harg3 arg4 harg4 arg5 harg5 arg6 harg6 arg7 harg7 (kernelRun0_A.sl.v24 i) (harg2.unread x0) (harg3.unread x1) (harg4.unread x2) (loop1 c i arg2 harg2 arg3 harg3 arg4 harg4 arg5 harg5 arg6 harg6 arg7 harg7 (harg2.unread x0) (harg3.unread x1) (harg4.unread x2))).2.2.1 := by
    unfold kernelRun0_A.sl.r_6 loop2 loop1; with_reducible rfl
  have h7 : kernelRun0_A.sl.r_7 c i arg2 harg2 arg3 harg3 arg4 harg4 arg5 harg5 arg6 harg6 arg7 harg7 x0 x1 x2 = (loop2 c i arg2 harg2 arg3 harg3 arg4 harg4 arg5 harg5 arg6 harg6 arg7 harg7 (kernelRun0_A.sl.v24 i) (harg2.unread x0) (harg3.unread x1) (harg4.unread x2) (loop1 c i arg2 harg2 arg3 harg3 arg4 harg4 arg5 harg5 arg6 harg6 arg7 harg7 (harg2.unread x0) (harg3.unread x1) (harg4.unread x2))).2.2.2.1 := by
    unfold kernelRun0_A.sl.r_7 loop2 loop1; with_reducible rfl
  have h8 : kernelRun0_A.sl.r_8 c i arg2 harg2 arg3 harg3 arg4 harg4 arg5 harg5 arg6 harg6 arg7 harg7 x0 x1 x2 = (loop2 c i arg2 harg2 arg3 harg3 arg4 harg4 arg5 harg5 arg6 harg6 arg7 harg7 (kernelRun0_A.sl.v24 i) (harg2.unread x0) (harg3.unread x1) (harg4.unread x2) (loop1 c i arg2 harg2 arg3 harg3 arg4 harg4 arg5 harg5 arg6 harg6 arg7 harg7 (harg2.unread x0) (harg3.unread x1) (harg4.unread x2))).2.2.2.2.1 := by
    unfold kernelRun0_A.sl.r_8 loop2 loop1; with_reducible rfl
  have h9 : kernelRun0_A.sl.r_9 c i arg2 harg2 arg3 harg3 arg4 harg4 arg5 harg5 arg6 harg6 arg7 harg7 x0 x1 x2 = (loop2 c i arg2 harg2 arg3 harg3 arg4 harg4 arg5 harg5 arg6 harg6 arg7 harg7 (kernelRun0_A.sl.v24 i) (harg2.unread x0) (harg3.unread x1) (harg4.unread x2) (loop1 c i arg2 harg2 arg3 harg3 arg4 harg4 arg5 harg5 arg6 harg6 arg7 harg7 (harg2.unread x0) (harg3.unread x1) (harg4.unread x2))).2.2.2.2.2.1 := by
    unfold kernelRun0_A.sl.r_9 loop2 loop1; with_reducible rfl
  have h10 : kernelRun0_A.sl.r_10 c i arg2 harg2 arg3 harg3 arg4 harg4 arg5 harg5 arg6 harg6 arg7 harg7 x0 x1 x2 = (loop2 c i arg2 harg2 arg3 harg3 arg4 harg4 arg5 harg5 arg6 harg6 arg7 harg7 (kernelRun0_A.sl.v24 i) (harg2.unread x0) (harg3.unread x1) (harg4.unread x2) (loop1 c i arg2 harg2 arg3 harg3 arg4 harg4 arg5 harg5 arg6 harg6 arg7 harg7 (harg2.unread x0) (harg3.unread x1) (harg4.unread x2))).2.2.2.2.2.2.1 := by
    unfold kernelRun0_A.sl.r_10 loop2 loop1; with_reducible rfl
  have h11 : kernelRun0_A.sl.r_11 c i arg2 harg2 arg3 harg3 arg4 harg4 arg5 harg5 arg6 harg6 arg7 harg7 x0 x1 x2 = (loop2 c i arg2 harg2 arg3 harg3 arg4 harg4 arg5 harg5 arg6 harg6 arg7 harg7 (kernelRun0_A.sl.v24 i) (harg2.unread x0) (harg3.unread x1) (harg4.unread x2) (loop1 c i arg2 harg2 arg3 harg3 arg4 harg4 arg5 harg5 arg6 harg6 arg7 harg7 (harg2.unread x0) (harg3.unread x1) (harg4.unread x2))).2.2.2.2.2.2.2.1 := by
    unfold kernelRun0_A.sl.r_11 loop2 loop1; with_reducible rfl
  have h12 : kernelRun0_A.sl.r_12 c i arg2 harg2 arg3 harg3 arg4 harg4 arg5 harg5 arg6 harg6 arg7 harg7 x0 x1 x2 = (loop2 c i arg2 harg2 arg3 harg3 arg4 harg4 arg5 harg5 arg6 harg6 arg7 harg7 (kernelRun0_A.sl.v24 i) (harg2.unread x0) (harg3.unread x1) (harg4.unread x2) (loop1 c i arg2 harg2 arg3 harg3 arg4 harg4 arg5 harg5 arg6 harg6 arg7 harg7 (harg2.unread x0) (harg3.unread x1) (harg4.unread x2))).2.2.2.2.2.2.2.2.1 := by
    unfold kernelRun0_A.sl.r_12 loop2 loop1; with_reducible rfl
  have h13 : kernelRun0_A.sl.r_13 c i arg2 harg2 arg3 harg3 arg4 harg4 arg5 harg5 arg6 harg6 arg7 harg7 x0 x1 x2 = (loop2 c i arg2 harg2 arg3 harg3 arg4 harg4 arg5 harg5 arg6 harg6 arg7 harg7 (kernelRun0_A.sl.v24 i) (harg2.unread x0) (harg3.unread x1) (harg4.unread x2) (loop1 c i arg2 harg2 arg3 harg3 arg4 harg4 arg5 harg5 arg6 harg6 arg7 harg7 (harg2.unread x0) (harg3.unread x1) (harg4.unread x2))).2.2.2.2.2.2.2.2.2.1 := by
    unfold kernelRun0_A.sl.r_13 loop2 loop1; with_reducible rfl
  have h14 : kernelRun0_A.sl.r_14 c i arg2 harg2 arg3 harg3 arg4 harg4 arg5 harg5 arg6 harg6 arg7 harg7 x0 x1 x2 = (loop2 c i arg2 harg2 arg3 harg3 arg4 harg4 arg5 harg5 arg6 harg6 arg7 harg7 (kernelRun0_A.sl.v24 i) (harg2.unread x0) (harg3.unread x1) (harg4.unread x2) (loop1 c i arg2 harg2 arg3 harg3 arg4 harg4 arg5 harg5 arg6 harg6 arg7 harg7 (harg2.unread x0) (harg3.unread x1) (harg4.unread x2))).2.2.2.2.2.2.2.2.2.2.1 := by
    unfold kernelRun0_A.sl.r_14 loop2 loop1; with_reducible rfl
  have h15 : kernelRun0_A.sl.r_15 c i arg2 harg2 arg3 harg3 arg4 harg4 arg5 harg5 arg6 harg6 arg7 harg7 x0 x1 x2 = (loop2 c i arg2 harg2 arg3 harg3 arg4 harg4 arg5 harg5 arg6 harg6 arg7 harg7 (kernelRun0_A.sl.v24 i) (harg2.unread x0) (harg3.unread x1) (harg4.unread x2) (loop1 c i arg2 harg2 arg3 harg3 arg4 harg4 arg5 harg5 arg6 harg6 arg7 harg7 (harg2.unread x0) (harg3.unread x1) (harg4.unread x2))).2.2.2.2.2.2.2.2.2.2.2 := by
    unfold kernelRun0_A.sl.r_15 loop2 loop1; with_reducible rfl
  have s0 : kernelRun0_A.sl.r_16 c i arg2 harg2 arg3 harg3 x0 x1 = k0_pay67 (k0_pay41 (rd arg2 (harg2.unread x0) ![0, 0, 0] S1x512x128.size inb_S4x512x128_S1x512x128_0_0_0)) (rd arg3 (harg3.unread x1) (k0_off17 i) S1x512x128.size (k0_off17_inb i)) := rfl
  have s1 : kernelRun0_A.sl.r_20 c i arg2 harg2 arg3 harg3 x0 x1 = k0_pay77 (k0_pay42 (rd arg2 (harg2.unread x0) ![1, 0, 0] S1x512x128.size inb_S4x512x128_S1x512x128_1_0_0)) (rd arg3 (harg3.unread x1) (k0_off19 i) S1x512x128.size (k0_off19_inb i)) := rfl
  have s2 : kernelRun0_A.sl.r_24 c i arg2 harg2 arg3 harg3 x0 x1 = k0_pay88 (k0_pay43 (rd arg2 (harg2.unread x0) ![2, 0, 0] S1x512x128.size inb_S4x512x128_S1x512x128_2_0_0)) (rd arg3 (harg3.unread x1) (k0_off21 i) S1x512x128.size (k0_off21_inb i)) := rfl
  have s3 : kernelRun0_A.sl.r_26 c i arg2 harg2 arg3 harg3 x0 x1 = k0_pay99 (k0_pay44 (rd arg2 (harg2.unread x0) ![3, 0, 0] S1x512x128.size inb_S4x512x128_S1x512x128_3_0_0)) (rd arg3 (harg3.unread x1) (k0_off23 i) S1x512x128.size (k0_off23_inb i)) := rfl
  have e00 : kernelRun0_A.sl.r_17 c i arg2 harg2 arg3 harg3 arg4 harg4 arg5 harg5 arg6 harg6 arg7 harg7 x0 x1 x2 = k0_pay72 (kernelRun0_A.sl.r_4 c i arg2 harg2 arg3 harg3 arg4 harg4 arg5 harg5 arg6 harg6 arg7 harg7 x0 x1 x2) (kernelRun0_A.sl.r_16 c i arg2 harg2 arg3 harg3 x0 x1) k0_pay68 (iota .tc S512x512 32 [1] iota_S512x512_d1_w32) 64#32 k0_pay69 k0_pay70 1#32 0#1 := rfl
  have e01 : kernelRun0_A.sl.r_18 c i arg2 harg2 arg3 harg3 arg4 harg4 arg5 harg5 arg6 harg6 arg7 harg7 x0 x1 x2 = k0_pay75 (kernelRun0_A.sl.r_4 c i arg2 harg2 arg3 harg3 arg4 harg4 arg5 harg5 arg6 harg6 arg7 harg7 x0 x1 x2) (kernelRun0_A.sl.r_5 c i arg2 harg2 arg3 harg3 arg4 harg4 arg5 harg5 arg6 harg6 arg7 harg7 x0 x1 x2) (kernelRun0_A.sl.r_16 c i arg2 harg2 arg3 harg3 x0 x1) k0_pay68 (iota .tc S512x512 32 [1] iota_S512x512_d1_w32) 64#32 k0_pay69 k0_pay70 1#32 0#1 := rfl
  have e02 : kernelRun0_A.sl.r_19 c i arg2 harg2 arg3 harg3 arg4 harg4 arg5 harg5 arg6 harg6 arg7 harg7 x0 x1 x2 = k0_pay76 (kernelRun0_A.sl.r_4 c i arg2 harg2 arg3 harg3 arg4 harg4 arg5 harg5 arg6 harg6 arg7 harg7 x0 x1 x2) (kernelRun0_A.sl.r_6 c i arg2 harg2 arg3 harg3 arg4 harg4 arg5 harg5 arg6 harg6 arg7 harg7 x0 x1 x2) (kernelRun0_A.sl.r_16 c i arg2 harg2 arg3 harg3 x0 x1) k0_pay68 (iota .tc S512x512 32 [1] iota_S512x512_d1_w32) 64#32 k0_pay69 k0_pay70 1#32 0#1 (rd arg4 (harg4.unread x2) (k0_off18 i) S1x64x512.size (k0_off18_inb i)) := rfl
  have e10 : kernelRun0_A.sl.r_21 c i arg2 harg2 arg3 harg3 arg4 harg4 arg5 harg5 arg6 harg6 arg7 harg7 x0 x1 x2 = k0_pay83 (kernelRun0_A.sl.r_7 c i arg2 harg2 arg3 harg3 arg4 harg4 arg5 harg5 arg6 harg6 arg7 harg7 x0 x1 x2) (kernelRun0_A.sl.r_20 c i arg2 harg2 arg3 harg3 x0 x1) (k0_pay80 (iota .tc S512x512 32 [0] iota_S512x512_d0_w32) 64#32 k0_pay78 k0_pay79) k0_pay81 := rfl
  have e11 : kernelRun0_A.sl.r_22 c i arg2 harg2 arg3 harg3 arg4 harg4 arg5 harg5 arg6 harg6 arg7 harg7 x0 x1 x2 = k0_pay86 (kernelRun0_A.sl.r_7 c i arg2 harg2 arg3 harg3 arg4 harg4 arg5 harg5 arg6 harg6 arg7 harg7 x0 x1 x2) (kernelRun0_A.sl.r_8 c i arg2 harg2 arg3 harg3 arg4 harg4 arg5 harg5 arg6 harg6 arg7 harg7 x0 x1 x2) (kernelRun0_A.sl.r_20 c i arg2 harg2 arg3 harg3 x0 x1) (k0_pay80 (iota .tc S512x512 32 [0] iota_S512x512_d0_w32) 64#32 k0_pay78 k0_pay79) k0_pay81 := rfl
  have e12 : kernelRun0_A.sl.r_23 c i arg2 harg2 arg3 harg3 arg4 harg4 arg5 harg5 arg6 harg6 arg7 harg7 x0 x1 x2 = k0_pay87 (kernelRun0_A.sl.r_7 c i arg2 harg2 arg3 harg3 arg4 harg4 arg5 harg5 arg6 harg6 arg7 harg7 x0 x1 x2) (kernelRun0_A.sl.r_9 c i arg2 harg2 arg3 harg3 arg4 harg4 arg5 harg5 arg6 harg6 arg7 harg7 x0 x1 x2) (kernelRun0_A.sl.r_20 c i arg2 harg2 arg3 harg3 x0 x1) (k0_pay80 (iota .tc S512x512 32 [0] iota_S512x512_d0_w32) 64#32 k0_pay78 k0_pay79) k0_pay81 (rd arg4 (harg4.unread x2) (k0_off20 i) S1x64x512.size (k0_off20_inb i)) := rfl
  have e20 : kernelRun0_A.sl.v248 c i arg2 harg2 arg3 harg3 arg4 harg4 arg5 harg5 arg6 harg6 arg7 harg7 x0 x1 x2 = k0_pay93 (kernelRun0_A.sl.r_10 c i arg2 harg2 arg3 harg3 arg4 harg4 arg5 harg5 arg6 harg6 arg7 harg7 x0 x1 x2) (kernelRun0_A.sl.r_24 c i arg2 harg2 arg3 harg3 x0 x1) k0_pay89 k0_pay90 k0_pay91 := rfl
  have e21 : kernelRun0_A.sl.v257 c i arg2 harg2 arg3 harg3 arg4 harg4 arg5 harg5 arg6 harg6 arg7 harg7 x0 x1 x2 = k0_pay96 (kernelRun0_A.sl.r_10 c i arg2 harg2 arg3 harg3 arg4 harg4 arg5 harg5 arg6 harg6 arg7 harg7 x0 x1 x2) (kernelRun0_A.sl.r_11 c i arg2 harg2 arg3 harg3 arg4 harg4 arg5 harg5 arg6 harg6 arg7 harg7 x0 x1 x2) (kernelRun0_A.sl.r_24 c i arg2 harg2 arg3 harg3 x0 x1) k0_pay89 k0_pay90 k0_pay91 := rfl
  have e22 : kernelRun0_A.sl.r_25 c i arg2 harg2 arg3 harg3 arg4 harg4 arg5 harg5 arg6 harg6 arg7 harg7 x0 x1 x2 = k0_pay98 (k0_pay94 (kernelRun0_A.sl.r_10 c i arg2 harg2 arg3 harg3 arg4 harg4 arg5 harg5 arg6 harg6 arg7 harg7 x0 x1 x2) (kernelRun0_A.sl.r_24 c i arg2 harg2 arg3 harg3 x0 x1) k0_pay89 k0_pay90 k0_pay91) (k0_pay97 (kernelRun0_A.sl.r_10 c i arg2 harg2 arg3 harg3 arg4 harg4 arg5 harg5 arg6 harg6 arg7 harg7 x0 x1 x2) (kernelRun0_A.sl.r_12 c i arg2 harg2 arg3 harg3 arg4 harg4 arg5 harg5 arg6 harg6 arg7 harg7 x0 x1 x2) (kernelRun0_A.sl.r_24 c i arg2 harg2 arg3 harg3 x0 x1) k0_pay89 k0_pay90 k0_pay91) (rd arg4 (harg4.unread x2) (k0_off22 i) S1x64x512.size (k0_off22_inb i)) := rfl
  have e30 : kernelRun0_A.sl.v327 c i arg2 harg2 arg3 harg3 arg4 harg4 arg5 harg5 arg6 harg6 arg7 harg7 x0 x1 x2 = k0_pay104 (kernelRun0_A.sl.r_13 c i arg2 harg2 arg3 harg3 arg4 harg4 arg5 harg5 arg6 harg6 arg7 harg7 x0 x1 x2) (kernelRun0_A.sl.r_26 c i arg2 harg2 arg3 harg3 x0 x1) k0_pay100 (iota .tc S512x512 32 [1] iota_S512x512_d1_w32) 64#32 k0_pay101 k0_pay102 0#32 := rfl
  have e31 : kernelRun0_A.sl.v336 c i arg2 harg2 arg3 harg3 arg4 harg4 arg5 harg5 arg6 harg6 arg7 harg7 x0 x1 x2 = k0_pay107 (kernelRun0_A.sl.r_13 c i arg2 harg2 arg3 harg3 arg4 harg4 arg5 harg5 arg6 harg6 arg7 harg7 x0 x1 x2) (kernelRun0_A.sl.r_14 c i arg2 harg2 arg3 harg3 arg4 harg4 arg5 harg5 arg6 harg6 arg7 harg7 x0 x1 x2) (kernelRun0_A.sl.r_26 c i arg2 harg2 arg3 harg3 x0 x1) k0_pay100 (iota .tc S512x512 32 [1] iota_S512x512_d1_w32) 64#32 k0_pay101 k0_pay102 0#32 := rfl
  have e32 : kernelRun0_A.sl.v344 c i arg2 harg2 arg3 harg3 arg4 harg4 arg5 harg5 arg6 harg6 arg7 harg7 x0 x1 x2 = k0_pay108 (kernelRun0_A.sl.r_13 c i arg2 harg2 arg3 harg3 arg4 harg4 arg5 harg5 arg6 harg6 arg7 harg7 x0 x1 x2) (kernelRun0_A.sl.r_15 c i arg2 harg2 arg3 harg3 arg4 harg4 arg5 harg5 arg6 harg6 arg7 harg7 x0 x1 x2) (kernelRun0_A.sl.r_26 c i arg2 harg2 arg3 harg3 x0 x1) k0_pay100 (iota .tc S512x512 32 [1] iota_S512x512_d1_w32) 64#32 k0_pay101 k0_pay102 0#32 (rd arg4 (harg4.unread x2) (k0_off24 i) S1x64x512.size (k0_off24_inb i)) := rfl
  have d00 : kernelRun0_A.sl.r_17 c i arg2 harg2 arg3 harg3 arg4 harg4 arg5 harg5 arg6 harg6 arg7 harg7 x0 x1 x2 = (done c i arg2 harg2 arg3 harg3 arg4 harg4 arg5 harg5 arg6 harg6 arg7 harg7 (kernelRun0_A.sl.v24 i) (harg2.unread x0) (harg3.unread x1) (harg4.unread x2) 0).1 := by
    rw [e00, s0, h4]; rfl
  have d01 : kernelRun0_A.sl.r_18 c i arg2 harg2 arg3 harg3 arg4 harg4 arg5 harg5 arg6 harg6 arg7 harg7 x0 x1 x2 = (done c i arg2 harg2 arg3 harg3 arg4 harg4 arg5 harg5 arg6 harg6 arg7 harg7 (kernelRun0_A.sl.v24 i) (harg2.unread x0) (harg3.unread x1) (harg4.unread x2) 0).2.1 := by
    rw [e01, s0, h4, h5]; rfl
  have d02 : kernelRun0_A.sl.r_19 c i arg2 harg2 arg3 harg3 arg4 harg4 arg5 harg5 arg6 harg6 arg7 harg7 x0 x1 x2 = (done c i arg2 harg2 arg3 harg3 arg4 harg4 arg5 harg5 arg6 harg6 arg7 harg7 (kernelRun0_A.sl.v24 i) (harg2.unread x0) (harg3.unread x1) (harg4.unread x2) 0).2.2 := by
    rw [e02, s0, h4, h6]; rfl
  have d10 : kernelRun0_A.sl.r_21 c i arg2 harg2 arg3 harg3 arg4 harg4 arg5 harg5 arg6 harg6 arg7 harg7 x0 x1 x2 = (done c i arg2 harg2 arg3 harg3 arg4 harg4 arg5 harg5 arg6 harg6 arg7 harg7 (kernelRun0_A.sl.v24 i) (harg2.unread x0) (harg3.unread x1) (harg4.unread x2) 1).1 := by
    rw [e10, s1, h7]; rfl
  have d11 : kernelRun0_A.sl.r_22 c i arg2 harg2 arg3 harg3 arg4 harg4 arg5 harg5 arg6 harg6 arg7 harg7 x0 x1 x2 = (done c i arg2 harg2 arg3 harg3 arg4 harg4 arg5 harg5 arg6 harg6 arg7 harg7 (kernelRun0_A.sl.v24 i) (harg2.unread x0) (harg3.unread x1) (harg4.unread x2) 1).2.1 := by
    rw [e11, s1, h7, h8]; rfl
  have d12 : kernelRun0_A.sl.r_23 c i arg2 harg2 arg3 harg3 arg4 harg4 arg5 harg5 arg6 harg6 arg7 harg7 x0 x1 x2 = (done c i arg2 harg2 arg3 harg3 arg4 harg4 arg5 harg5 arg6 harg6 arg7 harg7 (kernelRun0_A.sl.v24 i) (harg2.unread x0) (harg3.unread x1) (harg4.unread x2) 1).2.2 := by
    rw [e12, s1, h7, h9]; rfl
  have d20 : kernelRun0_A.sl.v248 c i arg2 harg2 arg3 harg3 arg4 harg4 arg5 harg5 arg6 harg6 arg7 harg7 x0 x1 x2 = (done c i arg2 harg2 arg3 harg3 arg4 harg4 arg5 harg5 arg6 harg6 arg7 harg7 (kernelRun0_A.sl.v24 i) (harg2.unread x0) (harg3.unread x1) (harg4.unread x2) 2).1 := by
    rw [e20, s2, h10]; rfl
  have d21 : kernelRun0_A.sl.v257 c i arg2 harg2 arg3 harg3 arg4 harg4 arg5 harg5 arg6 harg6 arg7 harg7 x0 x1 x2 = (done c i arg2 harg2 arg3 harg3 arg4 harg4 arg5 harg5 arg6 harg6 arg7 harg7 (kernelRun0_A.sl.v24 i) (harg2.unread x0) (harg3.unread x1) (harg4.unread x2) 2).2.1 := by
    rw [e21, s2, h10, h11]; rfl
  have d22 : kernelRun0_A.sl.r_25 c i arg2 harg2 arg3 harg3 arg4 harg4 arg5 harg5 arg6 harg6 arg7 harg7 x0 x1 x2 = (done c i arg2 harg2 arg3 harg3 arg4 harg4 arg5 harg5 arg6 harg6 arg7 harg7 (kernelRun0_A.sl.v24 i) (harg2.unread x0) (harg3.unread x1) (harg4.unread x2) 2).2.2 := by
    rw [e22, s2, h10, h12]; rfl
  have d30 : kernelRun0_A.sl.v327 c i arg2 harg2 arg3 harg3 arg4 harg4 arg5 harg5 arg6 harg6 arg7 harg7 x0 x1 x2 = (done c i arg2 harg2 arg3 harg3 arg4 harg4 arg5 harg5 arg6 harg6 arg7 harg7 (kernelRun0_A.sl.v24 i) (harg2.unread x0) (harg3.unread x1) (harg4.unread x2) 3).1 := by
    rw [e30, s3, h13]; rfl
  have d31 : kernelRun0_A.sl.v336 c i arg2 harg2 arg3 harg3 arg4 harg4 arg5 harg5 arg6 harg6 arg7 harg7 x0 x1 x2 = (done c i arg2 harg2 arg3 harg3 arg4 harg4 arg5 harg5 arg6 harg6 arg7 harg7 (kernelRun0_A.sl.v24 i) (harg2.unread x0) (harg3.unread x1) (harg4.unread x2) 3).2.1 := by
    rw [e31, s3, h13, h14]; rfl
  have d32 : kernelRun0_A.sl.v344 c i arg2 harg2 arg3 harg3 arg4 harg4 arg5 harg5 arg6 harg6 arg7 harg7 x0 x1 x2 = (done c i arg2 harg2 arg3 harg3 arg4 harg4 arg5 harg5 arg6 harg6 arg7 harg7 (kernelRun0_A.sl.v24 i) (harg2.unread x0) (harg3.unread x1) (harg4.unread x2) 3).2.2 := by
    rw [e32, s3, h13, h15]; rfl
  have f0 : kernelRun0_A.sl.v347 c i arg2 harg2 arg3 harg3 arg4 harg4 arg5 harg5 arg6 harg6 arg7 harg7 x0 x1 x2 = k0_pay109 (kernelRun0_A.sl.r_18 c i arg2 harg2 arg3 harg3 arg4 harg4 arg5 harg5 arg6 harg6 arg7 harg7 x0 x1 x2) (kernelRun0_A.sl.r_19 c i arg2 harg2 arg3 harg3 arg4 harg4 arg5 harg5 arg6 harg6 arg7 harg7 x0 x1 x2) := rfl
  have f2 : kernelRun0_A.sl.r_27 c i arg2 harg2 arg3 harg3 arg4 harg4 arg5 harg5 arg6 harg6 arg7 harg7 x0 x1 x2 = k0_pay117 (kernelRun0_A.sl.v257 c i arg2 harg2 arg3 harg3 arg4 harg4 arg5 harg5 arg6 harg6 arg7 harg7 x0 x1 x2) (kernelRun0_A.sl.r_25 c i arg2 harg2 arg3 harg3 arg4 harg4 arg5 harg5 arg6 harg6 arg7 harg7 x0 x1 x2) := rfl
  have f3 : kernelRun0_A.sl.r_28 c i arg2 harg2 arg3 harg3 arg4 harg4 arg5 harg5 arg6 harg6 arg7 harg7 x0 x1 x2 = k0_pay124 (kernelRun0_A.sl.v327 c i arg2 harg2 arg3 harg3 arg4 harg4 arg5 harg5 arg6 harg6 arg7 harg7 x0 x1 x2) (kernelRun0_A.sl.v336 c i arg2 harg2 arg3 harg3 arg4 harg4 arg5 harg5 arg6 harg6 arg7 harg7 x0 x1 x2) := rfl
  unfold kernelRun0_A piecesB piecesO piecesL
  dsimp only
  rw [f0, f2, f3, d00, d01, d02, d10, d11, d12, d20, d21, d22, d30, d31, d32]
  exact ⟨rfl, rfl, rfl⟩

/-- The heads after the diagonal block, by values. -/
theorem done_eq (v24 : BitVec 32) (Q : Vec F S4x512x128 .bf16) (K : Vec F S4x8192x128 .bf16) (V : Vec F S4x64x8192 .bf16) :
    done c i arg2 harg2 arg3 harg3 arg4 harg4 arg5 harg5 arg6 harg6 arg7 harg7 v24 (harg2.unread Q) (harg3.unread K) (harg4.unread V) = fun g => whole Q K V g (qi i) := by
  unfold done loop2
  have t2 : Scf.trips (k0_t2_loop i).lb (k0_t2_loop i).ub (k0_t2_loop i).st = 0 := trips2 i
  rw [t2, st_k0_t2_zero]
  have rq (g : Fin 4) (off) (inb) (ho : off = ![g.val, 0, 0]) : rd arg2 (harg2.unread Q) off S1x512x128.size inb = ofQ Q g := by
    conv_rhs => rw [← harg2.read_unread (Val := Elt F) Q]
    exact View.readAt_unit arg2.view _ _ ho (inbQ g)
  have rk (g : Fin 4) (off) (inb) (ho : off = ![g.val, 512 * (i 1).val, 0]) : rd arg3 (harg3.unread K) off S1x512x128.size inb = ofK K g (qi i) := by
    conv_rhs => rw [← harg3.read_unread (Val := Elt F) K]
    exact View.readAt_unit arg3.view _ _ ho (inbK g (qi i))
  have rv (g : Fin 4) (off) (inb) (ho : off = ![g.val, 0, 512 * (i 1).val]) : rd arg4 (harg4.unread V) off S1x64x512.size inb = ofV V g (qi i) := by
    conv_rhs => rw [← harg4.read_unread (Val := Elt F) V]
    exact View.readAt_unit arg4.view _ _ ho (inbV g (qi i))
  have l1 : loop1 c i arg2 harg2 arg3 harg3 arg4 harg4 arg5 harg5 arg6 harg6 arg7 harg7 (harg2.unread Q) (harg3.unread K) (harg4.unread V) = pack fun g => heads Q K V g (i 1).val := by
    have h := loop_eq c i arg2 harg2 arg3 harg3 arg4 harg4 arg5 harg5 arg6 harg6 arg7 harg7 _ _ _ _ _ _ K V Q (harg3.read_unread K) (harg4.read_unread V) (rq 0 ![0, 0, 0] inb_S4x512x128_S1x512x128_0_0_0 rfl) (rq 1 ![1, 0, 0] inb_S4x512x128_S1x512x128_1_0_0 rfl)
      (rq 2 ![2, 0, 0] inb_S4x512x128_S1x512x128_2_0_0 rfl) (rq 3 ![3, 0, 0] inb_S4x512x128_S1x512x128_3_0_0 rfl) _ (le_refl _)
    rw [← trips1 i]; exact h
  rw [l1]
  unfold diag
  rw [un_tuple, un_pack, diag0_eq, diag1_eq, diag2_eq, diag3_eq, rq 0 ![0, 0, 0] _ rfl, rk 0 _ _ (k0_off17_eq i), rv 0 _ _ (k0_off18_eq i), rq 1 ![1, 0, 0] _ rfl, rk 1 _ _ (k0_off19_eq i), rv 1 _ _ (k0_off20_eq i), rq 2 ![2, 0, 0] _ rfl, rk 2 _ _ (k0_off21_eq i), rv 2 _ _ (k0_off22_eq i), rq 3 ![3, 0, 0] _ rfl, rk 3 _ _ (k0_off23_eq i), rv 3 _ _ (k0_off24_eq i)]
  funext g
  fin_cases g <;> rfl

end Cert.Fwd

end
-- ==== Proof.FwdValue.lean ====
/-
  Attention forward: the payloads of a step and of the stores at an index, and the windows at an index.
-/
module

public import proofs.«01_k».proof.Proof.FwdRun
public import proofs.«01_k».proof.Proof.Rows
public import proofs.«01_k».proof.Proof.Words

@[expose] public section

set_option maxRecDepth 16384

noncomputable section

namespace Cert.Fwd

open Idealize.ShloMosaic Cert.Kernel2Ideal Cert.Kernel2Ideal.Gen Cert.Attn
open scoped BigOperators

theorem scale2_eq : (Named.named κ "att_scale2" (φ := .f32) 0x3E16C740#32 : Ideal .f32) = (((√96)⁻¹ * (Real.log 2)⁻¹ : ℝ) : EReal) := rfl
theorem log2_eq : (Named.named κ "log2" (φ := .f32) 0x3F317218#32 : Ideal .f32) = ((Real.log 2 : ℝ) : EReal) := rfl

section
variable (qb kb : Vec Ideal S1x512x128 .bf16) (s : FVec Ideal S512x512 .f32) (vb : Vec Ideal S1x64x512 .bf16) (x : Hd Ideal)

theorem scores_at (r c : Fin 512) : scores qb kb (ix2 r c)
    = (∑ d, kb (ix3 0 r d) * qb (ix3 0 c d)) * (((√96)⁻¹ * (Real.log 2)⁻¹ : ℝ) : EReal) := by
  rw [← scale2_eq]
  pointwise [scores, k0_pay1, k0_pay41]

theorem masked_at (r c : Fin 512) : masked s (ix2 r c) = if r.val / 64 ≤ c.val / 64 then s (ix2 r c) else ⊥ := by
  pointwise [masked, k0_pay82, k0_pay80, k0_pay78, k0_pay79, k0_pay81]
  change Scalar.select (IntOp.cmpi .sle (laneChunk r.val) (laneChunk c.val)) (s (ix2 r c)) (Ideal.ofBits .f32 0xFF800000#32) = _
  rw [laneChunk_eq _ (by omega), laneChunk_eq _ (by omega), select_chunks _ _ (by omega) (by omega), lit_neg_inf]

/-- The maximum of a column of scores, and of what the head had. -/
def newMax (m : EReal) (t : Fin 512 → EReal) : EReal := max m (Finset.univ.fold max ⊥ t)

theorem max_at (c : Fin 512) : (headStep s vb x).1 (ix2 0 c) = newMax (x.1 (ix2 0 c)) fun r => s (ix2 r c) := by
  unfold newMax headStep
  rw [← lit_neg_inf]
  pointwise [k0_pay57]

theorem sum_at (c : Fin 512) : (headStep s vb x).2.1 (ix2 0 c)
    = Ideal.exp2 (x.1 (ix2 0 c) - newMax (x.1 (ix2 0 c)) fun r => s (ix2 r c)) * x.2.1 (ix2 0 c)
      + ∑ r, Ideal.exp2 (s (ix2 r c) - newMax (x.1 (ix2 0 c)) fun r => s (ix2 r c)) := by
  rw [← max_at s vb x c]
  unfold headStep
  dsimp only
  generalize e : k0_pay57 x.1 s = M
  pointwise [k0_pay60, k0_pay59, k0_pay58]
  rw [e]; rfl

theorem acc_at (c : Fin 512) (d : Fin 64) : (headStep s vb x).2.2 (ix2 d c)
    = Ideal.exp2 (x.1 (ix2 0 c) - newMax (x.1 (ix2 0 c)) fun r => s (ix2 r c)) * x.2.2 (ix2 d c)
      + ∑ r, vb (ix3 0 d r) * Ideal.exp2 (s (ix2 r c) - newMax (x.1 (ix2 0 c)) fun r => s (ix2 r c)) := by
  rw [← max_at s vb x c]
  unfold headStep
  dsimp only
  generalize e : k0_pay57 x.1 s = M
  pointwise [k0_pay61, k0_pay59, k0_pay58]
  rw [e]; rfl

theorem start_max (c : Fin 512) : (start (F := Ideal)).1 (ix2 0 c) = ⊥ := by
  show k0_pay45 (F := Ideal) (ix2 0 c) = ⊥
  pointwise [k0_pay45]
  exact lit_neg_inf
theorem start_sum (c : Fin 512) : (start (F := Ideal)).2.1 (ix2 0 c) = 0 := by
  show k0_pay46 (F := Ideal) (ix2 0 c) = 0
  pointwise [k0_pay46]
theorem start_acc (c : Fin 512) (d : Fin 64) : (start (F := Ideal)).2.2 (ix2 d c) = 0 := by
  show k0_pay47 (F := Ideal) (ix2 d c) = 0
  pointwise [k0_pay47]

/-! ### The stores -/

def outO {F : FTy → Type} [FloatOps F] (x : Hd F) : FVec F S1x512x64 .f32 := k0_pay110 (k0_pay109 x.2.1 x.2.2)
def outB {F : FTy → Type} [FloatOps F] (x : Hd F) : FVec F S1x512x64 .bf16 := k0_pay111 (k0_pay109 x.2.1 x.2.2)
def outL {F : FTy → Type} [FloatOps F] [Named F] (x : Hd F) : FVec F S1x1x512 .f32 := k0_pay112 x.1 x.2.1

theorem outO_at (r : Fin 512) (d : Fin 64) : outO x (ix3 0 r d) = Ideal.div (x.2.2 (ix2 d r)) (x.2.1 (ix2 0 r)) := by
  pointwise [outO, k0_pay110, k0_pay109]
theorem outB_at (r : Fin 512) (d : Fin 64) : outB x (ix3 0 r d) = Ideal.div (x.2.2 (ix2 d r)) (x.2.1 (ix2 0 r)) := by
  pointwise [outB, k0_pay111, k0_pay109]
theorem outL_at (r : Fin 512) : outL x (ix3 0 0 r) = x.1 (ix2 0 r) + Ideal.div (Ideal.log (x.2.1 (ix2 0 r))) ((Real.log 2 : ℝ) : EReal) := by
  rw [← log2_eq]
  pointwise [outL, k0_pay112]
end

/-! ### The windows -/

section
variable {e : EltTy}
theorem ofQ_at (x : Vec Ideal S4x512x128 .bf16) (g : Fin 4) (r : Fin 512) (d : Fin 128) : ofQ x g (ix3 0 r d) = x (ix3 g r d) :=
  congrArg x (funext fun a => Fin.ext (by
    fin_cases a
    · show g.val + 1 * 0 = g.val; omega
    · show 0 + 1 * r.val = r.val; omega
    · show 0 + 1 * d.val = d.val; omega))
theorem ofK_at (x : Vec Ideal S4x8192x128 .bf16) (g : Fin 4) (b : Fin 16) (r : Fin 512) (d : Fin 128) : ofK x g b (ix3 0 r d) = x (ix3 g (at' b r) d) :=
  congrArg x (funext fun a => Fin.ext (by
    fin_cases a
    · show g.val + 1 * 0 = g.val; omega
    · show 512 * b.val + 1 * r.val = 512 * b.val + r.val; omega
    · show 0 + 1 * d.val = d.val; omega))
theorem ofV_at (x : Vec Ideal S4x64x8192 .bf16) (g : Fin 4) (b : Fin 16) (r : Fin 512) (d : Fin 64) : ofV x g b (ix3 0 d r) = x (ix3 g d (at' b r)) :=
  congrArg x (funext fun a => Fin.ext (by
    fin_cases a
    · show g.val + 1 * 0 = g.val; omega
    · show 0 + 1 * d.val = d.val; omega
    · show 512 * b.val + 1 * r.val = 512 * b.val + r.val; omega))
end

/-- Four heads' blocks put one after the other. -/
theorem put_at {N w : ℕ} {α : Type} (x : (⟨3, ![4, N, w]⟩ : Shape).Idx → α) (g0 : Fin 4) (W : (⟨3, ![1, N, w]⟩ : Shape).Idx → α)
    (g : Fin 4) (i : Fin N) (d : Fin w) :
    VecWindow.put x ![g0.val, 0, 0] ![1, N, w] W (ix3 g i d) = if g = g0 then W (ix3 0 i d) else x (ix3 g i d) := by
  unfold VecWindow.put
  by_cases h : g = g0
  · have hall : ∀ a, (![g0.val, 0, 0] : Fin 3 → ℕ) a ≤ ((ix3 g i d : (⟨3, ![4, N, w]⟩ : Shape).Idx) a).val
        ∧ ((ix3 g i d : (⟨3, ![4, N, w]⟩ : Shape).Idx) a).val < (![g0.val, 0, 0] : Fin 3 → ℕ) a + (![1, N, w] : Fin 3 → ℕ) a := by
      intro a; fin_cases a
      · subst h; exact ⟨le_refl g.val, Nat.lt_succ_self g.val⟩
      · exact ⟨Nat.zero_le _, by show i.val < 0 + N; omega⟩
      · exact ⟨Nat.zero_le _, by show d.val < 0 + w; omega⟩
    rw [dif_pos hall, if_pos h]
    refine congrArg W (funext fun a => Fin.ext ?_)
    fin_cases a
    · show g.val - g0.val = 0; subst h; omega
    · rfl
    · rfl
  · rw [if_neg h, dif_neg]
    intro hall
    have h0 : g0.val ≤ g.val ∧ g.val < g0.val + 1 := hall 0
    exact h (Fin.ext (by omega))

theorem put_all {N w : ℕ} {α : Type} (x : (⟨3, ![4, N, w]⟩ : Shape).Idx → α) (W : Fin 4 → (⟨3, ![1, N, w]⟩ : Shape).Idx → α)
    (g : Fin 4) (i : Fin N) (d : Fin w) :
    VecWindow.put (VecWindow.put (VecWindow.put (VecWindow.put x ![0, 0, 0] ![1, N, w] (W 0)) ![1, 0, 0] ![1, N, w] (W 1))
      ![2, 0, 0] ![1, N, w] (W 2)) ![3, 0, 0] ![1, N, w] (W 3) (ix3 g i d) = W g (ix3 0 i d) := by
  refine (put_at _ 3 _ g i d).trans ?_
  split_ifs with h3
  · rw [h3]
  refine (put_at _ 2 _ g i d).trans ?_
  split_ifs with h2
  · rw [h2]
  refine (put_at _ 1 _ g i d).trans ?_
  split_ifs with h1
  · rw [h1]
  refine (put_at _ 0 _ g i d).trans ?_
  have h0 : g = 0 := by omega
  rw [if_pos h0, h0]

end Cert.Fwd

end
-- ==== Proof.FwdMath.lean ====
/-
  The running maximum and sums of attention forward, over the real numbers: a query's state after some blocks of keys,
  what a block more does to it, and what it is in the end.
-/
module

public import proofs.«01_k».proof.Proof.FwdValue

@[expose] public section

noncomputable section

namespace Cert.Fwd

open Idealize.ShloMosaic Cert.Attn
open scoped BigOperators

section
variable (q k : Fin 8 → Fin 8192 → Fin 96 → ℝ) (h : Fin 8) (i : Fin 8192)

/-- A query's weights times `w`, summed over the blocks of keys in `S`. -/
def part (S : Fin 16 → Prop) [DecidablePred S] (w : Fin 8192 → ℝ) (c : ℝ) : ℝ :=
  ∑ b, if S b then ∑ x, wt q k c h i (at' b x) * w (at' b x) else 0

section
variable (S T : Fin 16 → Prop) [DecidablePred S] [DecidablePred T]

theorem part_shift (w : Fin 8192 → ℝ) (c c' : ℝ) : part q k h i S w c' = Real.exp (c - c') * part q k h i S w c := by
  unfold part
  rw [Finset.mul_sum]
  refine Finset.sum_congr rfl fun b _ => ?_
  split_ifs
  · rw [Finset.mul_sum]
    refine Finset.sum_congr rfl fun x _ => ?_
    rw [wt_shift q k c', wt_shift q k c]
    have e : Real.exp (-c') = Real.exp (c - c') * Real.exp (-c) := by rw [← Real.exp_add]; congr 1; ring
    rw [e]; ring
  · rw [mul_zero]

theorem part_none (hS : ∀ b, ¬S b) (w : Fin 8192 → ℝ) (c : ℝ) : part q k h i S w c = 0 := by
  unfold part
  exact Finset.sum_eq_zero fun b _ => if_neg (hS b)

theorem part_all (hS : ∀ b x, ¬S b → ¬seen i (at' b x)) (w : Fin 8192 → ℝ) (c : ℝ) : part q k h i S w c = ∑ j, wt q k c h i j * w j := by
  rw [← sum_blocks]
  unfold part
  refine Finset.sum_congr rfl fun b _ => ?_
  split_ifs with hb
  · rfl
  · exact (Finset.sum_eq_zero fun x _ => by unfold wt; rw [if_neg (hS b x hb), zero_mul]).symm

theorem part_step (b0 : Fin 16) (hT : ∀ b, T b ↔ S b ∨ b = b0) (h0 : ¬S b0) (w : Fin 8192 → ℝ) (c : ℝ) :
    part q k h i T w c = part q k h i S w c + ∑ x, wt q k c h i (at' b0 x) * w (at' b0 x) := by
  unfold part
  have e : ∀ b, (if T b then ∑ x, wt q k c h i (at' b x) * w (at' b x) else 0)
      = (if S b then ∑ x, wt q k c h i (at' b x) * w (at' b x) else 0) + if b = b0 then ∑ x, wt q k c h i (at' b x) * w (at' b x) else 0 := fun b => by
    by_cases hb : b = b0
    · rw [if_pos ((hT b).mpr (.inr hb)), if_neg (hb ▸ h0), if_pos hb, zero_add]
    · rw [if_neg hb, add_zero]
      exact if_congr ((hT b).trans (or_iff_left hb)) rfl rfl
  rw [Finset.sum_congr rfl fun b _ => e b, Finset.sum_add_distrib, Finset.sum_ite_eq' Finset.univ b0, if_pos (Finset.mem_univ _)]
end

/-- The power of two of a score less the maximum is the weight at the maximum's natural logarithm. -/
theorem exp2_score (j : Fin 8192) (μ : ℝ) :
    Ideal.exp2 ((if seen i j then ((score q k h i j / Real.log 2 : ℝ) : EReal) else ⊥) - (μ : EReal)) = ((wt q k (μ * Real.log 2) h i j : ℝ) : EReal) := by
  unfold wt
  split_ifs
  · rw [← EReal.coe_sub]
    show (((2 : ℝ) ^ (score q k h i j / Real.log 2 - μ) : ℝ) : EReal) = _
    rw [Real.rpow_def_of_pos two_pos]
    have h2 : Real.log 2 ≠ 0 := (Real.log_pos one_lt_two).ne'
    congr 2
    field_simp
  · rw [EReal.bot_sub]; rfl

/-- A query's state: no key yet, or the maximum is a real number and the sums are those of the blocks in `S`. -/
def IsHead (v : Fin 8192 → Fin 64 → ℝ) (S : Fin 16 → Prop) [DecidablePred S] (m l : EReal) (acc : Fin 64 → EReal) : Prop :=
  ((∀ b, ¬S b) ∧ m = ⊥ ∧ l = 0 ∧ ∀ d, acc d = 0)
    ∨ ∃ μ : ℝ, m = (μ : EReal) ∧ l = ((part q k h i S (fun _ => 1) (μ * Real.log 2) : ℝ) : EReal)
      ∧ ∀ d, acc d = ((part q k h i S (fun j => v j d) (μ * Real.log 2) : ℝ) : EReal)

variable {v : Fin 8192 → Fin 64 → ℝ} {S T : Fin 16 → Prop} [DecidablePred S] [DecidablePred T] {m l : EReal} {acc : Fin 64 → EReal}

theorem step_head (b0 : Fin 16) (hT : ∀ b, T b ↔ S b ∨ b = b0) (h0 : ¬S b0) (hs : IsHead q k h i v S m l acc)
    (t : Fin 512 → EReal) (ht : ∀ x, t x = if seen i (at' b0 x) then ((score q k h i (at' b0 x) / Real.log 2 : ℝ) : EReal) else ⊥)
    (x0 : Fin 512) (hx : seen i (at' b0 x0)) (vb : Fin 64 → Fin 512 → EReal) (hv : ∀ d x, vb d x = (v (at' b0 x) d : EReal)) :
    IsHead q k h i v T (newMax m t) (Ideal.exp2 (m - newMax m t) * l + ∑ x, Ideal.exp2 (t x - newMax m t))
      fun d => Ideal.exp2 (m - newMax m t) * acc d + ∑ x, vb d x * Ideal.exp2 (t x - newMax m t) := by
  obtain ⟨β, hβ⟩ := fold_max_real t (fun x => by rw [ht]; split_ifs <;> simp) x0 (by rw [ht, if_pos hx]; simp)
  have main : ∃ μ : ℝ, newMax m t = (μ : EReal) ∧ Ideal.exp2 (m - (μ : EReal)) * l = ((part q k h i S (fun _ => 1) (μ * Real.log 2) : ℝ) : EReal)
      ∧ ∀ d, Ideal.exp2 (m - (μ : EReal)) * acc d = ((part q k h i S (fun j => v j d) (μ * Real.log 2) : ℝ) : EReal) := by
    rcases hs with ⟨hS, rfl, rfl, ha⟩ | ⟨μ, rfl, rfl, ha⟩
    · refine ⟨β, by unfold newMax; rw [hβ, max_eq_right bot_le], ?_, fun d => ?_⟩
      · rw [part_none q k h i S hS, mul_zero]; rfl
      · rw [part_none q k h i S hS, ha, mul_zero]; rfl
    · have e : ∀ μ' : ℝ, Ideal.exp2 ((μ : EReal) - (μ' : EReal)) = ((Real.exp (μ * Real.log 2 - μ' * Real.log 2) : ℝ) : EReal) := fun μ' => by
        rw [← EReal.coe_sub]
        show (((2 : ℝ) ^ (μ - μ') : ℝ) : EReal) = _
        rw [Real.rpow_def_of_pos two_pos]
        congr 2; ring
      refine ⟨max μ β, by unfold newMax; rw [hβ]; exact (EReal.coe_strictMono.monotone.map_max (a := μ) (b := β)).symm, ?_, fun d => ?_⟩
      · rw [e, ← EReal.coe_mul, ← part_shift]
      · rw [e, ha, ← EReal.coe_mul, ← part_shift]
  obtain ⟨μ, hm, hl, ha⟩ := main
  rw [hm]
  refine .inr ⟨μ, rfl, ?_, fun d => ?_⟩
  · rw [hl, part_step q k h i S T b0 hT h0, EReal.coe_add, coe_sum]
    exact congrArg _ (Finset.sum_congr rfl fun x _ => by rw [ht, exp2_score, mul_one])
  · dsimp only
    rw [ha, part_step q k h i S T b0 hT h0, EReal.coe_add, coe_sum]
    exact congrArg _ (Finset.sum_congr rfl fun x _ => by rw [ht, exp2_score, hv, EReal.coe_mul, mul_comm])

/-- All seen keys done: the quotient is the attention's output, and the maximum and the sum give the weights' sum. -/
theorem end_head (hs : IsHead q k h i v S m l acc) (hS : ∀ b x, ¬S b → ¬seen i (at' b x)) (b0 : Fin 16) (hb : S b0) :
    (∀ d, Ideal.div (acc d) l = ((∑ j, P q k h i j * v j d : ℝ) : EReal))
      ∧ m + Ideal.div (Ideal.log l) ((Real.log 2 : ℝ) : EReal) = ((Real.log (norm q k 0 h i) / Real.log 2 : ℝ) : EReal) := by
  rcases hs with ⟨hn, _⟩ | ⟨μ, rfl, rfl, ha⟩
  · exact absurd hb (hn b0)
  have h2 : Real.log 2 ≠ 0 := (Real.log_pos one_lt_two).ne'
  have hl : part q k h i S (fun _ => 1) (μ * Real.log 2) = norm q k (μ * Real.log 2) h i := by
    rw [part_all q k h i S hS]; simp only [mul_one]; rfl
  have hp := norm_pos q k (μ * Real.log 2) h i
  rw [hl]
  refine ⟨fun d => ?_, ?_⟩
  · rw [ha, div_real _ _ hp.ne', part_all q k h i S hS, Finset.sum_div]
    exact congrArg _ (Finset.sum_congr rfl fun j _ => by rw [← wt_div_norm q k (μ * Real.log 2)]; ring)
  · rw [log_real _ hp, div_real _ _ h2, ← EReal.coe_add, norm_shift, Real.log_mul (norm_pos q k 0 h i).ne' (Real.exp_pos _).ne', Real.log_exp]
    congr 1
    field_simp
    ring
end

end Cert.Fwd

end
-- ==== Proof.FwdHead.lean ====
/-
  Attention forward at finite arguments: a head's state after the loop and the diagonal block, and what a grid point
  stores.
-/
module

public import proofs.«01_k».proof.Proof.FwdMath

@[expose] public section

set_option maxRecDepth 16384

noncomputable section

namespace Cert.Fwd

open Idealize.ShloMosaic Cert.Kernel2Ideal Cert.Kernel2Ideal.Gen Cert.Attn
open scoped BigOperators

/-- Attention's output, and the logarithm to base two of a query's weights' sum. -/
def att (q k : Fin 8 → Fin 8192 → Fin 96 → ℝ) (v : Fin 8 → Fin 8192 → Fin 64 → ℝ) (h : Fin 8) (i : Fin 8192) (d : Fin 64) : ℝ :=
  ∑ j, P q k h i j * v h j d
def lse (q k : Fin 8 → Fin 8192 → Fin 96 → ℝ) (h : Fin 8) (i : Fin 8192) : ℝ := Real.log (norm q k 0 h i) / Real.log 2

section
variable (Q : Vec Ideal S4x512x128 .bf16) (K : Vec Ideal S4x8192x128 .bf16) (V : Vec Ideal S4x64x8192 .bf16) (g : Fin 4)
  (h : Fin 8) (b : Fin 16) (q k : Fin 8 → Fin 8192 → Fin 96 → ℝ) (v : Fin 8 → Fin 8192 → Fin 64 → ℝ)
  (hQ : ∀ r d, Q (ix3 g r d) = (widen q h (at' b r) d : EReal)) (hK : ∀ j d, K (ix3 g j d) = (widen k h j d : EReal))
  (hV : ∀ d j, V (ix3 g d j) = (v h j d : EReal))

include hQ hK in
theorem score_real (b' : Fin 16) (r c : Fin 512) :
    scores (ofQ Q g) (ofK K g b') (ix2 r c) = ((score q k h (at' b c) (at' b' r) / Real.log 2 : ℝ) : EReal) := by
  rw [scores_at]
  simp only [ofQ_at, ofK_at, hQ, hK, ← EReal.coe_mul, ← coe_sum]
  rw [sum_widen]
  unfold score
  simp only [mul_comm (k _ _ _)]
  exact congrArg _ (by field_simp)

include hQ hK hV

/-- Before the diagonal, every key of a block is seen. -/
theorem heads_state (c : Fin 512) : ∀ n : ℕ, n ≤ b.val →
    IsHead q k h (at' b c) (v h) (fun b' => b'.val < n) ((heads Q K V g n).1 (ix2 0 c)) ((heads Q K V g n).2.1 (ix2 0 c))
      fun d => (heads Q K V g n).2.2 (ix2 d c) := by
  intro n
  induction n with
  | zero => exact fun _ => .inl ⟨fun _ => Nat.not_lt_zero _, start_max c, start_sum c, start_acc c⟩
  | succ n ih =>
    intro hn
    have hl : n < 16 := by omega
    have hs (x : Fin 512) : seen (at' b c) (at' ⟨n, hl⟩ x) := seen_of_lt b ⟨n, hl⟩ c x (by show n < b.val; omega)
    rw [heads_succ Q K V g n hl, max_at, sum_at]
    simp only [acc_at]
    exact step_head q k h (at' b c) ⟨n, hl⟩ (fun b' => by rw [Fin.ext_iff]; dsimp only; omega) (by simp) (ih (by omega)) _
      (fun x => by rw [if_pos (hs x)]; exact score_real Q K g h b q k hQ hK _ _ _) 0 (hs 0) (fun d x => ofV V g ⟨n, hl⟩ (ix3 0 d x))
      fun d x => by rw [ofV_at, hV]

theorem whole_state (c : Fin 512) :
    IsHead q k h (at' b c) (v h) (fun b' => b'.val < b.val + 1) ((whole Q K V g b).1 (ix2 0 c)) ((whole Q K V g b).2.1 (ix2 0 c))
      fun d => (whole Q K V g b).2.2 (ix2 d c) := by
  unfold whole
  rw [max_at, sum_at]
  simp only [acc_at]
  exact step_head q k h (at' b c) b (fun b' => by rw [Fin.ext_iff]; omega) (by simp)
    (heads_state Q K V g h b q k v hQ hK hV c b.val le_rfl) _
    (fun x => by rw [masked_at, score_real Q K g h b q k hQ hK]; exact if_congr (seen_diag b c x).symm rfl rfl)
    c (seen_self _) (fun d x => ofV V g b (ix3 0 d x)) fun d x => by rw [ofV_at, hV]

theorem whole_end (c : Fin 512) :
    (∀ d, Ideal.div ((whole Q K V g b).2.2 (ix2 d c)) ((whole Q K V g b).2.1 (ix2 0 c)) = ((att q k v h (at' b c) d : ℝ) : EReal))
      ∧ (whole Q K V g b).1 (ix2 0 c) + Ideal.div (Ideal.log ((whole Q K V g b).2.1 (ix2 0 c))) ((Real.log 2 : ℝ) : EReal)
        = ((lse q k h (at' b c) : ℝ) : EReal) :=
  end_head q k h (at' b c) (whole_state Q K V g h b q k v hQ hK hV c) (fun b' x hb => not_seen b b' c x (by show b.val < b'.val; omega)) b
    (Nat.lt_succ_self _)
end

/-! ### What a grid point stores -/

section
variable (x : Fin 4 → Hd Ideal) (g : Fin 4) (r : Fin 512)

theorem read_O (d : Fin 64) (f) : VO0_4.read (Elt Ideal) (VO0_4.writes (Elt Ideal) f (piecesO x)) (ix3 g r d) = outO (x g) (ix3 0 r d) := by
  unfold piecesO
  rw [View.read_writes_cons_put _ _ _ _ _ rfl, View.read_writes_cons_put _ _ _ _ _ rfl, View.read_writes_cons_put _ _ _ _ _ rfl,
    View.read_writes_cons_put _ _ _ _ _ rfl]
  exact put_all _ (fun g => outO (x g)) g r d
theorem read_B (d : Fin 64) (f) : VO0_3.read (Elt Ideal) (VO0_3.writes (Elt Ideal) f (piecesB x)) (ix3 g r d) = outB (x g) (ix3 0 r d) := by
  unfold piecesB
  rw [View.read_writes_cons_put _ _ _ _ _ rfl, View.read_writes_cons_put _ _ _ _ _ rfl, View.read_writes_cons_put _ _ _ _ _ rfl,
    View.read_writes_cons_put _ _ _ _ _ rfl]
  exact put_all _ (fun g => outB (x g)) g r d
theorem read_L (f) : VO0_5.read (Elt Ideal) (VO0_5.writes (Elt Ideal) f (piecesL x)) (ix3 g 0 r) = outL (x g) (ix3 0 0 r) := by
  unfold piecesL
  rw [View.read_writes_cons_put _ _ _ _ _ rfl, View.read_writes_cons_put _ _ _ _ _ rfl, View.read_writes_cons_put _ _ _ _ _ rfl,
    View.read_writes_cons_put _ _ _ _ _ rfl]
  exact put_all _ (fun g => outL (x g)) g 0 r
end

section
variable (dev : Dev nD) (i : grid0.Coords)
  (arg2 : Memref sig .tc .vmem S4x512x128 .bf16) (harg2 : arg2.IsWhole)
  (arg3 : Memref sig .tc .vmem S4x8192x128 .bf16) (harg3 : arg3.IsWhole)
  (arg4 : Memref sig .tc .vmem S4x64x8192 .bf16) (harg4 : arg4.IsWhole)
  (arg5 : Memref sig .tc .vmem S4x512x64 .bf16) (harg5 : arg5.IsWhole)
  (arg6 : Memref sig .tc .vmem S4x512x64 .f32) (harg6 : arg6.IsWhole)
  (arg7 : Memref sig .tc .vmem S4x1x512 .f32) (harg7 : arg7.IsWhole)
  (Q : Vec Ideal S4x512x128 .bf16) (K : Vec Ideal S4x8192x128 .bf16) (V : Vec Ideal S4x64x8192 .bf16) (g : Fin 4)
  (h : Fin 8) (q k : Fin 8 → Fin 8192 → Fin 96 → ℝ) (v : Fin 8 → Fin 8192 → Fin 64 → ℝ)
  (hQ : ∀ r d, Q (ix3 g r d) = (widen q h (at' (qi i) r) d : EReal)) (hK : ∀ j d, K (ix3 g j d) = (widen k h j d : EReal))
  (hV : ∀ d j, V (ix3 g d j) = (v h j d : EReal)) (r : Fin 512)
include hQ hK hV

theorem out3_at (d : Fin 64) : out0_A_3 dev i arg2 harg2 arg3 harg3 arg4 harg4 arg5 harg5 arg6 harg6 arg7 harg7 Q K V (ix3 g r d) = ((att q k v h (at' (qi i) r) d : ℝ) : EReal) := by
  obtain ⟨v24, e, _, _⟩ := pieces_eq dev i arg2 harg2 arg3 harg3 arg4 harg4 arg5 harg5 arg6 harg6 arg7 harg7 Q K V
  rw [done_eq] at e
  unfold out0_A_3
  rw [e, read_B, outB_at]
  exact (whole_end Q K V g h (qi i) q k v hQ hK hV r).1 d
theorem out4_at (d : Fin 64) : out0_A_4 dev i arg2 harg2 arg3 harg3 arg4 harg4 arg5 harg5 arg6 harg6 arg7 harg7 Q K V (ix3 g r d) = ((att q k v h (at' (qi i) r) d : ℝ) : EReal) := by
  obtain ⟨v24, _, e, _⟩ := pieces_eq dev i arg2 harg2 arg3 harg3 arg4 harg4 arg5 harg5 arg6 harg6 arg7 harg7 Q K V
  rw [done_eq] at e
  unfold out0_A_4
  rw [e, read_O, outO_at]
  exact (whole_end Q K V g h (qi i) q k v hQ hK hV r).1 d
theorem out5_at : out0_A_5 dev i arg2 harg2 arg3 harg3 arg4 harg4 arg5 harg5 arg6 harg6 arg7 harg7 Q K V (ix3 g 0 r) = ((lse q k h (at' (qi i) r) : ℝ) : EReal) := by
  obtain ⟨v24, _, _, e⟩ := pieces_eq dev i arg2 harg2 arg3 harg3 arg4 harg4 arg5 harg5 arg6 harg6 arg7 harg7 Q K V
  rw [done_eq] at e
  unfold out0_A_5
  rw [e, read_L, outL_at]
  exact (whole_end Q K V g h (qi i) q k v hQ hK hV r).2
end

end Cert.Fwd

end
-- ==== Proof.FwdRef.lean ====
/-
  Attention forward's reference at finite arguments.
-/
module

public import proofs.«01_k».proof.Proof.FwdHead
public import proofs.«01_k».proof.Proof.RefValue
public import proofs.«01_k».proof.Proof.Gen.Reference2Ideal.Read

@[expose] public section

set_option maxRecDepth 16384

noncomputable section

namespace Cert.Fwd.Ref

open Idealize.ShloMosaic Cert.Reference2Ideal Cert.Reference2Ideal.Gen Cert.Reference2Ideal.Read Cert.Attn
open scoped BigOperators

variable (x0 x1 : FVec Ideal S8x8192x96 .f32) (x2 : FVec Ideal S8x8192x64 .f32)
  (q k : Fin 8 → Fin 8192 → Fin 96 → ℝ) (v : Fin 8 → Fin 8192 → Fin 64 → ℝ)
  (hq : ∀ h i d, x0 (ix3 h i d) = (q h i d : EReal)) (hk : ∀ h i d, x1 (ix3 h i d) = (k h i d : EReal))
  (hv : ∀ h i d, x2 (ix3 h i d) = (v h i d : EReal))

/-- The masked scores are those of the gradient's reference. -/
theorem table_eq : val_main_v13 (F := Ideal) x0 x1 = Cert.ReferenceIdeal.Read.val_main_v13_0 (F := Ideal) x0 x1 := rfl

theorem max_at (y : FVec Ideal S8x8192 .f32) (h : Fin 8) (i : Fin 8192) : maximumf (val_main_v15 (F := Ideal)) y (ix2 h i) = y (ix2 h i) := by
  pointwise [val_main_v15, val_main_cst_3]
  rw [lit_neg_inf, max_eq_right bot_le]

theorem reduce_eq : val_main_v14 (F := Ideal) x0 x1 = rowMax (F := Ideal) (val_main_v13 (F := Ideal) x0 x1) := by
  unfold val_main_v14 rowMax val_main_cst_2
  generalize val_main_v13 (F := Ideal) x0 x1 = X
  rfl

theorem max_eq : val_main_v16 (F := Ideal) x0 x1 = rowMax (F := Ideal) (val_main_v13 (F := Ideal) x0 x1) := by
  unfold val_main_v16
  rw [← reduce_eq]
  generalize val_main_v14 (F := Ideal) x0 x1 = y
  funext i; idx_vars i
  exact max_at y _ _

theorem exp_eq : val_main_v20 (F := Ideal) x0 x1 = rowExp (F := Ideal) (val_main_v13 (F := Ideal) x0 x1) := by
  unfold val_main_v20 val_main_v19 val_main_v18 val_main_v17
  rw [max_eq]; rfl

theorem sum_at (h : Fin 8) (i : Fin 8192) :
    val_main_v22 (F := Ideal) x0 x1 (ix3 h i 0) = rowSum (F := Ideal) (val_main_v13 (F := Ideal) x0 x1) (ix2 h i) := by
  have e : val_main_v22 (F := Ideal) x0 x1 (ix3 h i 0) = val_main_v21 (F := Ideal) x0 x1 (ix2 h i) := by pointwise [val_main_v22]
  rw [e]; unfold val_main_v21; rw [exp_eq]; rfl

include hq hk

theorem table_at (h : Fin 8) (i j : Fin 8192) :
    val_main_v13 (F := Ideal) x0 x1 (ix3 h i j) = if seen i j then ((score q k h i j : ℝ) : EReal) else ⊥ := by
  rw [table_eq]; exact Attn.Ref.table_at x0 x1 q k hq hk h i j

include hv in
theorem out_at (h : Fin 8) (i : Fin 8192) (d : Fin 64) : val_main_v25 (F := Ideal) x0 x1 x2 (ix3 h i d) = ((att q k v h i d : ℝ) : EReal) := by
  have hX := table_at x0 x1 q k hq hk
  obtain ⟨M, hM⟩ := rowMax_real q k _ hX
  have he : ∀ h i j, val_main_v20 (F := Ideal) x0 x1 (ix3 h i j) = ((wt q k (M h i) h i j : ℝ) : EReal) := fun h i j => by
    rw [exp_eq]; exact rowExp_real q k _ hX M hM h i j
  have hs : ∀ h i, val_main_v22 (F := Ideal) x0 x1 (ix3 h i 0) = ((norm q k (M h i) h i : ℝ) : EReal) := fun h i => by
    rw [sum_at]; exact rowSum_real q k _ hX M hM h i
  pointwise [val_main_v25, val_main_v24, val_main_v23]
  simp only [he, hs, hv, div_real _ _ (norm_pos q k _ _ _).ne', wt_div_norm, ← EReal.coe_mul, ← coe_sum]
  rfl

include hv in
theorem cast_at (h : Fin 8) (i : Fin 8192) (d : Fin 64) : val_main_v32 (F := Ideal) x0 x1 x2 (ix3 h i d) = ((att q k v h i d : ℝ) : EReal) := by
  rw [← out_at x0 x1 x2 q k v hq hk hv]
  pointwise [val_main_v32]

theorem lse_at (h : Fin 8) (i : Fin 8192) : val_main_v33 (F := Ideal) x0 x1 (ix3 h 0 i) = ((lse q k h i : ℝ) : EReal) := by
  have hw : ∀ j, Ideal.exp (val_main_v13 (F := Ideal) x0 x1 (ix3 h i j)) = ((wt q k 0 h i j : ℝ) : EReal) := fun j => by
    rw [table_at x0 x1 q k hq hk]
    unfold wt
    split_ifs
    · rw [sub_zero]; rfl
    · rfl
  pointwise [val_main_v33, val_main_v31, val_main_v30, val_main_v29, val_main_cst_6, val_main_v28, val_main_v27, val_main_cst_5, val_main_v26]
  simp only [hw, ← coe_sum]
  rw [lit_2, log_real _ two_pos]
  exact (congrArg (Ideal.div · _) (log_real _ (norm_pos q k 0 h i))).trans (div_real _ _ (Real.log_pos one_lt_two).ne')

end Cert.Fwd.Ref

end
-- ==== Proof.FwdFinal.lean ====
/-
  Attention forward: the arrays the launch reads, those it leaves, and the two programs side by side.
-/
module

public import proofs.«01_k».proof.Proof.FwdRef
public import proofs.«01_k».proof.Proof.Finite
public import proofs.«01_k».proof.Proof.HostValue
public import proofs.«01_k».proof.Proof.Gen.Kernel2Ideal.Value
public import proofs.«01_k».proof.Proof.Gen.Reference2Ideal.Run
public import Idealize.ShloMosaic.Lib.Pipeline.ReadBack
public import Idealize.ShloMosaic.Lib.Pipeline.ValueKit
public import Idealize.ShloMosaic.Lib.StableHlo.ReadAt

@[expose] public section

set_option maxRecDepth 16384

noncomputable section

namespace Cert.Fwd

open Idealize.ShloMosaic Idealize.SL.Sem Cert.Kernel2Ideal Cert.Kernel2Ideal.Gen Cert.Attn
open scoped BigOperators

theorem facts_finite : Cert.Pre_finite2.Facts := ⟨by decide, by decide⟩

attribute [local instance] facts_finite Cert.Kernel2Ideal.Gen.facts Cert.Reference2Ideal.Gen.facts

theorem t_lt (t : Fin cfg0.N) : t.val < 32 := Nat.lt_of_lt_of_eq t.isLt N_0
theorem e0 : ∀ t : Fin cfg0.N, win0_0.index t = ![t.val / 16, t.val % 16, 0] := (by decide +kernel : ∀ t : Fin grid0.N, _)
theorem e1 : ∀ t : Fin cfg0.N, win0_1.index t = ![t.val / 16, 0, 0] := (by decide +kernel : ∀ t : Fin grid0.N, _)
theorem e2 : ∀ t : Fin cfg0.N, win0_2.index t = ![t.val / 16, 0, 0] := (by decide +kernel : ∀ t : Fin grid0.N, _)
theorem e3 : ∀ t : Fin cfg0.N, win0_3.index t = ![t.val / 16, t.val % 16, 0] := (by decide +kernel : ∀ t : Fin grid0.N, _)
theorem e4 : ∀ t : Fin cfg0.N, win0_4.index t = ![t.val / 16, t.val % 16, 0] := (by decide +kernel : ∀ t : Fin grid0.N, _)
theorem e5 : ∀ t : Fin cfg0.N, win0_5.index t = ![t.val / 16, 0, t.val % 16] := (by decide +kernel : ∀ t : Fin grid0.N, _)
/-- Grid point `t`'s block of queries. -/
def qb (t : Fin cfg0.N) : Fin 16 := qi (grid0.coords t)
theorem qb_val : ∀ t : Fin cfg0.N, (qb t).val = t.val % 16 := (by decide +kernel : ∀ t : Fin grid0.N, (qi (grid0.coords t)).val = t.val % 16)

/-- Grid point `t`'s head `g`. -/
def hd (t : Fin cfg0.N) (g : Fin 4) : Fin 8 := ⟨t.val / 16 * 4 + g.val, by have := t_lt t; omega⟩

section
variable (m : (ℓ : Loc nD τ sig) → Buf (Elt Ideal) ℓ) (c : Dev nD)

/-! ### The arguments as reals, and the results both programs leave -/

def argQ : Fin 8 → Fin 8192 → Fin 96 → ℝ := fun h i d => ((m (c, Proc.devRef .tc main_arg0) : FVec Ideal S8x8192x96 .f32) (ix3 h i d)).toReal
def argK : Fin 8 → Fin 8192 → Fin 96 → ℝ := fun h i d => ((m (c, Proc.devRef .tc main_arg1) : FVec Ideal S8x8192x96 .f32) (ix3 h i d)).toReal
def argV : Fin 8 → Fin 8192 → Fin 64 → ℝ := fun h i d => ((m (c, Proc.devRef .tc main_arg2) : FVec Ideal S8x8192x64 .f32) (ix3 h i d)).toReal

def resB : FVec Ideal S8x8192x64 .bf16 := fun y => (att (argQ m c) (argK m c) (argV m c) (y 0) (y 1) (y 2) : EReal)
def resO : FVec Ideal S8x8192x64 .f32 := fun y => (att (argQ m c) (argK m c) (argV m c) (y 0) (y 1) (y 2) : EReal)
def resL : FVec Ideal S8x1x8192 .f32 := fun y => (lse (argQ m c) (argK m c) (y 0) (y 2) : EReal)

variable (hpre : Cert.Pre_Kernel2Ideal_finite2 m)
include hpre

theorem arg0_real (h : Fin 8) (i : Fin 8192) (d : Fin 96) : (m (c, Proc.devRef .tc main_arg0) : FVec Ideal S8x8192x96 .f32) (ix3 h i d) = (argQ m c h i d : EReal) := by
  have e := congrFun (hpre c).1 (ix3 h i d)
  pointwise [Cert.Pre_finite2.fn] at e
  exact real_of_abs_lt _ e
theorem arg1_real (h : Fin 8) (i : Fin 8192) (d : Fin 96) : (m (c, Proc.devRef .tc main_arg1) : FVec Ideal S8x8192x96 .f32) (ix3 h i d) = (argK m c h i d : EReal) := by
  have e := congrFun (hpre c).2.1 (ix3 h i d)
  pointwise [Cert.Pre_finite2.fn] at e
  exact real_of_abs_lt _ e
theorem arg2_real (h : Fin 8) (i : Fin 8192) (d : Fin 64) : (m (c, Proc.devRef .tc main_arg2) : FVec Ideal S8x8192x64 .f32) (ix3 h i d) = (argV m c h i d : EReal) := by
  have e := congrFun (hpre c).2.2 (ix3 h i d)
  pointwise [Cert.Pre_finite2.fn] at e
  exact real_of_abs_lt _ e

/-! ### What the launch reads -/

theorem host_q (h : Fin 8) (i : Fin 8192) (d : Fin 128) : (Gen.V m c main_v1 : FVec Ideal S8x8192x128 .bf16) (ix3 h i d) = (widen (argQ m c) h i d : EReal) := by
  unfold Gen.V
  after_reads_at
  unfold widen
  split_ifs
  · exact arg0_real m c hpre _ _ _
  · exact pad_zero
theorem host_k (h : Fin 8) (i : Fin 8192) (d : Fin 128) : (Gen.V m c main_v3 : FVec Ideal S8x8192x128 .bf16) (ix3 h i d) = (widen (argK m c) h i d : EReal) := by
  unfold Gen.V
  after_reads_at
  unfold widen
  split_ifs
  · exact arg1_real m c hpre _ _ _
  · exact pad_zero
theorem host_v (h : Fin 8) (d : Fin 64) (i : Fin 8192) : (Gen.V m c main_v5 : FVec Ideal S8x64x8192 .bf16) (ix3 h d i) = (argV m c h i d : EReal) := by
  unfold Gen.V
  after_reads_at
  exact arg2_real m c hpre _ _ _

variable (t : Fin cfg0.N) (g : Fin 4)

theorem blk0_at (r : Fin 512) (d : Fin 128) :
    (iblk m c 0 t : Vec Ideal S4x512x128 .bf16) (ix3 g r d) = (widen (argQ m c) (hd t g) (at' (qb t) r) d : EReal) := by
  rw [← host_q m c hpre]
  blk_simp [iblk]
  refine congrArg (Gen.V m c main_v1 : FVec Ideal S8x8192x128 .bf16) ?_
  have := qb_val t
  blk_ext [e0 t, hd, at']
theorem blk1_at (j : Fin 8192) (d : Fin 128) :
    (iblk m c 1 t : Vec Ideal S4x8192x128 .bf16) (ix3 g j d) = (widen (argK m c) (hd t g) j d : EReal) := by
  rw [← host_k m c hpre]
  blk_simp [iblk]
  refine congrArg (Gen.V m c main_v3 : FVec Ideal S8x8192x128 .bf16) ?_
  blk_ext [e1 t, hd]
theorem blk2_at (d : Fin 64) (j : Fin 8192) :
    (iblk m c 2 t : Vec Ideal S4x64x8192 .bf16) (ix3 g d j) = (argV m c (hd t g) j d : EReal) := by
  rw [← host_v m c hpre]
  blk_simp [iblk]
  refine congrArg (Gen.V m c main_v5 : FVec Ideal S8x64x8192 .bf16) ?_
  blk_ext [e2 t, hd]

/-! ### What it leaves -/

theorem left3 (r : Fin 512) (d : Fin 64) :
    (outsAt0 m c t).1 (ix3 g r d) = ((att (argQ m c) (argK m c) (argV m c) (hd t g) (at' (qb t) r) d : ℝ) : EReal) := by
  unfold outsAt0
  dsimp only
  exact out3_at c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) g (hd t g) _ _ _ (blk0_at m c hpre t g) (blk1_at m c hpre t g) (blk2_at m c hpre t g) r d
theorem left4 (r : Fin 512) (d : Fin 64) :
    (outsAt0 m c t).2.1 (ix3 g r d) = ((att (argQ m c) (argK m c) (argV m c) (hd t g) (at' (qb t) r) d : ℝ) : EReal) := by
  unfold outsAt0
  dsimp only
  exact out4_at c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) g (hd t g) _ _ _ (blk0_at m c hpre t g) (blk1_at m c hpre t g) (blk2_at m c hpre t g) r d
theorem left5 (r : Fin 512) :
    (outsAt0 m c t).2.2 (ix3 g 0 r) = ((lse (argQ m c) (argK m c) (hd t g) (at' (qb t) r) : ℝ) : EReal) := by
  unfold outsAt0
  dsimp only
  exact out5_at c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) g (hd t g) _ _ _ (blk0_at m c hpre t g) (blk1_at m c hpre t g) (blk2_at m c hpre t g) r

theorem arr3 : (dats m 0 c).arrAt 3 cfg0.N = resB m c := by
  refine (dats m 0 c).arrAt_eq_of_covers 3 _ (by decide +kernel) fun t _ y => ?_
  have := qb_val t
  blk_simp
  rw [after0_3]
  idx_vars y
  have e : (((cfg0.win 3).blk t).view.emb (ix3 y0 y1 y2) : S8x8192x64.Idx) = ix3 (hd t y0) (at' (qb t) y1) y2 := by
    blk_ext [e3 t, hd, at']
  refine Eq.trans ?_ (congrArg (resB m c) e.symm)
  exact left3 m c hpre t y0 y1 y2
theorem arr4 : (dats m 0 c).arrAt 4 cfg0.N = resO m c := by
  refine (dats m 0 c).arrAt_eq_of_covers 4 _ (by decide +kernel) fun t _ y => ?_
  have := qb_val t
  blk_simp
  rw [after0_4]
  idx_vars y
  have e : (((cfg0.win 4).blk t).view.emb (ix3 y0 y1 y2) : S8x8192x64.Idx) = ix3 (hd t y0) (at' (qb t) y1) y2 := by
    blk_ext [e4 t, hd, at']
  refine Eq.trans ?_ (congrArg (resO m c) e.symm)
  exact left4 m c hpre t y0 y1 y2
theorem arr5 : (dats m 0 c).arrAt 5 cfg0.N = resL m c := by
  refine (dats m 0 c).arrAt_eq_of_covers 5 _ (by decide +kernel) fun t _ y => ?_
  have := qb_val t
  blk_simp
  rw [after0_5]
  idx_vars y
  have e : (((cfg0.win 5).blk t).view.emb (ix3 y0 0 y2) : S8x1x8192.Idx) = ix3 (hd t y0) 0 (at' (qb t) y2) := by
    blk_ext [e5 t, hd, at']
  have h1 : y1 = 0 := Subsingleton.elim _ _
  subst h1
  refine Eq.trans ?_ (congrArg (resL m c) e.symm)
  exact left5 m c hpre t y0 y2
end

variable (m : (ℓ : Loc nD τ sig) → Buf (Elt Ideal) ℓ) (hpre : Cert.Pre_Kernel2Ideal_finite2 m)
include hpre

theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v6_0) = resB m c
      ∧ r.2.mem ((c.tc : Thread nD τ).loc main_v6_1) = resO m c
      ∧ r.2.mem ((c.tc : Thread nD τ).loc main_v6_2) = resL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (arr3 m c hpre), (h c).2.1.trans (arr4 m c hpre), (h c).2.2.1.trans (arr5 m c hpre), (h c).2.2.2⟩)
    (Value.run_blocks m ρ)

omit hpre in
/-- The kernel and the reference leave the same attention and log-sums, their arguments unchanged. -/
theorem algebraic : Cert.algebraic_Kernel2Ideal_Reference2Ideal_pre_finite2 := fun m ρ m' ρ' hpre same =>
  ⟨resB m, resO m, resL m, kernel_run m hpre ρ, (θ_run _ _ _).mono (fun r h c => by
    obtain ⟨s0, s1, s2⟩ := same c
    refine ⟨(h c).1.trans ?_, (h c).2.1.trans ?_, (h c).2.2.1.trans ?_, (h c).2.2.2⟩
    · rw [Cert.Reference2Ideal.Read.val_main_v32_eq, s0, s1, s2]
      funext y; idx_vars y
      exact Ref.cast_at _ _ _ _ _ _ (arg0_real m c hpre) (arg1_real m c hpre) (arg2_real m c hpre) y0 y1 y2
    · rw [Cert.Reference2Ideal.Read.val_main_v25_eq, s0, s1, s2]
      funext y; idx_vars y
      exact Ref.out_at _ _ _ _ _ _ (arg0_real m c hpre) (arg1_real m c hpre) (arg2_real m c hpre) y0 y1 y2
    · rw [Cert.Reference2Ideal.Read.val_main_v33_eq, s0, s1]
      funext y; idx_vars y
      have h1 : y1 = 0 := Subsingleton.elim _ _
      subst h1
      exact Ref.lse_at _ _ _ _ (arg0_real m c hpre) (arg1_real m c hpre) y0 y2) (Cert.Reference2Ideal.Value.run (F := Ideal) m' ρ')⟩

end Cert.Fwd

end
-- ==== Proof.Blocks.lean ====
/-
  A product of matrices taken in blocks of the contracted axis: what a carried accumulator holds at the point that writes
  its block back is the whole contraction.
-/
module

public import Idealize.ShloMosaic.Lib.Pipeline.ValueKit

@[expose] public section

namespace Cert.Blocks

open Idealize.ShloMosaic
open scoped BigOperators

/-- An accumulator that starts over every `J` points, each point adding its `n` terms: at the last point of a run it
    holds the sum over the `L = J * n` terms of the run. -/
theorem sum_of_run {N J n L : ℕ} [NeZero J] {f : (k : ℕ) → k < N → EReal} {term : Fin N → Fin n → EReal} (g : Fin L → EReal)
    (first : ∀ t : Fin N, t.val % J = 0 → f t.val t.isLt = ∑ k, term t k)
    (next : ∀ t : Fin N, ¬t.val % J = 0 →
      f t.val t.isLt = f (t.val - 1) (Nat.lt_of_le_of_lt (Nat.sub_le _ _) t.isLt) + ∑ k, term t k)
    (t : Fin N) (last : t.val % J = J - 1)
    (terms : ∀ (s : Fin J) (k : Fin n) (hs : J * (t.val / J) + s.val < N) (hl : s.val * n + k.val < L),
      term ⟨J * (t.val / J) + s.val, hs⟩ k = g ⟨s.val * n + k.val, hl⟩)
    (hL : L = J * n := by first | rfl | decide) :
    f t.val t.isLt = ∑ l, g l := by
  rw [Pipeline.eq_sum_fin_of_reset_step_of_flush f J 0 (fun t => ∑ k, term t k) (fun t h => (first t h).trans (zero_add _).symm) next t last,
    zero_add, ← Fin.sum_mul_add_fin J n g hL]
  exact Finset.sum_congr rfl fun s _ => Finset.sum_congr rfl fun k _ => terms s k _ _

end Cert.Blocks

end
-- ==== Proof.Mlp3.lean ====
/-
  The gradient of the second feed-forward weight: the launch leaves the product of the squared rectified hidden units with
  the gradient at the block's output, contracted over the rows of the sequence.
-/
module

public import proofs.«01_k».proof.Proof.Blocks
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ReadBack
public import Idealize.ShloMosaic.Lib.StableHlo.ReadAt
public import proofs.«01_k».proof.Defs

@[expose] public section

set_option maxRecDepth 16384

noncomputable section

namespace Cert.Mlp3

open Idealize.ShloMosaic Idealize.SL.Sem Cert.Kernel3Ideal Cert.Kernel3Ideal.Gen
open scoped BigOperators

attribute [local instance] Cert.Kernel3Ideal.Gen.facts Cert.Reference3Ideal.Gen.facts

theorem t_lt (t : Fin cfg0.N) : t.val < 16 := Nat.lt_of_lt_of_eq t.isLt N_0
theorem e0 : ∀ t : Fin cfg0.N, win0_0.index t = ![t.val % 4, t.val / 4] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![t.val / 4, 0] := (by decide +kernel : ∀ t : Fin grid0.N, _)

/-- One point's product at an element. -/
theorem pay_at (a b : Vec Ideal S2048x1024 .bf16) (i j : Fin 1024) :
    k0_pay1 a b (ix2 i j) = ∑ r, a (ix2 r i) * b (ix2 r j) := by
  pointwise [k0_pay1]

/-- The hidden unit `i` at row `l` before the squared ReLU. -/
def linear (h : FVec Ideal S8192x1024 .f32) (w : FVec Ideal S1024x4096 .f32) (b : FVec Ideal S4096 .f32) (l : Fin 8192) (i : Fin 4096) : EReal :=
  (∑ k : Fin 1024, h (ix2 l k) * w (ix2 k i)) + b (ix1 i)

/-- The squared rectified hidden unit `i` at row `l`. -/
def hidden (h : FVec Ideal S8192x1024 .f32) (w : FVec Ideal S1024x4096 .f32) (b : FVec Ideal S4096 .f32) (l : Fin 8192) (i : Fin 4096) : EReal :=
  max (linear h w b l i) 0 * max (linear h w b l i) 0

variable (m : (ℓ : Loc nD τ sig) → Buf (Elt Ideal) ℓ) (c : Dev nD)

/-- The hidden units and the gradient at the block's output. -/
abbrev argR : Fin 8192 → Fin 4096 → EReal :=
  hidden (m (c, Proc.devRef .tc main_arg0)) (m (c, Proc.devRef .tc main_arg1)) (m (c, Proc.devRef .tc main_arg2))
abbrev argF : FVec Ideal S8192x1024 .f32 := m (c, Proc.devRef .tc main_arg4)

/-- The gradient of the weight. -/
def result : FVec Ideal S4096x1024 .f32 := fun y => ∑ l : Fin 8192, argR m c l (y 0) * argF m c (ix2 l (y 1))

theorem hidden_at (l : Fin 8192) (i : Fin 4096) :
    (Gen.V m c main_v6 : FVec Ideal S8192x4096 .bf16) (ix2 l i) = argR m c l i := by
  after_reads_at
  rfl

theorem blk0_at (t : Fin cfg0.N) (r : Fin 2048) (i : Fin 1024) :
    (iblk m c 0 t : Vec Ideal S2048x1024 .bf16) (ix2 r i)
      = argR m c ⟨t.val % 4 * 2048 + r.val, by omega⟩ ⟨t.val / 4 * 1024 + i.val, by have := t_lt t; omega⟩ := by
  rw [← hidden_at]
  blk_simp [iblk]
  refine congrArg (Gen.V m c main_v6 : FVec Ideal S8192x4096 .bf16) ?_
  blk_ext [e0 t]

theorem blk1_at (t : Fin cfg0.N) (r : Fin 2048) (j : Fin 1024) :
    (iblk m c 1 t : Vec Ideal S2048x1024 .bf16) (ix2 r j) = argF m c (ix2 ⟨t.val % 4 * 2048 + r.val, by omega⟩ j) := by
  have h : (iblk m c 1 t : Vec Ideal S2048x1024 .bf16) (ix2 r j)
      = (Gen.V m c main_v7 : FVec Ideal S8192x1024 .bf16) (ix2 ⟨t.val % 4 * 2048 + r.val, by omega⟩ j) := by
    blk_simp [iblk]
    refine congrArg (Gen.V m c main_v7 : FVec Ideal S8192x1024 .bf16) ?_
    blk_ext [e1 t]
  rw [h]
  after_reads_at

/-- The product of point `t`'s blocks. -/
abbrev prod (t : Fin cfg0.N) : FVec Ideal S1024x1024 .f32 :=
  k0_pay1 (iblk m c 0 t : Vec Ideal S2048x1024 .bf16) (iblk m c 1 t : Vec Ideal S2048x1024 .bf16)

theorem first (t : Fin cfg0.N) (h : t.val % 4 = 0) (y : S1024x1024.Idx) :
    (outsAt0 m c t.val t.isLt).2 y = prod m c t y := by
  rw [outsAt0_A m c t h (by omega) (by omega)]
  frame_out
  idx_vars y
  pointwise [k0_pay2]

theorem next (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + prod m c t y := by
  by_cases h2 : t.val % 4 = 3
  · rw [outsAt0_C m c t h (by omega) h2]
    frame_out
    simp only [read_unread_whole]
    idx_vars y
    pointwise [k0_pay3]
  · rw [outsAt0_B m c t h (by omega) h2]
    frame_out
    simp only [read_unread_whole]
    idx_vars y
    pointwise [k0_pay3]

theorem written (t : Fin cfg0.N) (h : t.val % 4 = 3) : (outsAt0 m c t.val t.isLt).1 = (outsAt0 m c t.val t.isLt).2 := by
  rw [outsAt0_C m c t (by omega) (by omega) h]
  frame_out

theorem arr : (dats m 0 c).arrAt 2 cfg0.N = result m c := by
  refine (dats m 0 c).arrAt_eq_of_covers 2 _ (by decide +kernel) fun t hf y => ?_
  have ht : t.val % 4 = 3 := (flush0_2 t).mp hf
  have := t_lt t
  blk_simp
  rw [after0_2, written m c t ht]
  idx_vars y
  have e : (((cfg0.win 2).blk t).view.emb (ix2 y0 y1) : S4096x1024.Idx) = ix2 ⟨t.val / 4 * 1024 + y0.val, by omega⟩ y1 := by
    blk_ext [e2 t]
  refine Eq.trans ?_ (congrArg (result m c) e.symm)
  refine Blocks.sum_of_run (J := 4) (f := fun n h => (outsAt0 m c n h).2 (ix2 y0 y1)) _
    (fun t h => (first m c t h _).trans (pay_at _ _ _ _)) (fun t h => (next m c t h _).trans (congrArg _ (pay_at _ _ _ _))) t ht
    fun s k hs hl => ?_
  rw [blk0_at, blk1_at]
  congr 3 <;> congr 1 <;> dsimp only <;> omega

variable (ρ : Dev nD → PrngReg)

theorem kernel_run :
    θ_run (defs (F := Ideal)) (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (arr m c), (h c).2⟩) (Value.run_blocks m ρ)

theorem reference_hidden_at (h : FVec Ideal S8192x1024 .f32) (w : FVec Ideal S1024x4096 .f32) (b : FVec Ideal S4096 .f32) (l : Fin 8192) (i : Fin 4096) :
    Cert.Reference3Ideal.Read.val_main_v5 (F := Ideal) h w b (ix2 l i) = hidden h w b l i := by
  pointwise [Cert.Reference3Ideal.Read.val_main_v5, Cert.Reference3Ideal.Read.val_main_v4, Cert.Reference3Ideal.Read.val_main_v3, Cert.Reference3Ideal.Read.val_main_v0,
    Cert.Reference3Ideal.Read.val_main_v2, Cert.Reference3Ideal.Read.val_main_v1, Cert.Reference3Ideal.Read.val_main_call0_v0, Cert.Reference3Ideal.Read.val_main_call0_cst]
  rfl

/-- The reference's gradient at an element: the other order of the factors. -/
theorem reference_at (h : FVec Ideal S8192x1024 .f32) (w : FVec Ideal S1024x4096 .f32) (b : FVec Ideal S4096 .f32) (f : FVec Ideal S8192x1024 .f32)
    (i : Fin 4096) (j : Fin 1024) :
    Cert.Reference3Ideal.Read.val_main_v8 (F := Ideal) h w b f (ix2 i j) = ∑ l : Fin 8192, hidden h w b l i * f (ix2 l j) := by
  have : ∀ l : Fin 8192, hidden h w b l i * f (ix2 l j) = f (ix2 l j) * Cert.Reference3Ideal.Read.val_main_v5 (F := Ideal) h w b (ix2 l i) :=
    fun l => by rw [reference_hidden_at, mul_comm]
  simp only [this]
  pointwise [Cert.Reference3Ideal.Read.val_main_v8, Cert.Reference3Ideal.Read.val_main_v7]

/-- The kernel and the reference leave the same gradient, their arguments unchanged. -/
theorem algebraic : Cert.algebraic_Kernel3Ideal_Reference3Ideal := fun m ρ m' ρ' _ same =>
  ⟨result m, kernel_run m ρ, (θ_run _ _ _).mono (fun r h c => by
    obtain ⟨e0, e1, e2, _, e4⟩ := same c
    refine ⟨(h c).1.trans ?_, (h c).2⟩
    rw [Cert.Reference3Ideal.Read.val_main_v8_eq, e0, e1, e2, e4]
    funext y
    idx_vars y
    exact reference_at _ _ _ _ _ _) (Cert.Reference3Ideal.Value.run (F := Ideal) m' ρ')⟩

end Cert.Mlp3

end
-- ==== Proof.Mlp4.lean ====
/-
  The gradient of the first feed-forward weight: the launch leaves the product of the layer's input with the gradient at
  the activation's input, contracted over the rows of the sequence.
-/
module

public import proofs.«01_k».proof.Proof.Blocks
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ReadBack
public import Idealize.ShloMosaic.Lib.StableHlo.ReadAt
public import proofs.«01_k».proof.Defs

@[expose] public section

set_option maxRecDepth 16384

noncomputable section

namespace Cert.Mlp4

open Idealize.ShloMosaic Idealize.SL.Sem Cert.Kernel4Ideal Cert.Kernel4Ideal.Gen
open scoped BigOperators

attribute [local instance] Cert.Kernel4Ideal.Gen.facts Cert.Reference4Ideal.Gen.facts

theorem t_lt (t : Fin cfg0.N) : t.val < 16 := Nat.lt_of_lt_of_eq t.isLt N_0
theorem e0 : ∀ t : Fin cfg0.N, win0_0.index t = ![t.val % 4, 0] := (by decide +kernel : ∀ t : Fin grid0.N, _)
theorem e1 : ∀ t : Fin cfg0.N, win0_1.index t = ![t.val % 4, t.val / 4] := (by decide +kernel : ∀ t : Fin grid0.N, _)
theorem e2 : ∀ t : Fin cfg0.N, win0_2.index t = ![0, t.val / 4] := (by decide +kernel : ∀ t : Fin grid0.N, _)

/-- One point's product at an element. -/
theorem pay_at (a b : Vec Ideal S2048x1024 .bf16) (i j : Fin 1024) :
    k0_pay1 a b (ix2 i j) = ∑ r, a (ix2 r i) * b (ix2 r j) := by
  pointwise [k0_pay1]

variable (m : (ℓ : Loc nD τ sig) → Buf (Elt Ideal) ℓ) (c : Dev nD)

/-- The layer's input and the gradient at the activation's input. -/
abbrev argH : FVec Ideal S8192x1024 .f32 := m (c, Proc.devRef .tc main_arg0)
abbrev argZ : FVec Ideal S8192x4096 .f32 := m (c, Proc.devRef .tc main_arg2)

/-- The gradient of the weight. -/
def result : FVec Ideal S1024x4096 .f32 := fun y => ∑ l : Fin 8192, argH m c (ix2 l (y 0)) * argZ m c (ix2 l (y 1))

theorem blk0_at (t : Fin cfg0.N) (r : Fin 2048) (i : Fin 1024) :
    (iblk m c 0 t : Vec Ideal S2048x1024 .bf16) (ix2 r i) = argH m c (ix2 ⟨t.val % 4 * 2048 + r.val, by omega⟩ i) := by
  have h : (iblk m c 0 t : Vec Ideal S2048x1024 .bf16) (ix2 r i)
      = (Gen.V m c main_v0 : FVec Ideal S8192x1024 .bf16) (ix2 ⟨t.val % 4 * 2048 + r.val, by omega⟩ i) := by
    blk_simp [iblk]
    refine congrArg (Gen.V m c main_v0 : FVec Ideal S8192x1024 .bf16) ?_
    blk_ext [e0 t]
  rw [h]
  after_reads_at

theorem blk1_at (t : Fin cfg0.N) (r : Fin 2048) (j : Fin 1024) :
    (iblk m c 1 t : Vec Ideal S2048x1024 .bf16) (ix2 r j)
      = argZ m c (ix2 ⟨t.val % 4 * 2048 + r.val, by omega⟩ ⟨t.val / 4 * 1024 + j.val, by have := t_lt t; omega⟩) := by
  have h : (iblk m c 1 t : Vec Ideal S2048x1024 .bf16) (ix2 r j)
      = (Gen.V m c main_v1 : FVec Ideal S8192x4096 .bf16)
        (ix2 ⟨t.val % 4 * 2048 + r.val, by omega⟩ ⟨t.val / 4 * 1024 + j.val, by have := t_lt t; omega⟩) := by
    blk_simp [iblk]
    refine congrArg (Gen.V m c main_v1 : FVec Ideal S8192x4096 .bf16) ?_
    blk_ext [e1 t]
  rw [h]
  after_reads_at

/-- The product of point `t`'s blocks. -/
abbrev prod (t : Fin cfg0.N) : FVec Ideal S1024x1024 .f32 :=
  k0_pay1 (iblk m c 0 t : Vec Ideal S2048x1024 .bf16) (iblk m c 1 t : Vec Ideal S2048x1024 .bf16)

theorem first (t : Fin cfg0.N) (h : t.val % 4 = 0) (y : S1024x1024.Idx) :
    (outsAt0 m c t.val t.isLt).2 y = prod m c t y := by
  rw [outsAt0_A m c t h (by omega) (by omega)]
  frame_out
  idx_vars y
  pointwise [k0_pay2]

theorem next (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + prod m c t y := by
  by_cases h2 : t.val % 4 = 3
  · rw [outsAt0_C m c t h (by omega) h2]
    frame_out
    simp only [read_unread_whole]
    idx_vars y
    pointwise [k0_pay3]
  · rw [outsAt0_B m c t h (by omega) h2]
    frame_out
    simp only [read_unread_whole]
    idx_vars y
    pointwise [k0_pay3]

theorem written (t : Fin cfg0.N) (h : t.val % 4 = 3) : (outsAt0 m c t.val t.isLt).1 = (outsAt0 m c t.val t.isLt).2 := by
  rw [outsAt0_C m c t (by omega) (by omega) h]
  frame_out

theorem arr : (dats m 0 c).arrAt 2 cfg0.N = result m c := by
  refine (dats m 0 c).arrAt_eq_of_covers 2 _ (by decide +kernel) fun t hf y => ?_
  have ht : t.val % 4 = 3 := (flush0_2 t).mp hf
  have := t_lt t
  blk_simp
  rw [after0_2, written m c t ht]
  idx_vars y
  have e : (((cfg0.win 2).blk t).view.emb (ix2 y0 y1) : S1024x4096.Idx) = ix2 y0 ⟨t.val / 4 * 1024 + y1.val, by omega⟩ := by
    blk_ext [e2 t]
  refine Eq.trans ?_ (congrArg (result m c) e.symm)
  refine Blocks.sum_of_run (J := 4) (f := fun n h => (outsAt0 m c n h).2 (ix2 y0 y1)) _
    (fun t h => (first m c t h _).trans (pay_at _ _ _ _)) (fun t h => (next m c t h _).trans (congrArg _ (pay_at _ _ _ _))) t ht
    fun s k hs hl => ?_
  rw [blk0_at, blk1_at]
  congr 3 <;> congr 1 <;> dsimp only <;> omega

variable (ρ : Dev nD → PrngReg)

theorem kernel_run :
    θ_run (defs (F := Ideal)) (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (arr m c), (h c).2⟩) (Value.run_blocks m ρ)

/-- The reference's gradient at an element: the other order of the factors. -/
theorem reference_at (h : FVec Ideal S8192x1024 .f32) (z : FVec Ideal S8192x4096 .f32) (i : Fin 1024) (j : Fin 4096) :
    Cert.Reference4Ideal.Read.val_main_v2 (F := Ideal) h z (ix2 i j) = ∑ l : Fin 8192, z (ix2 l j) * h (ix2 l i) := by
  pointwise [Cert.Reference4Ideal.Read.val_main_v2, Cert.Reference4Ideal.Read.val_main_v1]

/-- The kernel and the reference leave the same gradient, their arguments unchanged. -/
theorem algebraic : Cert.algebraic_Kernel4Ideal_Reference4Ideal := fun m ρ m' ρ' _ same =>
  ⟨result m, kernel_run m ρ, (θ_run _ _ _).mono (fun r h c => by
    obtain ⟨e0, _, e2⟩ := same c
    refine ⟨(h c).1.trans ?_, (h c).2⟩
    rw [Cert.Reference4Ideal.Read.val_main_v2_eq, e0, e2]
    funext y
    idx_vars y
    exact (reference_at _ _ _ _).trans (Finset.sum_congr rfl fun l _ => mul_comm _ _)) (Cert.Reference4Ideal.Value.run (F := Ideal) m' ρ')⟩

end Cert.Mlp4

end
-- ==== Proof.Mlp5.lean ====
/-
  The gradient at the feed-forward block's input: the launch leaves the product of the gradient at the activation's input
  with the first weight, contracted over the hidden units.
-/
module

public import proofs.«01_k».proof.Proof.Blocks
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ReadBack
public import Idealize.ShloMosaic.Lib.StableHlo.ReadAt
public import proofs.«01_k».proof.Defs

@[expose] public section

set_option maxRecDepth 16384

noncomputable section

namespace Cert.Mlp5

open Idealize.ShloMosaic Idealize.SL.Sem Cert.Kernel5Ideal Cert.Kernel5Ideal.Gen
open scoped BigOperators

attribute [local instance] Cert.Kernel5Ideal.Gen.facts Cert.Reference5Ideal.Gen.facts

theorem t_lt (t : Fin cfg0.N) : t.val < 16 := Nat.lt_of_lt_of_eq t.isLt N_0
theorem e0 : ∀ t : Fin cfg0.N, win0_0.index t = ![t.val / 2, t.val % 2] := (by decide +kernel : ∀ t : Fin grid0.N, _)
theorem e1 : ∀ t : Fin cfg0.N, win0_1.index t = ![0, t.val % 2] := (by decide +kernel : ∀ t : Fin grid0.N, _)
theorem e2 : ∀ t : Fin cfg0.N, win0_2.index t = ![t.val / 2, 0] := (by decide +kernel : ∀ t : Fin grid0.N, _)

/-- One point's product at an element. -/
theorem pay_at (a b : Vec Ideal S1024x2048 .bf16) (i j : Fin 1024) :
    k0_pay1 a b (ix2 i j) = ∑ r, a (ix2 i r) * b (ix2 j r) := by
  pointwise [k0_pay1]

variable (m : (ℓ : Loc nD τ sig) → Buf (Elt Ideal) ℓ) (c : Dev nD)

/-- The first weight and the gradient at the activation's input. -/
abbrev argW : FVec Ideal S1024x4096 .f32 := m (c, Proc.devRef .tc main_arg1)
abbrev argZ : FVec Ideal S8192x4096 .f32 := m (c, Proc.devRef .tc main_arg2)

/-- The gradient at the input. -/
def result : FVec Ideal S8192x1024 .f32 := fun y => ∑ l : Fin 4096, argZ m c (ix2 (y 0) l) * argW m c (ix2 (y 1) l)

theorem blk0_at (t : Fin cfg0.N) (i : Fin 1024) (r : Fin 2048) :
    (iblk m c 0 t : Vec Ideal S1024x2048 .bf16) (ix2 i r)
      = argZ m c (ix2 ⟨t.val / 2 * 1024 + i.val, by have := t_lt t; omega⟩ ⟨t.val % 2 * 2048 + r.val, by omega⟩) := by
  have h : (iblk m c 0 t : Vec Ideal S1024x2048 .bf16) (ix2 i r)
      = (Gen.V m c main_v0 : FVec Ideal S8192x4096 .bf16)
        (ix2 ⟨t.val / 2 * 1024 + i.val, by have := t_lt t; omega⟩ ⟨t.val % 2 * 2048 + r.val, by omega⟩) := by
    blk_simp [iblk]
    refine congrArg (Gen.V m c main_v0 : FVec Ideal S8192x4096 .bf16) ?_
    blk_ext [e0 t]
  rw [h]
  after_reads_at

theorem blk1_at (t : Fin cfg0.N) (j : Fin 1024) (r : Fin 2048) :
    (iblk m c 1 t : Vec Ideal S1024x2048 .bf16) (ix2 j r) = argW m c (ix2 j ⟨t.val % 2 * 2048 + r.val, by omega⟩) := by
  have h : (iblk m c 1 t : Vec Ideal S1024x2048 .bf16) (ix2 j r)
      = (Gen.V m c main_v1 : FVec Ideal S1024x4096 .bf16) (ix2 j ⟨t.val % 2 * 2048 + r.val, by omega⟩) := by
    blk_simp [iblk]
    refine congrArg (Gen.V m c main_v1 : FVec Ideal S1024x4096 .bf16) ?_
    blk_ext [e1 t]
  rw [h]
  after_reads_at

/-- The product of point `t`'s blocks. -/
abbrev prod (t : Fin cfg0.N) : FVec Ideal S1024x1024 .f32 :=
  k0_pay1 (iblk m c 0 t : Vec Ideal S1024x2048 .bf16) (iblk m c 1 t : Vec Ideal S1024x2048 .bf16)

theorem first (t : Fin cfg0.N) (h : t.val % 2 = 0) (y : S1024x1024.Idx) :
    (outsAt0 m c t.val t.isLt).2 y = prod m c t y := by
  rw [outsAt0_A m c t h (by omega) (by omega)]
  frame_out
  idx_vars y
  pointwise [k0_pay2]

theorem next (t : Fin cfg0.N) (h : ¬t.val % 2 = 0) (y : S1024x1024.Idx) :
    (outsAt0 m c t.val t.isLt).2 y = (outsAt0 m c (t.val - 1) (Nat.lt_of_le_of_lt (Nat.sub_le _ _) t.isLt)).2 y + prod m c t y := by
  rw [outsAt0_B m c t h (by omega) (by omega)]
  frame_out
  simp only [read_unread_whole]
  idx_vars y
  pointwise [k0_pay3]

theorem written (t : Fin cfg0.N) (h : t.val % 2 = 1) : (outsAt0 m c t.val t.isLt).1 = (outsAt0 m c t.val t.isLt).2 := by
  rw [outsAt0_B m c t (by omega) h h]
  frame_out

theorem arr : (dats m 0 c).arrAt 2 cfg0.N = result m c := by
  refine (dats m 0 c).arrAt_eq_of_covers 2 _ (by decide +kernel) fun t hf y => ?_
  have ht : t.val % 2 = 1 := (flush0_2 t).mp hf
  have := t_lt t
  blk_simp
  rw [after0_2, written m c t ht]
  idx_vars y
  have e : (((cfg0.win 2).blk t).view.emb (ix2 y0 y1) : S8192x1024.Idx) = ix2 ⟨t.val / 2 * 1024 + y0.val, by omega⟩ y1 := by
    blk_ext [e2 t]
  refine Eq.trans ?_ (congrArg (result m c) e.symm)
  refine Blocks.sum_of_run (J := 2) (f := fun n h => (outsAt0 m c n h).2 (ix2 y0 y1)) _
    (fun t h => (first m c t h _).trans (pay_at _ _ _ _)) (fun t h => (next m c t h _).trans (congrArg _ (pay_at _ _ _ _))) t ht
    fun s k hs hl => ?_
  rw [blk0_at, blk1_at]
  congr 3 <;> congr 1 <;> dsimp only <;> omega

variable (ρ : Dev nD → PrngReg)

theorem kernel_run :
    θ_run (defs (F := Ideal)) (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (arr m c), (h c).2⟩) (Value.run_blocks m ρ)

theorem reference_at (w : FVec Ideal S1024x4096 .f32) (z : FVec Ideal S8192x4096 .f32) (i : Fin 8192) (j : Fin 1024) :
    Cert.Reference5Ideal.Read.val_main_v1 (F := Ideal) w z (ix2 i j) = ∑ l : Fin 4096, z (ix2 i l) * w (ix2 j l) := by
  pointwise [Cert.Reference5Ideal.Read.val_main_v1]

/-- The kernel and the reference leave the same gradient, their arguments unchanged. -/
theorem algebraic : Cert.algebraic_Kernel5Ideal_Reference5Ideal := fun m ρ m' ρ' _ same =>
  ⟨result m, kernel_run m ρ, (θ_run _ _ _).mono (fun r h c => by
    obtain ⟨_, e1, e2⟩ := same c
    refine ⟨(h c).1.trans ?_, (h c).2⟩
    rw [Cert.Reference5Ideal.Read.val_main_v1_eq, e1, e2]
    funext y
    idx_vars y
    exact reference_at _ _ _ _) (Cert.Reference5Ideal.Value.run (F := Ideal) m' ρ')⟩

end Cert.Mlp5

end
-- ==== Proof.InProj6.lean ====
/-
  The gradient of the input projection's weight: the launch leaves the product of the layer's input with the gradient at
  the projection's columns, contracted over the rows of the sequence.
-/
module

public import proofs.«01_k».proof.Proof.Blocks
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ReadBack
public import Idealize.ShloMosaic.Lib.StableHlo.ReadAt
public import proofs.«01_k».proof.Defs

@[expose] public section

set_option maxRecDepth 16384

noncomputable section

namespace Cert.InProj6

open Idealize.ShloMosaic Idealize.SL.Sem Cert.Kernel6Ideal Cert.Kernel6Ideal.Gen
open scoped BigOperators

attribute [local instance] Cert.Kernel6Ideal.Gen.facts Cert.Reference6Ideal.Gen.facts

theorem t_lt (t : Fin cfg0.N) : t.val < 20 := Nat.lt_of_lt_of_eq t.isLt N_0
theorem e0 : ∀ t : Fin cfg0.N, win0_0.index t = ![t.val % 4, 0] := (by decide +kernel : ∀ t : Fin grid0.N, _)
theorem e1 : ∀ t : Fin cfg0.N, win0_1.index t = ![t.val % 4, t.val / 4] := (by decide +kernel : ∀ t : Fin grid0.N, _)
theorem e2 : ∀ t : Fin cfg0.N, win0_2.index t = ![0, t.val / 4] := (by decide +kernel : ∀ t : Fin grid0.N, _)

/-- One point's product at an element. -/
theorem pay_at (a : Vec Ideal S2048x1024 .bf16) (b : Vec Ideal S2048x1152 .bf16) (i : Fin 1024) (j : Fin 1152) :
    k0_pay1 a b (ix2 i j) = ∑ r, a (ix2 r i) * b (ix2 r j) := by
  pointwise [k0_pay1]

variable (m : (ℓ : Loc nD τ sig) → Buf (Elt Ideal) ℓ) (c : Dev nD)

/-- The layer's input and the gradient at the projection's columns. -/
abbrev argH : FVec Ideal S8192x1024 .f32 := m (c, Proc.devRef .tc main_arg0)
abbrev argZ : FVec Ideal S8192x5760 .f32 := m (c, Proc.devRef .tc main_arg2)

/-- The gradient of the weight. -/
def result : FVec Ideal S1024x5760 .f32 := fun y => ∑ l : Fin 8192, argH m c (ix2 l (y 0)) * argZ m c (ix2 l (y 1))

theorem blk0_at (t : Fin cfg0.N) (r : Fin 2048) (i : Fin 1024) :
    (iblk m c 0 t : Vec Ideal S2048x1024 .bf16) (ix2 r i) = argH m c (ix2 ⟨t.val % 4 * 2048 + r.val, by omega⟩ i) := by
  have h : (iblk m c 0 t : Vec Ideal S2048x1024 .bf16) (ix2 r i)
      = (Gen.V m c main_v0 : FVec Ideal S8192x1024 .bf16) (ix2 ⟨t.val % 4 * 2048 + r.val, by omega⟩ i) := by
    blk_simp [iblk]
    refine congrArg (Gen.V m c main_v0 : FVec Ideal S8192x1024 .bf16) ?_
    blk_ext [e0 t]
  rw [h]
  after_reads_at

theorem blk1_at (t : Fin cfg0.N) (r : Fin 2048) (j : Fin 1152) :
    (iblk m c 1 t : Vec Ideal S2048x1152 .bf16) (ix2 r j)
      = argZ m c (ix2 ⟨t.val % 4 * 2048 + r.val, by omega⟩ ⟨t.val / 4 * 1152 + j.val, by have := t_lt t; omega⟩) := by
  have h : (iblk m c 1 t : Vec Ideal S2048x1152 .bf16) (ix2 r j)
      = (Gen.V m c main_v1 : FVec Ideal S8192x5760 .bf16)
        (ix2 ⟨t.val % 4 * 2048 + r.val, by omega⟩ ⟨t.val / 4 * 1152 + j.val, by have := t_lt t; omega⟩) := by
    blk_simp [iblk]
    refine congrArg (Gen.V m c main_v1 : FVec Ideal S8192x5760 .bf16) ?_
    blk_ext [e1 t]
  rw [h]
  after_reads_at

/-- The product of point `t`'s blocks. -/
abbrev prod (t : Fin cfg0.N) : FVec Ideal S1024x1152 .f32 :=
  k0_pay1 (iblk m c 0 t : Vec Ideal S2048x1024 .bf16) (iblk m c 1 t : Vec Ideal S2048x1152 .bf16)

theorem first (t : Fin cfg0.N) (h : t.val % 4 = 0) (y : S1024x1152.Idx) :
    (outsAt0 m c t.val t.isLt).2 y = prod m c t y := by
  rw [outsAt0_A m c t h (by omega) (by omega)]
  frame_out
  idx_vars y
  pointwise [k0_pay2]

theorem next (t : Fin cfg0.N) (h : ¬t.val % 4 = 0) (y : S1024x1152.Idx) :
    (outsAt0 m c t.val t.isLt).2 y = (outsAt0 m c (t.val - 1) (Nat.lt_of_le_of_lt (Nat.sub_le _ _) t.isLt)).2 y + prod m c t y := by
  by_cases h2 : t.val % 4 = 3
  · rw [outsAt0_C m c t h (by omega) h2]
    frame_out
    simp only [read_unread_whole]
    idx_vars y
    pointwise [k0_pay3]
  · rw [outsAt0_B m c t h (by omega) h2]
    frame_out
    simp only [read_unread_whole]
    idx_vars y
    pointwise [k0_pay3]

theorem written (t : Fin cfg0.N) (h : t.val % 4 = 3) : (outsAt0 m c t.val t.isLt).1 = (outsAt0 m c t.val t.isLt).2 := by
  rw [outsAt0_C m c t (by omega) (by omega) h]
  frame_out

theorem arr : (dats m 0 c).arrAt 2 cfg0.N = result m c := by
  refine (dats m 0 c).arrAt_eq_of_covers 2 _ (by decide +kernel) fun t hf y => ?_
  have ht : t.val % 4 = 3 := (flush0_2 t).mp hf
  have := t_lt t
  blk_simp
  rw [after0_2, written m c t ht]
  idx_vars y
  have e : (((cfg0.win 2).blk t).view.emb (ix2 y0 y1) : S1024x5760.Idx) = ix2 y0 ⟨t.val / 4 * 1152 + y1.val, by omega⟩ := by
    blk_ext [e2 t]
  refine Eq.trans ?_ (congrArg (result m c) e.symm)
  refine Blocks.sum_of_run (J := 4) (f := fun n h => (outsAt0 m c n h).2 (ix2 y0 y1)) _
    (fun t h => (first m c t h _).trans (pay_at _ _ _ _)) (fun t h => (next m c t h _).trans (congrArg _ (pay_at _ _ _ _))) t ht
    fun s k hs hl => ?_
  rw [blk0_at, blk1_at]
  congr 3 <;> congr 1 <;> dsimp only <;> omega

variable (ρ : Dev nD → PrngReg)

theorem kernel_run :
    θ_run (defs (F := Ideal)) (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (arr m c), (h c).2⟩) (Value.run_blocks m ρ)

/-- The reference's gradient at an element: the other order of the factors. -/
theorem reference_at (h : FVec Ideal S8192x1024 .f32) (z : FVec Ideal S8192x5760 .f32) (i : Fin 1024) (j : Fin 5760) :
    Cert.Reference6Ideal.Read.val_main_v2 (F := Ideal) h z (ix2 i j) = ∑ l : Fin 8192, z (ix2 l j) * h (ix2 l i) := by
  pointwise [Cert.Reference6Ideal.Read.val_main_v2, Cert.Reference6Ideal.Read.val_main_v1]

/-- The kernel and the reference leave the same gradient, their arguments unchanged. -/
theorem algebraic : Cert.algebraic_Kernel6Ideal_Reference6Ideal := fun m ρ m' ρ' _ same =>
  ⟨result m, kernel_run m ρ, (θ_run _ _ _).mono (fun r h c => by
    obtain ⟨e0, _, e2⟩ := same c
    refine ⟨(h c).1.trans ?_, (h c).2⟩
    rw [Cert.Reference6Ideal.Read.val_main_v2_eq, e0, e2]
    funext y
    idx_vars y
    exact (reference_at _ _ _ _).trans (Finset.sum_congr rfl fun l _ => mul_comm _ _)) (Cert.Reference6Ideal.Value.run (F := Ideal) m' ρ')⟩

end Cert.InProj6

end
-- ==== Proof.InProj7.lean ====
/-
  The gradient at the input projection's input: the launch leaves the product of the gradient at the projection's columns
  with the weight, contracted over the columns.
-/
module

public import proofs.«01_k».proof.Proof.Blocks
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ReadBack
public import Idealize.ShloMosaic.Lib.StableHlo.ReadAt
public import proofs.«01_k».proof.Defs

@[expose] public section

set_option maxRecDepth 16384

noncomputable section

namespace Cert.InProj7

open Idealize.ShloMosaic Idealize.SL.Sem Cert.Kernel7Ideal Cert.Kernel7Ideal.Gen
open scoped BigOperators

attribute [local instance] Cert.Kernel7Ideal.Gen.facts Cert.Reference7Ideal.Gen.facts

theorem t_lt (t : Fin cfg0.N) : t.val < 24 := Nat.lt_of_lt_of_eq t.isLt N_0
theorem e0 : ∀ t : Fin cfg0.N, win0_0.index t = ![t.val / 3, t.val % 3] := (by decide +kernel : ∀ t : Fin grid0.N, _)
theorem e1 : ∀ t : Fin cfg0.N, win0_1.index t = ![0, t.val % 3] := (by decide +kernel : ∀ t : Fin grid0.N, _)
theorem e2 : ∀ t : Fin cfg0.N, win0_2.index t = ![t.val / 3, 0] := (by decide +kernel : ∀ t : Fin grid0.N, _)

/-- One point's product at an element. -/
theorem pay_at (a b : Vec Ideal S1024x1920 .bf16) (i j : Fin 1024) :
    k0_pay1 a b (ix2 i j) = ∑ r, a (ix2 i r) * b (ix2 j r) := by
  pointwise [k0_pay1]

variable (m : (ℓ : Loc nD τ sig) → Buf (Elt Ideal) ℓ) (c : Dev nD)

/-- The weight and the gradient at the projection's columns. -/
abbrev argW : FVec Ideal S1024x5760 .f32 := m (c, Proc.devRef .tc main_arg1)
abbrev argZ : FVec Ideal S8192x5760 .f32 := m (c, Proc.devRef .tc main_arg2)

/-- The gradient at the input. -/
def result : FVec Ideal S8192x1024 .f32 := fun y => ∑ l : Fin 5760, argZ m c (ix2 (y 0) l) * argW m c (ix2 (y 1) l)

theorem blk0_at (t : Fin cfg0.N) (i : Fin 1024) (r : Fin 1920) :
    (iblk m c 0 t : Vec Ideal S1024x1920 .bf16) (ix2 i r)
      = argZ m c (ix2 ⟨t.val / 3 * 1024 + i.val, by have := t_lt t; omega⟩ ⟨t.val % 3 * 1920 + r.val, by omega⟩) := by
  have h : (iblk m c 0 t : Vec Ideal S1024x1920 .bf16) (ix2 i r)
      = (Gen.V m c main_v0 : FVec Ideal S8192x5760 .bf16)
        (ix2 ⟨t.val / 3 * 1024 + i.val, by have := t_lt t; omega⟩ ⟨t.val % 3 * 1920 + r.val, by omega⟩) := by
    blk_simp [iblk]
    refine congrArg (Gen.V m c main_v0 : FVec Ideal S8192x5760 .bf16) ?_
    blk_ext [e0 t]
  rw [h]
  after_reads_at

theorem blk1_at (t : Fin cfg0.N) (j : Fin 1024) (r : Fin 1920) :
    (iblk m c 1 t : Vec Ideal S1024x1920 .bf16) (ix2 j r) = argW m c (ix2 j ⟨t.val % 3 * 1920 + r.val, by omega⟩) := by
  have h : (iblk m c 1 t : Vec Ideal S1024x1920 .bf16) (ix2 j r)
      = (Gen.V m c main_v1 : FVec Ideal S1024x5760 .bf16) (ix2 j ⟨t.val % 3 * 1920 + r.val, by omega⟩) := by
    blk_simp [iblk]
    refine congrArg (Gen.V m c main_v1 : FVec Ideal S1024x5760 .bf16) ?_
    blk_ext [e1 t]
  rw [h]
  after_reads_at

/-- The product of point `t`'s blocks. -/
abbrev prod (t : Fin cfg0.N) : FVec Ideal S1024x1024 .f32 :=
  k0_pay1 (iblk m c 0 t : Vec Ideal S1024x1920 .bf16) (iblk m c 1 t : Vec Ideal S1024x1920 .bf16)

theorem first (t : Fin cfg0.N) (h : t.val % 3 = 0) (y : S1024x1024.Idx) :
    (outsAt0 m c t.val t.isLt).2 y = prod m c t y := by
  rw [outsAt0_A m c t h (by omega) (by omega)]
  frame_out
  idx_vars y
  pointwise [k0_pay2]

theorem next (t : Fin cfg0.N) (h : ¬t.val % 3 = 0) (y : S1024x1024.Idx) :
    (outsAt0 m c t.val t.isLt).2 y = (outsAt0 m c (t.val - 1) (Nat.lt_of_le_of_lt (Nat.sub_le _ _) t.isLt)).2 y + prod m c t y := by
  by_cases h2 : t.val % 3 = 2
  · rw [outsAt0_C m c t h (by omega) h2]
    frame_out
    simp only [read_unread_whole]
    idx_vars y
    pointwise [k0_pay3]
  · rw [outsAt0_B m c t h (by omega) h2]
    frame_out
    simp only [read_unread_whole]
    idx_vars y
    pointwise [k0_pay3]

theorem written (t : Fin cfg0.N) (h : t.val % 3 = 2) : (outsAt0 m c t.val t.isLt).1 = (outsAt0 m c t.val t.isLt).2 := by
  rw [outsAt0_C m c t (by omega) (by omega) h]
  frame_out

theorem arr : (dats m 0 c).arrAt 2 cfg0.N = result m c := by
  refine (dats m 0 c).arrAt_eq_of_covers 2 _ (by decide +kernel) fun t hf y => ?_
  have ht : t.val % 3 = 2 := (flush0_2 t).mp hf
  have := t_lt t
  blk_simp
  rw [after0_2, written m c t ht]
  idx_vars y
  have e : (((cfg0.win 2).blk t).view.emb (ix2 y0 y1) : S8192x1024.Idx) = ix2 ⟨t.val / 3 * 1024 + y0.val, by omega⟩ y1 := by
    blk_ext [e2 t]
  refine Eq.trans ?_ (congrArg (result m c) e.symm)
  refine Blocks.sum_of_run (J := 3) (f := fun n h => (outsAt0 m c n h).2 (ix2 y0 y1)) _
    (fun t h => (first m c t h _).trans (pay_at _ _ _ _)) (fun t h => (next m c t h _).trans (congrArg _ (pay_at _ _ _ _))) t ht
    fun s k hs hl => ?_
  rw [blk0_at, blk1_at]
  congr 3 <;> congr 1 <;> dsimp only <;> omega

variable (ρ : Dev nD → PrngReg)

theorem kernel_run :
    θ_run (defs (F := Ideal)) (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (arr m c), (h c).2⟩) (Value.run_blocks m ρ)

theorem reference_at (w : FVec Ideal S1024x5760 .f32) (z : FVec Ideal S8192x5760 .f32) (i : Fin 8192) (j : Fin 1024) :
    Cert.Reference7Ideal.Read.val_main_v1 (F := Ideal) w z (ix2 i j) = ∑ l : Fin 5760, z (ix2 i l) * w (ix2 j l) := by
  pointwise [Cert.Reference7Ideal.Read.val_main_v1]

/-- The kernel and the reference leave the same gradient, their arguments unchanged. -/
theorem algebraic : Cert.algebraic_Kernel7Ideal_Reference7Ideal := fun m ρ m' ρ' _ same =>
  ⟨result m, kernel_run m ρ, (θ_run _ _ _).mono (fun r h c => by
    obtain ⟨_, e1, e2⟩ := same c
    refine ⟨(h c).1.trans ?_, (h c).2⟩
    rw [Cert.Reference7Ideal.Read.val_main_v1_eq, e1, e2]
    funext y
    idx_vars y
    exact reference_at _ _ _ _) (Cert.Reference7Ideal.Value.run (F := Ideal) m' ρ')⟩

end Cert.InProj7

end
-- ==== Proof.InProj8.lean ====
/-
  The input projection: the launch leaves the product of the layer's input with the weight, plus the bias. Each point
  takes the whole contraction.
-/
module

public import proofs.«01_k».proof.Proof.Blocks
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ReadBack
public import Idealize.ShloMosaic.Lib.StableHlo.ReadAt
public import proofs.«01_k».proof.Defs

@[expose] public section

set_option maxRecDepth 16384

noncomputable section

namespace Cert.InProj8

open Idealize.ShloMosaic Idealize.SL.Sem Cert.Kernel8Ideal Cert.Kernel8Ideal.Gen
open scoped BigOperators

attribute [local instance] Cert.Kernel8Ideal.Gen.facts Cert.Reference8Ideal.Gen.facts

theorem t_lt (t : Fin cfg0.N) : t.val < 40 := Nat.lt_of_lt_of_eq t.isLt N_0
theorem e0 : ∀ t : Fin cfg0.N, win0_0.index t = ![t.val / 5, 0] := (by decide +kernel : ∀ t : Fin grid0.N, _)
theorem e1 : ∀ t : Fin cfg0.N, win0_1.index t = ![0, t.val % 5] := (by decide +kernel : ∀ t : Fin grid0.N, _)
theorem e2 : ∀ t : Fin cfg0.N, win0_2.index t = ![0, t.val % 5] := (by decide +kernel : ∀ t : Fin grid0.N, _)
theorem e3 : ∀ t : Fin cfg0.N, win0_3.index t = ![t.val / 5, t.val % 5] := (by decide +kernel : ∀ t : Fin grid0.N, _)

/-- One point's block at an element. -/
theorem pay_at (a : Vec Ideal S1024x1024 .bf16) (b : Vec Ideal S1024x1152 .bf16) (r : Vec Ideal S1x1152 .f32) (i : Fin 1024) (j : Fin 1152) :
    k0_pay1 a b r (ix2 i j) = (∑ k, a (ix2 i k) * b (ix2 k j)) + r (ix2 0 j) := by
  pointwise [k0_pay1]

variable (m : (ℓ : Loc nD τ sig) → Buf (Elt Ideal) ℓ) (c : Dev nD)

/-- The layer's input, the weight and the bias. -/
abbrev argH : FVec Ideal S8192x1024 .f32 := m (c, Proc.devRef .tc main_arg0)
abbrev argW : FVec Ideal S1024x5760 .f32 := m (c, Proc.devRef .tc main_arg1)
abbrev argB : FVec Ideal S5760 .f32 := m (c, Proc.devRef .tc main_arg2)

/-- The projection. -/
def result : FVec Ideal S8192x5760 .f32 := fun y => (∑ k : Fin 1024, argH m c (ix2 (y 0) k) * argW m c (ix2 k (y 1))) + argB m c (ix1 (y 1))

theorem blk0_at (t : Fin cfg0.N) (i k : Fin 1024) :
    (iblk m c 0 t : Vec Ideal S1024x1024 .bf16) (ix2 i k) = argH m c (ix2 ⟨t.val / 5 * 1024 + i.val, by have := t_lt t; omega⟩ k) := by
  have h : (iblk m c 0 t : Vec Ideal S1024x1024 .bf16) (ix2 i k)
      = (Gen.V m c main_v0 : FVec Ideal S8192x1024 .bf16) (ix2 ⟨t.val / 5 * 1024 + i.val, by have := t_lt t; omega⟩ k) := by
    blk_simp [iblk]
    refine congrArg (Gen.V m c main_v0 : FVec Ideal S8192x1024 .bf16) ?_
    blk_ext [e0 t]
  rw [h]
  after_reads_at

theorem blk1_at (t : Fin cfg0.N) (k : Fin 1024) (j : Fin 1152) :
    (iblk m c 1 t : Vec Ideal S1024x1152 .bf16) (ix2 k j) = argW m c (ix2 k ⟨t.val % 5 * 1152 + j.val, by omega⟩) := by
  have h : (iblk m c 1 t : Vec Ideal S1024x1152 .bf16) (ix2 k j)
      = (Gen.V m c main_v1 : FVec Ideal S1024x5760 .bf16) (ix2 k ⟨t.val % 5 * 1152 + j.val, by omega⟩) := by
    blk_simp [iblk]
    refine congrArg (Gen.V m c main_v1 : FVec Ideal S1024x5760 .bf16) ?_
    blk_ext [e1 t]
  rw [h]
  after_reads_at

theorem blk2_at (t : Fin cfg0.N) (j : Fin 1152) :
    (iblk m c 2 t : Vec Ideal S1x1152 .f32) (ix2 0 j) = argB m c (ix1 ⟨t.val % 5 * 1152 + j.val, by omega⟩) := by
  have h : (iblk m c 2 t : Vec Ideal S1x1152 .f32) (ix2 0 j)
      = (Gen.V m c main_v2 : FVec Ideal S1x5760 .f32) (ix2 0 ⟨t.val % 5 * 1152 + j.val, by omega⟩) := by
    blk_simp [iblk]
    refine congrArg (Gen.V m c main_v2 : FVec Ideal S1x5760 .f32) ?_
    blk_ext [e2 t]
  rw [h]
  after_reads_at

theorem arr : (dats m 0 c).arrAt 3 cfg0.N = result m c := by
  refine (dats m 0 c).arrAt_eq_of_covers 3 _ (by decide +kernel) fun t _ y => ?_
  have := t_lt t
  blk_simp
  rw [after0_3]
  frame_out
  idx_vars y
  have e : (((cfg0.win 3).blk t).view.emb (ix2 y0 y1) : S8192x5760.Idx)
      = ix2 ⟨t.val / 5 * 1024 + y0.val, by omega⟩ ⟨t.val % 5 * 1152 + y1.val, by omega⟩ := by
    blk_ext [e3 t]
  refine Eq.trans ?_ (congrArg (result m c) e.symm)
  refine (pay_at _ _ _ _ _).trans ?_
  simp only [blk0_at, blk1_at, blk2_at]
  rfl

variable (ρ : Dev nD → PrngReg)

theorem kernel_run :
    θ_run (defs (F := Ideal)) (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (arr m c), (h c).2⟩) (Value.run_blocks m ρ)

theorem reference_at (h : FVec Ideal S8192x1024 .f32) (w : FVec Ideal S1024x5760 .f32) (b : FVec Ideal S5760 .f32) (i : Fin 8192) (j : Fin 5760) :
    Cert.Reference8Ideal.Read.val_main_v3 (F := Ideal) h w b (ix2 i j) = (∑ k : Fin 1024, h (ix2 i k) * w (ix2 k j)) + b (ix1 j) := by
  pointwise [Cert.Reference8Ideal.Read.val_main_v3, Cert.Reference8Ideal.Read.val_main_v0, Cert.Reference8Ideal.Read.val_main_v2, Cert.Reference8Ideal.Read.val_main_v1]

/-- The kernel and the reference leave the same projection, their arguments unchanged. -/
theorem algebraic : Cert.algebraic_Kernel8Ideal_Reference8Ideal := fun m ρ m' ρ' _ same =>
  ⟨result m, kernel_run m ρ, (θ_run _ _ _).mono (fun r h c => by
    obtain ⟨e0, e1, e2⟩ := same c
    refine ⟨(h c).1.trans ?_, (h c).2⟩
    rw [Cert.Reference8Ideal.Read.val_main_v3_eq, e0, e1, e2]
    funext y
    idx_vars y
    exact reference_at _ _ _ _ _) (Cert.Reference8Ideal.Value.run (F := Ideal) m' ρ')⟩

end Cert.InProj8

end
-- ==== Proof.Mlp9.lean ====
/-
  The MLP's hidden layer: the launch leaves the product of the layer's input with the first weight, plus the bias, and
  the squared ReLU of it. Each point takes the whole contraction.
-/
module

public import proofs.«01_k».proof.Proof.Mlp3
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ReadBack
public import Idealize.ShloMosaic.Lib.StableHlo.ReadAt
public import proofs.«01_k».proof.Defs

@[expose] public section

set_option maxRecDepth 16384

noncomputable section

namespace Cert.Mlp9

open Idealize.ShloMosaic Idealize.SL.Sem Cert.Kernel9Ideal Cert.Kernel9Ideal.Gen
open scoped BigOperators

attribute [local instance] Cert.Kernel9Ideal.Gen.facts Cert.Reference9Ideal.Gen.facts

theorem t_lt (t : Fin cfg0.N) : t.val < 32 := Nat.lt_of_lt_of_eq t.isLt N_0
theorem e0 : ∀ t : Fin cfg0.N, win0_0.index t = ![t.val / 4, 0] := (by decide +kernel : ∀ t : Fin grid0.N, _)
theorem e1 : ∀ t : Fin cfg0.N, win0_1.index t = ![0, t.val % 4] := (by decide +kernel : ∀ t : Fin grid0.N, _)
theorem e2 : ∀ t : Fin cfg0.N, win0_2.index t = ![0, t.val % 4] := (by decide +kernel : ∀ t : Fin grid0.N, _)
theorem e3 : ∀ t : Fin cfg0.N, win0_3.index t = ![t.val / 4, t.val % 4] := (by decide +kernel : ∀ t : Fin grid0.N, _)
theorem e4 : ∀ t : Fin cfg0.N, win0_4.index t = ![t.val / 4, t.val % 4] := (by decide +kernel : ∀ t : Fin grid0.N, _)

/-- One point's block of the hidden layer at an element. -/
theorem pay_at (a b : Vec Ideal S1024x1024 .bf16) (r : Vec Ideal S1x1024 .f32) (i j : Fin 1024) :
    k0_pay3 a b r (ix2 i j) = (∑ k, a (ix2 i k) * b (ix2 k j)) + r (ix2 0 j) := by
  pointwise [k0_pay3, k0_pay1, k0_pay2]

/-- The second result is the squared ReLU of the first. -/
theorem square_at (a b : Vec Ideal S1024x1024 .bf16) (r : Vec Ideal S1x1024 .f32) (i j : Fin 1024) :
    k0_pay4 a b r (ix2 i j) = max (k0_pay3 a b r (ix2 i j)) 0 * max (k0_pay3 a b r (ix2 i j)) 0 := by
  pointwise [k0_pay4, k0_pay3, k0_pay1, k0_pay2]

variable (m : (ℓ : Loc nD τ sig) → Buf (Elt Ideal) ℓ) (c : Dev nD)

/-- The layer's input, the first weight and the bias. -/
abbrev argH : FVec Ideal S8192x1024 .f32 := m (c, Proc.devRef .tc main_arg0)
abbrev argW : FVec Ideal S1024x4096 .f32 := m (c, Proc.devRef .tc main_arg1)
abbrev argB : FVec Ideal S4096 .f32 := m (c, Proc.devRef .tc main_arg2)

/-- The hidden layer before and after the squared ReLU. -/
def before : FVec Ideal S8192x4096 .f32 := fun y => Mlp3.linear (argH m c) (argW m c) (argB m c) (y 0) (y 1)
def after : FVec Ideal S8192x4096 .bf16 := fun y => Mlp3.hidden (argH m c) (argW m c) (argB m c) (y 0) (y 1)

theorem blk0_at (t : Fin cfg0.N) (i k : Fin 1024) :
    (iblk m c 0 t : Vec Ideal S1024x1024 .bf16) (ix2 i k) = argH m c (ix2 ⟨t.val / 4 * 1024 + i.val, by have := t_lt t; omega⟩ k) := by
  have h : (iblk m c 0 t : Vec Ideal S1024x1024 .bf16) (ix2 i k)
      = (Gen.V m c main_v0 : FVec Ideal S8192x1024 .bf16) (ix2 ⟨t.val / 4 * 1024 + i.val, by have := t_lt t; omega⟩ k) := by
    blk_simp [iblk]
    refine congrArg (Gen.V m c main_v0 : FVec Ideal S8192x1024 .bf16) ?_
    blk_ext [e0 t]
  rw [h]
  after_reads_at

theorem blk1_at (t : Fin cfg0.N) (k j : Fin 1024) :
    (iblk m c 1 t : Vec Ideal S1024x1024 .bf16) (ix2 k j) = argW m c (ix2 k ⟨t.val % 4 * 1024 + j.val, by omega⟩) := by
  have h : (iblk m c 1 t : Vec Ideal S1024x1024 .bf16) (ix2 k j)
      = (Gen.V m c main_v1 : FVec Ideal S1024x4096 .bf16) (ix2 k ⟨t.val % 4 * 1024 + j.val, by omega⟩) := by
    blk_simp [iblk]
    refine congrArg (Gen.V m c main_v1 : FVec Ideal S1024x4096 .bf16) ?_
    blk_ext [e1 t]
  rw [h]
  after_reads_at

theorem blk2_at (t : Fin cfg0.N) (j : Fin 1024) :
    (iblk m c 2 t : Vec Ideal S1x1024 .f32) (ix2 0 j) = argB m c (ix1 ⟨t.val % 4 * 1024 + j.val, by omega⟩) := by
  have h : (iblk m c 2 t : Vec Ideal S1x1024 .f32) (ix2 0 j)
      = (Gen.V m c main_v2 : FVec Ideal S1x4096 .f32) (ix2 0 ⟨t.val % 4 * 1024 + j.val, by omega⟩) := by
    blk_simp [iblk]
    refine congrArg (Gen.V m c main_v2 : FVec Ideal S1x4096 .f32) ?_
    blk_ext [e2 t]
  rw [h]
  after_reads_at

/-- Point `t`'s block of the hidden layer. -/
theorem block_at (t : Fin cfg0.N) (i j : Fin 1024) :
    k0_pay3 (iblk m c 0 t : Vec Ideal S1024x1024 .bf16) (iblk m c 1 t : Vec Ideal S1024x1024 .bf16) (iblk m c 2 t : Vec Ideal S1x1024 .f32) (ix2 i j)
      = Mlp3.linear (argH m c) (argW m c) (argB m c) ⟨t.val / 4 * 1024 + i.val, by have := t_lt t; omega⟩ ⟨t.val % 4 * 1024 + j.val, by omega⟩ := by
  rw [pay_at]
  simp only [blk0_at, blk1_at, blk2_at]
  rfl

theorem arr3 : (dats m 0 c).arrAt 3 cfg0.N = before m c := by
  refine (dats m 0 c).arrAt_eq_of_covers 3 _ (by decide +kernel) fun t _ y => ?_
  have := t_lt t
  blk_simp
  rw [after0_3]
  frame_out
  idx_vars y
  have e : (((cfg0.win 3).blk t).view.emb (ix2 y0 y1) : S8192x4096.Idx)
      = ix2 ⟨t.val / 4 * 1024 + y0.val, by omega⟩ ⟨t.val % 4 * 1024 + y1.val, by omega⟩ := by
    blk_ext [e3 t]
  exact (block_at m c t y0 y1).trans (congrArg (before m c) e.symm)

theorem arr4 : (dats m 0 c).arrAt 4 cfg0.N = after m c := by
  refine (dats m 0 c).arrAt_eq_of_covers 4 _ (by decide +kernel) fun t _ y => ?_
  have := t_lt t
  blk_simp
  rw [after0_4]
  frame_out
  idx_vars y
  have e : (((cfg0.win 4).blk t).view.emb (ix2 y0 y1) : S8192x4096.Idx)
      = ix2 ⟨t.val / 4 * 1024 + y0.val, by omega⟩ ⟨t.val % 4 * 1024 + y1.val, by omega⟩ := by
    blk_ext [e4 t]
  refine Eq.trans ?_ (congrArg (after m c) e.symm)
  refine (square_at _ _ _ _ _).trans ?_
  rw [block_at]
  rfl

variable (ρ : Dev nD → PrngReg)

theorem kernel_run :
    θ_run (defs (F := Ideal)) (onTc (τ := τ) (main (F := Ideal))) ⟨m, fun _ => 0, ρ⟩ fun r => ∀ c : Dev nD,
      r.2.mem ((c.tc : Thread nD τ).loc main_v3_0) = before m c
      ∧ r.2.mem ((c.tc : Thread nD τ).loc main_v3_1) = after m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (arr3 m c), (h c).2.1.trans (arr4 m c), (h c).2.2⟩) (Value.run_blocks m ρ)

theorem reference_before_at (h : FVec Ideal S8192x1024 .f32) (w : FVec Ideal S1024x4096 .f32) (b : FVec Ideal S4096 .f32) (i : Fin 8192) (j : Fin 4096) :
    Cert.Reference9Ideal.Read.val_main_v3 (F := Ideal) h w b (ix2 i j) = Mlp3.linear h w b i j := by
  pointwise [Cert.Reference9Ideal.Read.val_main_v3, Cert.Reference9Ideal.Read.val_main_v0, Cert.Reference9Ideal.Read.val_main_v2, Cert.Reference9Ideal.Read.val_main_v1]
  rfl

theorem reference_after_at (h : FVec Ideal S8192x1024 .f32) (w : FVec Ideal S1024x4096 .f32) (b : FVec Ideal S4096 .f32) (i : Fin 8192) (j : Fin 4096) :
    Cert.Reference9Ideal.Read.val_main_v6 (F := Ideal) h w b (ix2 i j) = Mlp3.hidden h w b i j := by
  unfold Mlp3.hidden
  rw [← reference_before_at]
  pointwise [Cert.Reference9Ideal.Read.val_main_v6, Cert.Reference9Ideal.Read.val_main_v5, Cert.Reference9Ideal.Read.val_main_v4,
    Cert.Reference9Ideal.Read.val_main_call0_v0, Cert.Reference9Ideal.Read.val_main_call0_cst]

/-- The kernel and the reference leave the same two arrays, their arguments unchanged. -/
theorem algebraic : Cert.algebraic_Kernel9Ideal_Reference9Ideal := fun m ρ m' ρ' _ same =>
  ⟨before m, after m, kernel_run m ρ, (θ_run _ _ _).mono (fun r h c => by
    obtain ⟨e0, e1, e2⟩ := same c
    refine ⟨(h c).1.trans ?_, (h c).2.1.trans ?_, (h c).2.2⟩
    · rw [Cert.Reference9Ideal.Read.val_main_v3_eq, e0, e1, e2]
      funext y
      idx_vars y
      exact reference_before_at _ _ _ _ _
    · rw [Cert.Reference9Ideal.Read.val_main_v6_eq, e0, e1, e2]
      funext y
      idx_vars y
      exact reference_after_at _ _ _ _ _) (Cert.Reference9Ideal.Value.run (F := Ideal) m' ρ')⟩

end Cert.Mlp9

end
-- ==== Proof.Mlp10.lean ====
/-
  The MLP's output: the launch leaves the product of the squared rectified hidden units with the second weight,
  contracted over the hidden units in two steps, plus the bias.
-/
module

public import proofs.«01_k».proof.Proof.Mlp3
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ReadBack
public import Idealize.ShloMosaic.Lib.StableHlo.ReadAt
public import proofs.«01_k».proof.Defs

@[expose] public section

set_option maxRecDepth 16384

noncomputable section

namespace Cert.Mlp10

open Idealize.ShloMosaic Idealize.SL.Sem Cert.Kernel10Ideal Cert.Kernel10Ideal.Gen
open scoped BigOperators

attribute [local instance] Cert.Kernel10Ideal.Gen.facts Cert.Reference10Ideal.Gen.facts

theorem t_lt (t : Fin cfg0.N) : t.val < 16 := Nat.lt_of_lt_of_eq t.isLt N_0
theorem e0 : ∀ t : Fin cfg0.N, win0_0.index t = ![t.val / 2, t.val % 2] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val / 2, 0] := (by decide +kernel : ∀ t : Fin grid0.N, _)

/-- One point's product at an element. -/
theorem pay_at (a : Vec Ideal S1024x2048 .bf16) (b : Vec Ideal S2048x1024 .bf16) (i j : Fin 1024) :
    k0_pay1 a b (ix2 i j) = ∑ r, a (ix2 i r) * b (ix2 r j) := by
  pointwise [k0_pay1]

variable (m : (ℓ : Loc nD τ sig) → Buf (Elt Ideal) ℓ) (c : Dev nD)

/-- The hidden units, the second weight and its bias. -/
abbrev argR : Fin 8192 → Fin 4096 → EReal :=
  Mlp3.hidden (m (c, Proc.devRef .tc main_arg0)) (m (c, Proc.devRef .tc main_arg1)) (m (c, Proc.devRef .tc main_arg2))
abbrev argW : FVec Ideal S4096x1024 .f32 := m (c, Proc.devRef .tc main_arg3)
abbrev argB : FVec Ideal S1024 .f32 := m (c, Proc.devRef .tc main_arg4)

/-- The MLP's output. -/
def result : FVec Ideal S8192x1024 .f32 := fun y => (∑ l : Fin 4096, argR m c (y 0) l * argW m c (ix2 l (y 1))) + argB m c (ix1 (y 1))

theorem hidden_at (l : Fin 8192) (i : Fin 4096) :
    (Gen.V m c main_v6 : FVec Ideal S8192x4096 .bf16) (ix2 l i) = argR m c l i := by
  after_reads_at
  rfl

theorem blk0_at (t : Fin cfg0.N) (i : Fin 1024) (r : Fin 2048) :
    (iblk m c 0 t : Vec Ideal S1024x2048 .bf16) (ix2 i r)
      = argR m c ⟨t.val / 2 * 1024 + i.val, by have := t_lt t; omega⟩ ⟨t.val % 2 * 2048 + r.val, by omega⟩ := by
  rw [← hidden_at]
  blk_simp [iblk]
  refine congrArg (Gen.V m c main_v6 : FVec Ideal S8192x4096 .bf16) ?_
  blk_ext [e0 t]

theorem blk1_at (t : Fin cfg0.N) (r : Fin 2048) (j : Fin 1024) :
    (iblk m c 1 t : Vec Ideal S2048x1024 .bf16) (ix2 r j) = argW m c (ix2 ⟨t.val % 2 * 2048 + r.val, by omega⟩ j) := by
  have h : (iblk m c 1 t : Vec Ideal S2048x1024 .bf16) (ix2 r j)
      = (Gen.V m c main_v7 : FVec Ideal S4096x1024 .bf16) (ix2 ⟨t.val % 2 * 2048 + r.val, by omega⟩ j) := by
    blk_simp [iblk]
    refine congrArg (Gen.V m c main_v7 : FVec Ideal S4096x1024 .bf16) ?_
    blk_ext [e1 t]
  rw [h]
  after_reads_at

theorem blk2_at (t : Fin cfg0.N) (j : Fin 1024) : (iblk m c 2 t : Vec Ideal S1x1024 .f32) (ix2 0 j) = argB m c (ix1 j) := by
  have h : (iblk m c 2 t : Vec Ideal S1x1024 .f32) (ix2 0 j) = (Gen.V m c main_v8 : FVec Ideal S1x1024 .f32) (ix2 0 j) := by
    blk_simp [iblk]
    refine congrArg (Gen.V m c main_v8 : FVec Ideal S1x1024 .f32) ?_
    blk_ext [e2 t]
  rw [h]
  after_reads_at

/-- The product of point `t`'s blocks. -/
abbrev prod (t : Fin cfg0.N) : FVec Ideal S1024x1024 .f32 :=
  k0_pay1 (iblk m c 0 t : Vec Ideal S1024x2048 .bf16) (iblk m c 1 t : Vec Ideal S2048x1024 .bf16)

theorem first (t : Fin cfg0.N) (h : t.val % 2 = 0) (y : S1024x1024.Idx) :
    (outsAt0 m c t.val t.isLt).2 y = prod m c t y := by
  rw [outsAt0_A m c t h (by omega) (by omega)]
  frame_out
  idx_vars y
  pointwise [k0_pay2]

theorem next (t : Fin cfg0.N) (h : ¬t.val % 2 = 0) (y : S1024x1024.Idx) :
    (outsAt0 m c t.val t.isLt).2 y = (outsAt0 m c (t.val - 1) (Nat.lt_of_le_of_lt (Nat.sub_le _ _) t.isLt)).2 y + prod m c t y := by
  rw [outsAt0_B m c t h (by omega) (by omega)]
  frame_out
  simp only [read_unread_whole]
  idx_vars y
  pointwise [k0_pay3]

/-- The last point of a run writes the sum with the bias added. -/
theorem written (t : Fin cfg0.N) (h : t.val % 2 = 1) (i j : Fin 1024) :
    (outsAt0 m c t.val t.isLt).1 (ix2 i j) = (outsAt0 m c t.val t.isLt).2 (ix2 i j) + argB m c (ix1 j) := by
  rw [outsAt0_B m c t (by omega) h h, ← blk2_at m c t]
  frame_out
  simp only [read_unread_whole]
  pointwise [k0_pay4]

theorem arr : (dats m 0 c).arrAt 3 cfg0.N = result m c := by
  refine (dats m 0 c).arrAt_eq_of_covers 3 _ (by decide +kernel) fun t hf y => ?_
  have ht : t.val % 2 = 1 := (flush0_3 t).mp hf
  have := t_lt t
  blk_simp
  rw [after0_3]
  idx_vars y
  have e : (((cfg0.win 3).blk t).view.emb (ix2 y0 y1) : S8192x1024.Idx) = ix2 ⟨t.val / 2 * 1024 + y0.val, by omega⟩ y1 := by
    blk_ext [e3 t]
  refine Eq.trans ?_ (congrArg (result m c) e.symm)
  refine (written m c t ht y0 y1).trans (congrArg (· + argB m c (ix1 y1)) ?_)
  refine Blocks.sum_of_run (J := 2) (f := fun n h => (outsAt0 m c n h).2 (ix2 y0 y1)) _
    (fun t h => (first m c t h _).trans (pay_at _ _ _ _)) (fun t h => (next m c t h _).trans (congrArg _ (pay_at _ _ _ _))) t ht
    fun s k hs hl => ?_
  rw [blk0_at, blk1_at]
  congr 3 <;> congr 1 <;> dsimp only <;> omega

variable (ρ : Dev nD → PrngReg)

theorem kernel_run :
    θ_run (defs (F := Ideal)) (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (arr m c), (h c).2⟩) (Value.run_blocks m ρ)

theorem reference_hidden_at (h : FVec Ideal S8192x1024 .f32) (w : FVec Ideal S1024x4096 .f32) (b : FVec Ideal S4096 .f32) (l : Fin 8192) (i : Fin 4096) :
    Cert.Reference10Ideal.Read.val_main_v5 (F := Ideal) h w b (ix2 l i) = Mlp3.hidden h w b l i :=
  Mlp3.reference_hidden_at h w b l i

theorem reference_at (h : FVec Ideal S8192x1024 .f32) (w : FVec Ideal S1024x4096 .f32) (b : FVec Ideal S4096 .f32) (w2 : FVec Ideal S4096x1024 .f32)
    (b2 : FVec Ideal S1024 .f32) (i : Fin 8192) (j : Fin 1024) :
    Cert.Reference10Ideal.Read.val_main_v9 (F := Ideal) h w b w2 b2 (ix2 i j) = (∑ l : Fin 4096, Mlp3.hidden h w b i l * w2 (ix2 l j)) + b2 (ix1 j) := by
  simp only [← reference_hidden_at]
  pointwise [Cert.Reference10Ideal.Read.val_main_v9, Cert.Reference10Ideal.Read.val_main_v8, Cert.Reference10Ideal.Read.val_main_v7, Cert.Reference10Ideal.Read.val_main_v6]

/-- The kernel and the reference leave the same output, their arguments unchanged. -/
theorem algebraic : Cert.algebraic_Kernel10Ideal_Reference10Ideal := fun m ρ m' ρ' _ same =>
  ⟨result m, kernel_run m ρ, (θ_run _ _ _).mono (fun r h c => by
    obtain ⟨e0, e1, e2, e3, e4⟩ := same c
    refine ⟨(h c).1.trans ?_, (h c).2⟩
    rw [Cert.Reference10Ideal.Read.val_main_v9_eq, e0, e1, e2, e3, e4]
    funext y
    idx_vars y
    exact reference_at _ _ _ _ _ _ _) (Cert.Reference10Ideal.Value.run (F := Ideal) m' ρ')⟩

end Cert.Mlp10

end
-- ==== Proof.Mix11.lean ====
/-
  The product after the branches are merged. Each point takes its rows of the merged branches, the whole weight and the
  whole contraction, so its block of the result is final.
-/
module

public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ReadBack
public import Idealize.ShloMosaic.Lib.Pipeline.ValueKit
public import Idealize.ShloMosaic.Lib.StableHlo.ReadAt
public import proofs.«01_k».proof.Defs

@[expose] public section

set_option maxRecDepth 16384

noncomputable section

namespace Cert.Mix11

open Idealize.ShloMosaic Idealize.SL.Sem Cert.Kernel11Ideal Cert.Kernel11Ideal.Gen
open scoped BigOperators

attribute [local instance] Cert.Kernel11Ideal.Gen.facts Cert.Reference11Ideal.Gen.facts

theorem t_lt (t : Fin cfg0.N) : t.val < 8 := Nat.lt_of_lt_of_eq t.isLt N_0
theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

variable (m : (ℓ : Loc nD τ sig) → Buf (Elt Ideal) ℓ) (c : Dev nD)

/-- The merged branches and the weight. -/
abbrev argY : FVec Ideal S8192x1024 .f32 := m (c, Proc.devRef .tc main_arg0)
abbrev argW : FVec Ideal S1024x1024 .f32 := m (c, Proc.devRef .tc main_arg1)

def result : FVec Ideal S8192x1024 .f32 := fun y => ∑ l : Fin 1024, argY m c (ix2 (y 0) l) * argW m c (ix2 l (y 1))

theorem blk0_at (t : Fin cfg0.N) (i l : Fin 1024) :
    (iblk m c 0 t : Vec Ideal S1024x1024 .bf16) (ix2 i l) = argY m c (ix2 ⟨t.val * 1024 + i.val, by have := t_lt t; omega⟩ l) := by
  have h : (iblk m c 0 t : Vec Ideal S1024x1024 .bf16) (ix2 i l)
      = (Gen.V m c main_v0 : FVec Ideal S8192x1024 .bf16) (ix2 ⟨t.val * 1024 + i.val, by have := t_lt t; omega⟩ l) := by
    blk_simp [iblk]
    refine congrArg (Gen.V m c main_v0 : FVec Ideal S8192x1024 .bf16) ?_
    blk_ext [e0 t]
  rw [h]
  after_reads_at

theorem blk1_at (t : Fin cfg0.N) (l j : Fin 1024) :
    (iblk m c 1 t : Vec Ideal S1024x1024 .bf16) (ix2 l j) = argW m c (ix2 l j) := by
  have h : (iblk m c 1 t : Vec Ideal S1024x1024 .bf16) (ix2 l j) = (Gen.V m c main_v1 : FVec Ideal S1024x1024 .bf16) (ix2 l j) := by
    blk_simp [iblk]
    refine congrArg (Gen.V m c main_v1 : FVec Ideal S1024x1024 .bf16) ?_
    blk_ext [e1 t]
  rw [h]
  after_reads_at

/-- Point `t`'s block of the product. -/
theorem block_at (t : Fin cfg0.N) (i j : Fin 1024) :
    k0_pay1 (iblk m c 0 t : Vec Ideal S1024x1024 .bf16) (iblk m c 1 t : Vec Ideal S1024x1024 .bf16) (ix2 i j)
      = ∑ l, argY m c (ix2 ⟨t.val * 1024 + i.val, by have := t_lt t; omega⟩ l) * argW m c (ix2 l j) := by
  pointwise [k0_pay1]
  simp only [blk0_at, blk1_at]

theorem arr : (dats m 0 c).arrAt 2 cfg0.N = result m c := by
  refine (dats m 0 c).arrAt_eq_of_covers 2 _ (by decide +kernel) fun t _ y => ?_
  have := t_lt t
  blk_simp
  rw [after0_2]
  frame_out
  idx_vars y
  have e : (((cfg0.win 2).blk t).view.emb (ix2 y0 y1) : S8192x1024.Idx) = ix2 ⟨t.val * 1024 + y0.val, by omega⟩ y1 := by
    blk_ext [e2 t]
  exact (block_at m c t y0 y1).trans (congrArg (result m c) e.symm)

variable (ρ : Dev nD → PrngReg)

theorem kernel_run :
    θ_run (defs (F := Ideal)) (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (arr m c), (h c).2⟩) (Value.run_blocks m ρ)

theorem reference_at (y : FVec Ideal S8192x1024 .f32) (w : FVec Ideal S1024x1024 .f32) (i : Fin 8192) (j : Fin 1024) :
    Cert.Reference11Ideal.Read.val_main_v0 (F := Ideal) y w (ix2 i j) = ∑ l : Fin 1024, y (ix2 i l) * w (ix2 l j) := by
  pointwise [Cert.Reference11Ideal.Read.val_main_v0]

/-- The kernel and the reference leave the same product, their arguments unchanged. -/
theorem algebraic : Cert.algebraic_Kernel11Ideal_Reference11Ideal := fun m ρ m' ρ' _ same =>
  ⟨result m, kernel_run m ρ, (θ_run _ _ _).mono (fun r h c => by
    obtain ⟨e0, e1⟩ := same c
    refine ⟨(h c).1.trans ?_, (h c).2⟩
    rw [Cert.Reference11Ideal.Read.val_main_v0_eq, e0, e1]
    funext y
    idx_vars y
    exact reference_at _ _ _ _) (Cert.Reference11Ideal.Value.run (F := Ideal) m' ρ')⟩

end Cert.Mix11

end
-- ==== Proof.Mix12.lean ====
/-
  The gradient of the weight the merged branches are multiplied with: the branches times the gradient of the product's
  result, contracted over the rows of the sequence. The result is one block, and four points add a quarter of the rows each.
-/
module

public import proofs.«01_k».proof.Proof.Blocks
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ReadBack
public import Idealize.ShloMosaic.Lib.StableHlo.ReadAt
public import proofs.«01_k».proof.Defs

@[expose] public section

set_option maxRecDepth 16384

noncomputable section

namespace Cert.Mix12

open Idealize.ShloMosaic Idealize.SL.Sem Cert.Kernel12Ideal Cert.Kernel12Ideal.Gen
open scoped BigOperators

attribute [local instance] Cert.Kernel12Ideal.Gen.facts Cert.Reference12Ideal.Gen.facts

theorem t_lt (t : Fin cfg0.N) : t.val < 4 := Nat.lt_of_lt_of_eq t.isLt N_0
theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)

/-- One point's product at an element. -/
theorem pay_at (a b : Vec Ideal S2048x1024 .bf16) (i j : Fin 1024) :
    k0_pay1 a b (ix2 i j) = ∑ r, a (ix2 r i) * b (ix2 r j) := by
  pointwise [k0_pay1]

variable (m : (ℓ : Loc nD τ sig) → Buf (Elt Ideal) ℓ) (c : Dev nD)

/-- The merged branches and the gradient of the product's result. -/
abbrev argY : FVec Ideal S8192x1024 .f32 := m (c, Proc.devRef .tc main_arg0)
abbrev argZ : FVec Ideal S8192x1024 .f32 := m (c, Proc.devRef .tc main_arg2)

/-- The gradient of the weight. -/
def result : FVec Ideal S1024x1024 .f32 := fun y => ∑ l : Fin 8192, argY m c (ix2 l (y 0)) * argZ m c (ix2 l (y 1))

theorem blk0_at (t : Fin cfg0.N) (r : Fin 2048) (i : Fin 1024) :
    (iblk m c 0 t : Vec Ideal S2048x1024 .bf16) (ix2 r i) = argY m c (ix2 ⟨t.val * 2048 + r.val, by have := t_lt t; omega⟩ i) := by
  have h : (iblk m c 0 t : Vec Ideal S2048x1024 .bf16) (ix2 r i)
      = (Gen.V m c main_v0 : FVec Ideal S8192x1024 .bf16) (ix2 ⟨t.val * 2048 + r.val, by have := t_lt t; omega⟩ i) := by
    blk_simp [iblk]
    refine congrArg (Gen.V m c main_v0 : FVec Ideal S8192x1024 .bf16) ?_
    blk_ext [e0 t]
  rw [h]
  after_reads_at

theorem blk1_at (t : Fin cfg0.N) (r : Fin 2048) (j : Fin 1024) :
    (iblk m c 1 t : Vec Ideal S2048x1024 .bf16) (ix2 r j) = argZ m c (ix2 ⟨t.val * 2048 + r.val, by have := t_lt t; omega⟩ j) := by
  have h : (iblk m c 1 t : Vec Ideal S2048x1024 .bf16) (ix2 r j)
      = (Gen.V m c main_v1 : FVec Ideal S8192x1024 .bf16) (ix2 ⟨t.val * 2048 + r.val, by have := t_lt t; omega⟩ j) := by
    blk_simp [iblk]
    refine congrArg (Gen.V m c main_v1 : FVec Ideal S8192x1024 .bf16) ?_
    blk_ext [e1 t]
  rw [h]
  after_reads_at

/-- The product of point `t`'s blocks. -/
abbrev prod (t : Fin cfg0.N) : FVec Ideal S1024x1024 .f32 :=
  k0_pay1 (iblk m c 0 t : Vec Ideal S2048x1024 .bf16) (iblk m c 1 t : Vec Ideal S2048x1024 .bf16)

theorem first (t : Fin cfg0.N) (h : t.val % 4 = 0) (y : S1024x1024.Idx) :
    (outsAt0 m c t.val t.isLt).2 y = prod m c t y := by
  have := t_lt t
  rw [outsAt0_A m c t h (by omega) (by omega)]
  frame_out
  idx_vars y
  pointwise [k0_pay2]

theorem next (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + prod m c t y := by
  by_cases h2 : t.val % 4 = 3
  · rw [outsAt0_C m c t h (by omega) h2]
    frame_out
    simp only [read_unread_whole]
    idx_vars y
    pointwise [k0_pay3]
  · rw [outsAt0_B m c t h (by omega) h2]
    frame_out
    simp only [read_unread_whole]
    idx_vars y
    pointwise [k0_pay3]

theorem written (t : Fin cfg0.N) (h : t.val % 4 = 3) : (outsAt0 m c t.val t.isLt).1 = (outsAt0 m c t.val t.isLt).2 := by
  rw [outsAt0_C m c t (by omega) (by omega) h]
  frame_out

theorem arr : (dats m 0 c).arrAt 2 cfg0.N = result m c := by
  refine (dats m 0 c).arrAt_eq_of_covers 2 _ (by decide +kernel) fun t hf y => ?_
  have ht : t.val % 4 = 3 := (flush0_2 t).mp hf
  have := t_lt t
  blk_simp
  rw [after0_2, written m c t ht]
  idx_vars y
  have e : (((cfg0.win 2).blk t).view.emb (ix2 y0 y1) : S1024x1024.Idx) = ix2 y0 y1 := by
    blk_ext [e2 t]
  refine Eq.trans ?_ (congrArg (result m c) e.symm)
  refine Blocks.sum_of_run (J := 4) (f := fun n h => (outsAt0 m c n h).2 (ix2 y0 y1)) _
    (fun t h => (first m c t h _).trans (pay_at _ _ _ _)) (fun t h => (next m c t h _).trans (congrArg _ (pay_at _ _ _ _))) t ht
    fun s k hs hl => ?_
  rw [blk0_at, blk1_at]
  congr 3 <;> congr 1 <;> dsimp only <;> omega

variable (ρ : Dev nD → PrngReg)

theorem kernel_run :
    θ_run (defs (F := Ideal)) (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (arr m c), (h c).2⟩) (Value.run_blocks m ρ)

/-- The reference's gradient at an element: the other order of the factors. -/
theorem reference_at (y z : FVec Ideal S8192x1024 .f32) (i j : Fin 1024) :
    Cert.Reference12Ideal.Read.val_main_v2 (F := Ideal) y z (ix2 i j) = ∑ l : Fin 8192, z (ix2 l j) * y (ix2 l i) := by
  pointwise [Cert.Reference12Ideal.Read.val_main_v2, Cert.Reference12Ideal.Read.val_main_v1]

/-- The kernel and the reference leave the same gradient, their arguments unchanged. -/
theorem algebraic : Cert.algebraic_Kernel12Ideal_Reference12Ideal := fun m ρ m' ρ' _ same =>
  ⟨result m, kernel_run m ρ, (θ_run _ _ _).mono (fun r h c => by
    obtain ⟨e0, _, e2⟩ := same c
    refine ⟨(h c).1.trans ?_, (h c).2⟩
    rw [Cert.Reference12Ideal.Read.val_main_v2_eq, e0, e2]
    funext y
    idx_vars y
    exact (reference_at _ _ _ _).trans (Finset.sum_congr rfl fun l _ => mul_comm _ _)) (Cert.Reference12Ideal.Value.run (F := Ideal) m' ρ')⟩

end Cert.Mix12

end
-- ==== Proof.Mix13.lean ====
/-
  The gradient at the merged branches: the gradient of their product's result times the weight, contracted over the
  result's columns. Each point takes its rows of the gradient and the whole weight, as in Mix11.lean, the weight here
  by its rows.
-/
module

public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ReadBack
public import Idealize.ShloMosaic.Lib.Pipeline.ValueKit
public import Idealize.ShloMosaic.Lib.StableHlo.ReadAt
public import proofs.«01_k».proof.Defs

@[expose] public section

set_option maxRecDepth 16384

noncomputable section

namespace Cert.Mix13

open Idealize.ShloMosaic Idealize.SL.Sem Cert.Kernel13Ideal Cert.Kernel13Ideal.Gen
open scoped BigOperators

attribute [local instance] Cert.Kernel13Ideal.Gen.facts Cert.Reference13Ideal.Gen.facts

theorem t_lt (t : Fin cfg0.N) : t.val < 8 := Nat.lt_of_lt_of_eq t.isLt N_0
theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

variable (m : (ℓ : Loc nD τ sig) → Buf (Elt Ideal) ℓ) (c : Dev nD)

/-- The weight and the gradient of the product's result. -/
abbrev argW : FVec Ideal S1024x1024 .f32 := m (c, Proc.devRef .tc main_arg1)
abbrev argZ : FVec Ideal S8192x1024 .f32 := m (c, Proc.devRef .tc main_arg2)

def result : FVec Ideal S8192x1024 .f32 := fun y => ∑ l : Fin 1024, argZ m c (ix2 (y 0) l) * argW m c (ix2 (y 1) l)

theorem blk0_at (t : Fin cfg0.N) (i l : Fin 1024) :
    (iblk m c 0 t : Vec Ideal S1024x1024 .bf16) (ix2 i l) = argZ m c (ix2 ⟨t.val * 1024 + i.val, by have := t_lt t; omega⟩ l) := by
  have h : (iblk m c 0 t : Vec Ideal S1024x1024 .bf16) (ix2 i l)
      = (Gen.V m c main_v0 : FVec Ideal S8192x1024 .bf16) (ix2 ⟨t.val * 1024 + i.val, by have := t_lt t; omega⟩ l) := by
    blk_simp [iblk]
    refine congrArg (Gen.V m c main_v0 : FVec Ideal S8192x1024 .bf16) ?_
    blk_ext [e0 t]
  rw [h]
  after_reads_at

theorem blk1_at (t : Fin cfg0.N) (j l : Fin 1024) :
    (iblk m c 1 t : Vec Ideal S1024x1024 .bf16) (ix2 j l) = argW m c (ix2 j l) := by
  have h : (iblk m c 1 t : Vec Ideal S1024x1024 .bf16) (ix2 j l) = (Gen.V m c main_v1 : FVec Ideal S1024x1024 .bf16) (ix2 j l) := by
    blk_simp [iblk]
    refine congrArg (Gen.V m c main_v1 : FVec Ideal S1024x1024 .bf16) ?_
    blk_ext [e1 t]
  rw [h]
  after_reads_at

/-- Point `t`'s block of the gradient. -/
theorem block_at (t : Fin cfg0.N) (i j : Fin 1024) :
    k0_pay1 (iblk m c 0 t : Vec Ideal S1024x1024 .bf16) (iblk m c 1 t : Vec Ideal S1024x1024 .bf16) (ix2 i j)
      = ∑ l, argZ m c (ix2 ⟨t.val * 1024 + i.val, by have := t_lt t; omega⟩ l) * argW m c (ix2 j l) := by
  pointwise [k0_pay1]
  simp only [blk0_at, blk1_at]

theorem arr : (dats m 0 c).arrAt 2 cfg0.N = result m c := by
  refine (dats m 0 c).arrAt_eq_of_covers 2 _ (by decide +kernel) fun t _ y => ?_
  have := t_lt t
  blk_simp
  rw [after0_2]
  frame_out
  idx_vars y
  have e : (((cfg0.win 2).blk t).view.emb (ix2 y0 y1) : S8192x1024.Idx) = ix2 ⟨t.val * 1024 + y0.val, by omega⟩ y1 := by
    blk_ext [e2 t]
  exact (block_at m c t y0 y1).trans (congrArg (result m c) e.symm)

variable (ρ : Dev nD → PrngReg)

theorem kernel_run :
    θ_run (defs (F := Ideal)) (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (arr m c), (h c).2⟩) (Value.run_blocks m ρ)

theorem reference_at (w : FVec Ideal S1024x1024 .f32) (z : FVec Ideal S8192x1024 .f32) (i : Fin 8192) (j : Fin 1024) :
    Cert.Reference13Ideal.Read.val_main_v1 (F := Ideal) w z (ix2 i j) = ∑ l : Fin 1024, z (ix2 i l) * w (ix2 j l) := by
  pointwise [Cert.Reference13Ideal.Read.val_main_v1]

/-- The kernel and the reference leave the same gradient, their arguments unchanged. -/
theorem algebraic : Cert.algebraic_Kernel13Ideal_Reference13Ideal := fun m ρ m' ρ' _ same =>
  ⟨result m, kernel_run m ρ, (θ_run _ _ _).mono (fun r h c => by
    obtain ⟨_, e1, e2⟩ := same c
    refine ⟨(h c).1.trans ?_, (h c).2⟩
    rw [Cert.Reference13Ideal.Read.val_main_v1_eq, e1, e2]
    funext y
    idx_vars y
    exact reference_at _ _ _ _) (Cert.Reference13Ideal.Value.run (F := Ideal) m' ρ')⟩

end Cert.Mix13

end
-- ==== Proof.Mix14.lean ====
/-
  The gradient at a branch's output: the gradient of the branch's product times the branch's weight, contracted over the
  product's columns. Each point takes its rows of the gradient and the whole weight, 512 rows of it.
-/
module

public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ReadBack
public import Idealize.ShloMosaic.Lib.Pipeline.ValueKit
public import Idealize.ShloMosaic.Lib.StableHlo.ReadAt
public import proofs.«01_k».proof.Defs

@[expose] public section

set_option maxRecDepth 16384

noncomputable section

namespace Cert.Mix14

open Idealize.ShloMosaic Idealize.SL.Sem Cert.Kernel14Ideal Cert.Kernel14Ideal.Gen
open scoped BigOperators

attribute [local instance] Cert.Kernel14Ideal.Gen.facts Cert.Reference14Ideal.Gen.facts

theorem t_lt (t : Fin cfg0.N) : t.val < 8 := Nat.lt_of_lt_of_eq t.isLt N_0
theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

variable (m : (ℓ : Loc nD τ sig) → Buf (Elt Ideal) ℓ) (c : Dev nD)

/-- The branch's weight and the gradient of its product. -/
abbrev argW : FVec Ideal S512x1024 .f32 := m (c, Proc.devRef .tc main_arg1)
abbrev argZ : FVec Ideal S8192x1024 .f32 := m (c, Proc.devRef .tc main_arg2)

def result : FVec Ideal S8192x512 .f32 := fun y => ∑ l : Fin 1024, argZ m c (ix2 (y 0) l) * argW m c (ix2 (y 1) l)

theorem blk0_at (t : Fin cfg0.N) (i l : Fin 1024) :
    (iblk m c 0 t : Vec Ideal S1024x1024 .bf16) (ix2 i l) = argZ m c (ix2 ⟨t.val * 1024 + i.val, by have := t_lt t; omega⟩ l) := by
  have h : (iblk m c 0 t : Vec Ideal S1024x1024 .bf16) (ix2 i l)
      = (Gen.V m c main_v0 : FVec Ideal S8192x1024 .bf16) (ix2 ⟨t.val * 1024 + i.val, by have := t_lt t; omega⟩ l) := by
    blk_simp [iblk]
    refine congrArg (Gen.V m c main_v0 : FVec Ideal S8192x1024 .bf16) ?_
    blk_ext [e0 t]
  rw [h]
  after_reads_at

theorem blk1_at (t : Fin cfg0.N) (j : Fin 512) (l : Fin 1024) :
    (iblk m c 1 t : Vec Ideal S512x1024 .bf16) (ix2 j l) = argW m c (ix2 j l) := by
  have h : (iblk m c 1 t : Vec Ideal S512x1024 .bf16) (ix2 j l) = (Gen.V m c main_v1 : FVec Ideal S512x1024 .bf16) (ix2 j l) := by
    blk_simp [iblk]
    refine congrArg (Gen.V m c main_v1 : FVec Ideal S512x1024 .bf16) ?_
    blk_ext [e1 t]
  rw [h]
  after_reads_at

/-- Point `t`'s block of the gradient. -/
theorem block_at (t : Fin cfg0.N) (i : Fin 1024) (j : Fin 512) :
    k0_pay1 (iblk m c 0 t : Vec Ideal S1024x1024 .bf16) (iblk m c 1 t : Vec Ideal S512x1024 .bf16) (ix2 i j)
      = ∑ l, argZ m c (ix2 ⟨t.val * 1024 + i.val, by have := t_lt t; omega⟩ l) * argW m c (ix2 j l) := by
  pointwise [k0_pay1]
  simp only [blk0_at, blk1_at]

theorem arr : (dats m 0 c).arrAt 2 cfg0.N = result m c := by
  refine (dats m 0 c).arrAt_eq_of_covers 2 _ (by decide +kernel) fun t _ y => ?_
  have := t_lt t
  blk_simp
  rw [after0_2]
  frame_out
  idx_vars y
  have e : (((cfg0.win 2).blk t).view.emb (ix2 y0 y1) : S8192x512.Idx) = ix2 ⟨t.val * 1024 + y0.val, by omega⟩ y1 := by
    blk_ext [e2 t]
  exact (block_at m c t y0 y1).trans (congrArg (result m c) e.symm)

variable (ρ : Dev nD → PrngReg)

theorem kernel_run :
    θ_run (defs (F := Ideal)) (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (arr m c), (h c).2⟩) (Value.run_blocks m ρ)

theorem reference_at (w : FVec Ideal S512x1024 .f32) (z : FVec Ideal S8192x1024 .f32) (i : Fin 8192) (j : Fin 512) :
    Cert.Reference14Ideal.Read.val_main_v1 (F := Ideal) w z (ix2 i j) = ∑ l : Fin 1024, z (ix2 i l) * w (ix2 j l) := by
  pointwise [Cert.Reference14Ideal.Read.val_main_v1]

/-- The kernel and the reference leave the same gradient, their arguments unchanged. -/
theorem algebraic : Cert.algebraic_Kernel14Ideal_Reference14Ideal := fun m ρ m' ρ' _ same =>
  ⟨result m, kernel_run m ρ, (θ_run _ _ _).mono (fun r h c => by
    obtain ⟨_, e1, e2⟩ := same c
    refine ⟨(h c).1.trans ?_, (h c).2⟩
    rw [Cert.Reference14Ideal.Read.val_main_v1_eq, e1, e2]
    funext y
    idx_vars y
    exact reference_at _ _ _ _) (Cert.Reference14Ideal.Value.run (F := Ideal) m' ρ')⟩

end Cert.Mix14

end
-- ==== Proof.Mix15.lean ====
/-
  The gradient of a branch's weight: the branch's output times the gradient of its product, contracted over the rows of
  the sequence. The result is one block, and four points add a quarter of the rows each.
-/
module

public import proofs.«01_k».proof.Proof.Blocks
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ReadBack
public import Idealize.ShloMosaic.Lib.StableHlo.ReadAt
public import proofs.«01_k».proof.Defs

@[expose] public section

set_option maxRecDepth 16384

noncomputable section

namespace Cert.Mix15

open Idealize.ShloMosaic Idealize.SL.Sem Cert.Kernel15Ideal Cert.Kernel15Ideal.Gen
open scoped BigOperators

attribute [local instance] Cert.Kernel15Ideal.Gen.facts Cert.Reference15Ideal.Gen.facts

theorem t_lt (t : Fin cfg0.N) : t.val < 4 := Nat.lt_of_lt_of_eq t.isLt N_0
theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)

/-- One point's product at an element. -/
theorem pay_at (a : Vec Ideal S2048x512 .bf16) (b : Vec Ideal S2048x1024 .bf16) (i : Fin 512) (j : Fin 1024) :
    k0_pay1 a b (ix2 i j) = ∑ r, a (ix2 r i) * b (ix2 r j) := by
  pointwise [k0_pay1]

variable (m : (ℓ : Loc nD τ sig) → Buf (Elt Ideal) ℓ) (c : Dev nD)

/-- The branch's output and the gradient of its product. -/
abbrev argY : FVec Ideal S8192x512 .f32 := m (c, Proc.devRef .tc main_arg0)
abbrev argZ : FVec Ideal S8192x1024 .f32 := m (c, Proc.devRef .tc main_arg2)

/-- The gradient of the weight. -/
def result : FVec Ideal S512x1024 .f32 := fun y => ∑ l : Fin 8192, argY m c (ix2 l (y 0)) * argZ m c (ix2 l (y 1))

theorem blk0_at (t : Fin cfg0.N) (r : Fin 2048) (i : Fin 512) :
    (iblk m c 0 t : Vec Ideal S2048x512 .bf16) (ix2 r i) = argY m c (ix2 ⟨t.val * 2048 + r.val, by have := t_lt t; omega⟩ i) := by
  have h : (iblk m c 0 t : Vec Ideal S2048x512 .bf16) (ix2 r i)
      = (Gen.V m c main_v0 : FVec Ideal S8192x512 .bf16) (ix2 ⟨t.val * 2048 + r.val, by have := t_lt t; omega⟩ i) := by
    blk_simp [iblk]
    refine congrArg (Gen.V m c main_v0 : FVec Ideal S8192x512 .bf16) ?_
    blk_ext [e0 t]
  rw [h]
  after_reads_at

theorem blk1_at (t : Fin cfg0.N) (r : Fin 2048) (j : Fin 1024) :
    (iblk m c 1 t : Vec Ideal S2048x1024 .bf16) (ix2 r j) = argZ m c (ix2 ⟨t.val * 2048 + r.val, by have := t_lt t; omega⟩ j) := by
  have h : (iblk m c 1 t : Vec Ideal S2048x1024 .bf16) (ix2 r j)
      = (Gen.V m c main_v1 : FVec Ideal S8192x1024 .bf16) (ix2 ⟨t.val * 2048 + r.val, by have := t_lt t; omega⟩ j) := by
    blk_simp [iblk]
    refine congrArg (Gen.V m c main_v1 : FVec Ideal S8192x1024 .bf16) ?_
    blk_ext [e1 t]
  rw [h]
  after_reads_at

/-- The product of point `t`'s blocks. -/
abbrev prod (t : Fin cfg0.N) : FVec Ideal S512x1024 .f32 :=
  k0_pay1 (iblk m c 0 t : Vec Ideal S2048x512 .bf16) (iblk m c 1 t : Vec Ideal S2048x1024 .bf16)

theorem first (t : Fin cfg0.N) (h : t.val % 4 = 0) (y : S512x1024.Idx) :
    (outsAt0 m c t.val t.isLt).2 y = prod m c t y := by
  have := t_lt t
  rw [outsAt0_A m c t h (by omega) (by omega)]
  frame_out
  idx_vars y
  pointwise [k0_pay2]

theorem next (t : Fin cfg0.N) (h : ¬t.val % 4 = 0) (y : S512x1024.Idx) :
    (outsAt0 m c t.val t.isLt).2 y = (outsAt0 m c (t.val - 1) (Nat.lt_of_le_of_lt (Nat.sub_le _ _) t.isLt)).2 y + prod m c t y := by
  by_cases h2 : t.val % 4 = 3
  · rw [outsAt0_C m c t h (by omega) h2]
    frame_out
    simp only [read_unread_whole]
    idx_vars y
    pointwise [k0_pay3]
  · rw [outsAt0_B m c t h (by omega) h2]
    frame_out
    simp only [read_unread_whole]
    idx_vars y
    pointwise [k0_pay3]

theorem written (t : Fin cfg0.N) (h : t.val % 4 = 3) : (outsAt0 m c t.val t.isLt).1 = (outsAt0 m c t.val t.isLt).2 := by
  rw [outsAt0_C m c t (by omega) (by omega) h]
  frame_out

theorem arr : (dats m 0 c).arrAt 2 cfg0.N = result m c := by
  refine (dats m 0 c).arrAt_eq_of_covers 2 _ (by decide +kernel) fun t hf y => ?_
  have ht : t.val % 4 = 3 := (flush0_2 t).mp hf
  have := t_lt t
  blk_simp
  rw [after0_2, written m c t ht]
  idx_vars y
  have e : (((cfg0.win 2).blk t).view.emb (ix2 y0 y1) : S512x1024.Idx) = ix2 y0 y1 := by
    blk_ext [e2 t]
  refine Eq.trans ?_ (congrArg (result m c) e.symm)
  refine Blocks.sum_of_run (J := 4) (f := fun n h => (outsAt0 m c n h).2 (ix2 y0 y1)) _
    (fun t h => (first m c t h _).trans (pay_at _ _ _ _)) (fun t h => (next m c t h _).trans (congrArg _ (pay_at _ _ _ _))) t ht
    fun s k hs hl => ?_
  rw [blk0_at, blk1_at]
  congr 3 <;> congr 1 <;> dsimp only <;> omega

variable (ρ : Dev nD → PrngReg)

theorem kernel_run :
    θ_run (defs (F := Ideal)) (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (arr m c), (h c).2⟩) (Value.run_blocks m ρ)

/-- The reference's gradient at an element: the other order of the factors. -/
theorem reference_at (y : FVec Ideal S8192x512 .f32) (z : FVec Ideal S8192x1024 .f32) (i : Fin 512) (j : Fin 1024) :
    Cert.Reference15Ideal.Read.val_main_v2 (F := Ideal) y z (ix2 i j) = ∑ l : Fin 8192, z (ix2 l j) * y (ix2 l i) := by
  pointwise [Cert.Reference15Ideal.Read.val_main_v2, Cert.Reference15Ideal.Read.val_main_v1]

/-- The kernel and the reference leave the same gradient, their arguments unchanged. -/
theorem algebraic : Cert.algebraic_Kernel15Ideal_Reference15Ideal := fun m ρ m' ρ' _ same =>
  ⟨result m, kernel_run m ρ, (θ_run _ _ _).mono (fun r h c => by
    obtain ⟨e0, _, e2⟩ := same c
    refine ⟨(h c).1.trans ?_, (h c).2⟩
    rw [Cert.Reference15Ideal.Read.val_main_v2_eq, e0, e2]
    funext y
    idx_vars y
    exact (reference_at _ _ _ _).trans (Finset.sum_congr rfl fun l _ => mul_comm _ _)) (Cert.Reference15Ideal.Value.run (F := Ideal) m' ρ')⟩

end Cert.Mix15

end
-- ==== Proof.lean ====
/-
  The proof of `Cert.Claim` (Defs.lean).

  Frames. `KernelIdeal`'s is `Cert.KernelIdeal.Attn.frame` (Proof/Run.lean), read off the run that also gives every array
  of the launch; `Kernel`'s is the same theorem where a named constant reads as its word (Proof/Rounded.lean).
  `ReferenceIdeal`'s is the generated run read at its arguments.

  Preservation is the rule's own statement at the two named constants.

  Values. `Cert.Attn.algebraic` (Proof/Value.lean). Math.lean writes the gradients as real numbers: sums over the queries
  and keys of exponentials of the scores over their sums. RefValue.lean reads the reference as them. On the kernel's side
  HostValue.lean reads what the host prepares, BlockValue.lean one block of queries against one block of keys, Fold.lean
  the sums over the blocks, Final.lean the arrays the launch leaves and the results read off them. Finite.lean says what
  the precondition gives: the arguments' elements are reals.

  Attention forward (Kernel2). FwdStep.lean reads the body's loop as a head's maximum, sum and weighted values brought up to
  date by one block of keys at a time, FwdRun.lean the whole body and its stores. FwdValue.lean reads a step at an element,
  FwdMath.lean says what a step does over the reals, FwdHead.lean what a grid point stores; FwdRef.lean reads the
  reference, FwdFinal.lean the launch's arrays and the two programs' results. Its frames are the generated ones.

  The products of the squared-ReLU MLP (Kernel3, 4, 5, 9, 10), of the input projection (Kernel6, 7, 8) and around the
  merging of the branches (Kernel11 to 15). Frames are the generated ones. Mlp3.lean to Mlp10.lean, InProj6.lean to
  InProj8.lean and Mix11.lean to Mix15.lean read one launch each. Where the contracted axis is taken in blocks, Blocks.lean
  says that an accumulator over them ends with the contraction.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Run
public import proofs.«01_k».proof.Proof.Rounded
public import proofs.«01_k».proof.Proof.Value
public import proofs.«01_k».proof.Proof.FwdFinal
public import proofs.«01_k».proof.Proof.Mlp3
public import proofs.«01_k».proof.Proof.Mlp4
public import proofs.«01_k».proof.Proof.Mlp5
public import proofs.«01_k».proof.Proof.InProj6
public import proofs.«01_k».proof.Proof.InProj7
public import proofs.«01_k».proof.Proof.InProj8
public import proofs.«01_k».proof.Proof.Mlp9
public import proofs.«01_k».proof.Proof.Mlp10
public import proofs.«01_k».proof.Proof.Mix11
public import proofs.«01_k».proof.Proof.Mix12
public import proofs.«01_k».proof.Proof.Mix13
public import proofs.«01_k».proof.Proof.Mix14
public import proofs.«01_k».proof.Proof.Mix15
public import Idealize.ShloMosaic.Adequacy
public import Idealize.ShloMosaic.Init

@[expose] public section

noncomputable section

namespace Cert.Proof

open Idealize.ShloMosaic Idealize.SL.Sem

theorem frame_reference : Cert.quiescent_ReferenceIdeal (hReferenceIdeal := Cert.ReferenceIdeal.Gen.facts) := fun m ρ _ =>
  (θ_run _ _ _).mono (fun r h => ⟨fun c => (h c).2.2.2, sem_eq_zero_of_no_sems (by decide) r.2⟩)
    (Cert.ReferenceIdeal.Value.run (F := Ideal) m ρ)

theorem frame_kernel_ideal : Cert.quiescent_KernelIdeal (hKernelIdeal := Cert.KernelIdeal.Gen.facts) :=
  fun m ρ _ => Cert.KernelIdeal.Attn.frame m ρ

theorem preserves : Cert.preserves_Kernel_KernelIdeal :=
  ⟨IdealRules.named_const.statement Cert.KernelIdeal.κ "att_scale2" .f32 0x3E16C740#32 _ rfl,
    IdealRules.named_const.statement Cert.KernelIdeal.κ "att_scale" .f32 0x3DD105EC#32 _ rfl⟩

theorem frame_reference2 : Cert.quiescent_Reference2Ideal (hReference2Ideal := Cert.Reference2Ideal.Gen.facts) := fun m ρ _ =>
  (θ_run _ _ _).mono (fun r h => ⟨fun c => (h c).2.2.2, sem_eq_zero_of_no_sems (by decide) r.2⟩) (Cert.Reference2Ideal.Value.run (F := Ideal) m ρ)

theorem preserves2 : Cert.preserves_Kernel2_Kernel2Ideal :=
  ⟨IdealRules.named_const.statement Cert.Kernel2Ideal.κ "att_scale2" .f32 0x3E16C740#32 _ rfl,
    IdealRules.named_const.statement Cert.Kernel2Ideal.κ "log2" .f32 0x3F317218#32 _ rfl⟩

theorem frame_reference3 : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run (F := Ideal) m ρ)

theorem frame_reference4 : Cert.quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run (F := Ideal) m ρ)

theorem frame_reference5 : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run (F := Ideal) m ρ)

theorem frame_reference6 : Cert.quiescent_Reference6Ideal (hReference6Ideal := Cert.Reference6Ideal.Gen.facts) := fun m ρ _ =>
  (θ_run _ _ _).mono (fun r h => ⟨fun c => (h c).2, sem_eq_zero_of_no_sems (by decide) r.2⟩) (Cert.Reference6Ideal.Value.run (F := Ideal) m ρ)

theorem frame_reference7 : Cert.quiescent_Reference7Ideal (hReference7Ideal := Cert.Reference7Ideal.Gen.facts) := fun m ρ _ =>
  (θ_run _ _ _).mono (fun r h => ⟨fun c => (h c).2, sem_eq_zero_of_no_sems (by decide) r.2⟩) (Cert.Reference7Ideal.Value.run (F := Ideal) m ρ)

theorem frame_reference8 : Cert.quiescent_Reference8Ideal (hReference8Ideal := Cert.Reference8Ideal.Gen.facts) := fun m ρ _ =>
  (θ_run _ _ _).mono (fun r h => ⟨fun c => (h c).2, sem_eq_zero_of_no_sems (by decide) r.2⟩) (Cert.Reference8Ideal.Value.run (F := Ideal) m ρ)

theorem frame_reference9 : Cert.quiescent_Reference9Ideal (hReference9Ideal := Cert.Reference9Ideal.Gen.facts) := fun m ρ _ =>
  (θ_run _ _ _).mono (fun r h => ⟨fun c => (h c).2.2, sem_eq_zero_of_no_sems (by decide) r.2⟩) (Cert.Reference9Ideal.Value.run (F := Ideal) m ρ)

theorem frame_reference10 : Cert.quiescent_Reference10Ideal (hReference10Ideal := Cert.Reference10Ideal.Gen.facts) := fun m ρ _ =>
  (θ_run _ _ _).mono (fun r h => ⟨fun c => (h c).2, sem_eq_zero_of_no_sems (by decide) r.2⟩) (Cert.Reference10Ideal.Value.run (F := Ideal) m ρ)

theorem frame_reference11 : Cert.quiescent_Reference11Ideal (hReference11Ideal := Cert.Reference11Ideal.Gen.facts) := fun m ρ _ =>
  (θ_run _ _ _).mono (fun r h => ⟨fun c => (h c).2, sem_eq_zero_of_no_sems (by decide) r.2⟩) (Cert.Reference11Ideal.Value.run (F := Ideal) m ρ)

theorem frame_reference12 : Cert.quiescent_Reference12Ideal (hReference12Ideal := Cert.Reference12Ideal.Gen.facts) := fun m ρ _ =>
  (θ_run _ _ _).mono (fun r h => ⟨fun c => (h c).2, sem_eq_zero_of_no_sems (by decide) r.2⟩) (Cert.Reference12Ideal.Value.run (F := Ideal) m ρ)

theorem frame_reference13 : Cert.quiescent_Reference13Ideal (hReference13Ideal := Cert.Reference13Ideal.Gen.facts) := fun m ρ _ =>
  (θ_run _ _ _).mono (fun r h => ⟨fun c => (h c).2, sem_eq_zero_of_no_sems (by decide) r.2⟩) (Cert.Reference13Ideal.Value.run (F := Ideal) m ρ)

theorem frame_reference14 : Cert.quiescent_Reference14Ideal (hReference14Ideal := Cert.Reference14Ideal.Gen.facts) := fun m ρ _ =>
  (θ_run _ _ _).mono (fun r h => ⟨fun c => (h c).2, sem_eq_zero_of_no_sems (by decide) r.2⟩) (Cert.Reference14Ideal.Value.run (F := Ideal) m ρ)

theorem frame_reference15 : Cert.quiescent_Reference15Ideal (hReference15Ideal := Cert.Reference15Ideal.Gen.facts) := fun m ρ _ =>
  (θ_run _ _ _).mono (fun r h => ⟨fun c => (h c).2, sem_eq_zero_of_no_sems (by decide) r.2⟩) (Cert.Reference15Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Attn.facts_finite, Cert.Fwd.facts_finite,
  Cert.Rounded.frame, frame_kernel_ideal, fun m ρ _ => frame_kernel_ideal m ρ trivial, frame_reference,
  fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  preserves, Cert.Attn.algebraic, preserves2, Cert.Fwd.algebraic, trivial, Cert.Mlp3.algebraic, trivial, Cert.Mlp4.algebraic, trivial, Cert.Mlp5.algebraic,
  trivial, Cert.InProj6.algebraic, trivial, Cert.InProj7.algebraic, trivial, Cert.InProj8.algebraic,
  trivial, Cert.Mlp9.algebraic, trivial, Cert.Mlp10.algebraic,
  trivial, Cert.Mix11.algebraic, trivial, Cert.Mix12.algebraic, trivial, Cert.Mix13.algebraic,
  trivial, Cert.Mix14.algebraic, trivial, Cert.Mix15.algebraic⟩

end Cert.Proof

end
